-- ==== Defs.lean ====
def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Qkvz (m : (ℓ : Loc Cert.Qkvz.nD Cert.Qkvz.τ Cert.Qkvz.sig) → Buf (Elt Bits) ℓ) : Prop :=
  True

def Pre_QkvzIdeal (m : (ℓ : Loc Cert.QkvzIdeal.nD Cert.QkvzIdeal.τ Cert.QkvzIdeal.sig) → Buf (Elt Ideal) ℓ) : Prop :=
  True

def Pre_QkvzRefIdeal (m : (ℓ : Loc Cert.QkvzRefIdeal.nD Cert.QkvzRefIdeal.τ Cert.QkvzRefIdeal.sig) → Buf (Elt Ideal) ℓ) : Prop :=
  True

def Pre_GatesPool (m : (ℓ : Loc Cert.GatesPool.nD Cert.GatesPool.τ Cert.GatesPool.sig) → Buf (Elt Bits) ℓ) : Prop :=
  True

def Pre_GatesPoolIdeal (m : (ℓ : Loc Cert.GatesPoolIdeal.nD Cert.GatesPoolIdeal.τ Cert.GatesPoolIdeal.sig) → Buf (Elt Ideal) ℓ) : Prop :=
  True

def Pre_GatesPoolRefIdeal (m : (ℓ : Loc Cert.GatesPoolRefIdeal.nD Cert.GatesPoolRefIdeal.τ Cert.GatesPoolRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_ScanSample (m : (ℓ : Loc Cert.ScanSample.nD Cert.ScanSample.τ Cert.ScanSample.sig) → Buf (Elt Bits) ℓ) : Prop :=
  True

def Pre_ScanSampleIdeal (m : (ℓ : Loc Cert.ScanSampleIdeal.nD Cert.ScanSampleIdeal.τ Cert.ScanSampleIdeal.sig) → Buf (Elt Ideal) ℓ) : Prop :=
  True

def Pre_ScanSampleRefIdeal (m : (ℓ : Loc Cert.ScanSampleRefIdeal.nD Cert.ScanSampleRefIdeal.τ Cert.ScanSampleRefIdeal.sig) → Buf (Elt Ideal) ℓ) : Prop :=
  True

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1))
      ∧ r.2.sem = fun _ => 0)

def quiescent_Qkvz [hQkvz : Cert.Qkvz.Facts] : Prop :=
  ∀ (m : (ℓ : Loc Cert.Qkvz.nD Cert.Qkvz.τ Cert.Qkvz.sig) → Buf (Elt Bits) ℓ) (g : Dev Cert.Qkvz.nD → PrngReg), Pre_Qkvz m →
    θ_run (Cert.Qkvz.defs (F := Bits)) (onTc (τ := Cert.Qkvz.τ) (Cert.Qkvz.main (F := Bits))) ⟨m, fun _ => 0, g⟩ (fun r => (∀ c : Dev Cert.Qkvz.nD,
      r.2.mem ((c.tc : Thread Cert.Qkvz.nD Cert.Qkvz.τ).loc Cert.Qkvz.main_arg0) = m ((c.tc : Thread Cert.Qkvz.nD Cert.Qkvz.τ).loc Cert.Qkvz.main_arg0)
      ∧ r.2.mem ((c.tc : Thread Cert.Qkvz.nD Cert.Qkvz.τ).loc Cert.Qkvz.main_arg1) = m ((c.tc : Thread Cert.Qkvz.nD Cert.Qkvz.τ).loc Cert.Qkvz.main_arg1))
      ∧ r.2.sem = fun _ => 0)

def quiescent_QkvzIdeal [hQkvzIdeal : Cert.QkvzIdeal.Facts] : Prop :=
  ∀ (m : (ℓ : Loc Cert.QkvzIdeal.nD Cert.QkvzIdeal.τ Cert.QkvzIdeal.sig) → Buf (Elt Ideal) ℓ) (g : Dev Cert.QkvzIdeal.nD → PrngReg), Pre_QkvzIdeal m →
    θ_run (Cert.QkvzIdeal.defs (F := Ideal)) (onTc (τ := Cert.QkvzIdeal.τ) (Cert.QkvzIdeal.main (F := Ideal))) ⟨m, fun _ => 0, g⟩ (fun r => (∀ c : Dev Cert.QkvzIdeal.nD,
      r.2.mem ((c.tc : Thread Cert.QkvzIdeal.nD Cert.QkvzIdeal.τ).loc Cert.QkvzIdeal.main_arg0) = m ((c.tc : Thread Cert.QkvzIdeal.nD Cert.QkvzIdeal.τ).loc Cert.QkvzIdeal.main_arg0)
      ∧ r.2.mem ((c.tc : Thread Cert.QkvzIdeal.nD Cert.QkvzIdeal.τ).loc Cert.QkvzIdeal.main_arg1) = m ((c.tc : Thread Cert.QkvzIdeal.nD Cert.QkvzIdeal.τ).loc Cert.QkvzIdeal.main_arg1))
      ∧ r.2.sem = fun _ => 0)

def quiescent_QkvzRefIdeal [hQkvzRefIdeal : Cert.QkvzRefIdeal.Facts] : Prop :=
  ∀ (m : (ℓ : Loc Cert.QkvzRefIdeal.nD Cert.QkvzRefIdeal.τ Cert.QkvzRefIdeal.sig) → Buf (Elt Ideal) ℓ) (g : Dev Cert.QkvzRefIdeal.nD → PrngReg), Pre_QkvzRefIdeal m →
    θ_run (Cert.QkvzRefIdeal.defs (F := Ideal)) (onTc (τ := Cert.QkvzRefIdeal.τ) (Cert.QkvzRefIdeal.main (F := Ideal))) ⟨m, fun _ => 0, g⟩ (fun r => (∀ c : Dev Cert.QkvzRefIdeal.nD,
      r.2.mem ((c.tc : Thread Cert.QkvzRefIdeal.nD Cert.QkvzRefIdeal.τ).loc Cert.QkvzRefIdeal.main_arg0) = m ((c.tc : Thread Cert.QkvzRefIdeal.nD Cert.QkvzRefIdeal.τ).loc Cert.QkvzRefIdeal.main_arg0)
      ∧ r.2.mem ((c.tc : Thread Cert.QkvzRefIdeal.nD Cert.QkvzRefIdeal.τ).loc Cert.QkvzRefIdeal.main_arg1) = m ((c.tc : Thread Cert.QkvzRefIdeal.nD Cert.QkvzRefIdeal.τ).loc Cert.QkvzRefIdeal.main_arg1))
      ∧ r.2.sem = fun _ => 0)

def quiescent_GatesPool [hGatesPool : Cert.GatesPool.Facts] : Prop :=
  ∀ (m : (ℓ : Loc Cert.GatesPool.nD Cert.GatesPool.τ Cert.GatesPool.sig) → Buf (Elt Bits) ℓ) (g : Dev Cert.GatesPool.nD → PrngReg), Pre_GatesPool m →
    θ_run (Cert.GatesPool.defs (F := Bits)) (onTc (τ := Cert.GatesPool.τ) (Cert.GatesPool.main (F := Bits))) ⟨m, fun _ => 0, g⟩ (fun r => (∀ c : Dev Cert.GatesPool.nD,
      r.2.mem ((c.tc : Thread Cert.GatesPool.nD Cert.GatesPool.τ).loc Cert.GatesPool.main_arg0) = m ((c.tc : Thread Cert.GatesPool.nD Cert.GatesPool.τ).loc Cert.GatesPool.main_arg0)
      ∧ r.2.mem ((c.tc : Thread Cert.GatesPool.nD Cert.GatesPool.τ).loc Cert.GatesPool.main_arg1) = m ((c.tc : Thread Cert.GatesPool.nD Cert.GatesPool.τ).loc Cert.GatesPool.main_arg1))
      ∧ r.2.sem = fun _ => 0)

def quiescent_GatesPoolIdeal [hGatesPoolIdeal : Cert.GatesPoolIdeal.Facts] : Prop :=
  ∀ (m : (ℓ : Loc Cert.GatesPoolIdeal.nD Cert.GatesPoolIdeal.τ Cert.GatesPoolIdeal.sig) → Buf (Elt Ideal) ℓ) (g : Dev Cert.GatesPoolIdeal.nD → PrngReg), Pre_GatesPoolIdeal m →
    θ_run (Cert.GatesPoolIdeal.defs (F := Ideal)) (onTc (τ := Cert.GatesPoolIdeal.τ) (Cert.GatesPoolIdeal.main (F := Ideal))) ⟨m, fun _ => 0, g⟩ (fun r => (∀ c : Dev Cert.GatesPoolIdeal.nD,
      r.2.mem ((c.tc : Thread Cert.GatesPoolIdeal.nD Cert.GatesPoolIdeal.τ).loc Cert.GatesPoolIdeal.main_arg0) = m ((c.tc : Thread Cert.GatesPoolIdeal.nD Cert.GatesPoolIdeal.τ).loc Cert.GatesPoolIdeal.main_arg0)
      ∧ r.2.mem ((c.tc : Thread Cert.GatesPoolIdeal.nD Cert.GatesPoolIdeal.τ).loc Cert.GatesPoolIdeal.main_arg1) = m ((c.tc : Thread Cert.GatesPoolIdeal.nD Cert.GatesPoolIdeal.τ).loc Cert.GatesPoolIdeal.main_arg1))
      ∧ r.2.sem = fun _ => 0)

def quiescent_GatesPoolRefIdeal [hGatesPoolRefIdeal : Cert.GatesPoolRefIdeal.Facts] : Prop :=
  ∀ (m : (ℓ : Loc Cert.GatesPoolRefIdeal.nD Cert.GatesPoolRefIdeal.τ Cert.GatesPoolRefIdeal.sig) → Buf (Elt Ideal) ℓ) (g : Dev Cert.GatesPoolRefIdeal.nD → PrngReg), Pre_GatesPoolRefIdeal m →
    θ_run (Cert.GatesPoolRefIdeal.defs (F := Ideal)) (onTc (τ := Cert.GatesPoolRefIdeal.τ) (Cert.GatesPoolRefIdeal.main (F := Ideal))) ⟨m, fun _ => 0, g⟩ (fun r => (∀ c : Dev Cert.GatesPoolRefIdeal.nD,
      r.2.mem ((c.tc : Thread Cert.GatesPoolRefIdeal.nD Cert.GatesPoolRefIdeal.τ).loc Cert.GatesPoolRefIdeal.main_arg0) = m ((c.tc : Thread Cert.GatesPoolRefIdeal.nD Cert.GatesPoolRefIdeal.τ).loc Cert.GatesPoolRefIdeal.main_arg0)
      ∧ r.2.mem ((c.tc : Thread Cert.GatesPoolRefIdeal.nD Cert.GatesPoolRefIdeal.τ).loc Cert.GatesPoolRefIdeal.main_arg1) = m ((c.tc : Thread Cert.GatesPoolRefIdeal.nD Cert.GatesPoolRefIdeal.τ).loc Cert.GatesPoolRefIdeal.main_arg1))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5))
      ∧ r.2.sem = fun _ => 0)

def quiescent_ScanSample [hScanSample : Cert.ScanSample.Facts] : Prop :=
  ∀ (m : (ℓ : Loc Cert.ScanSample.nD Cert.ScanSample.τ Cert.ScanSample.sig) → Buf (Elt Bits) ℓ) (g : Dev Cert.ScanSample.nD → PrngReg), Pre_ScanSample m →
    θ_run (Cert.ScanSample.defs (F := Bits)) (onTc (τ := Cert.ScanSample.τ) (Cert.ScanSample.main (F := Bits))) ⟨m, fun _ => 0, g⟩ (fun r => (∀ c : Dev Cert.ScanSample.nD,
      r.2.mem ((c.tc : Thread Cert.ScanSample.nD Cert.ScanSample.τ).loc Cert.ScanSample.main_arg0) = m ((c.tc : Thread Cert.ScanSample.nD Cert.ScanSample.τ).loc Cert.ScanSample.main_arg0)
      ∧ r.2.mem ((c.tc : Thread Cert.ScanSample.nD Cert.ScanSample.τ).loc Cert.ScanSample.main_arg1) = m ((c.tc : Thread Cert.ScanSample.nD Cert.ScanSample.τ).loc Cert.ScanSample.main_arg1)
      ∧ r.2.mem ((c.tc : Thread Cert.ScanSample.nD Cert.ScanSample.τ).loc Cert.ScanSample.main_arg2) = m ((c.tc : Thread Cert.ScanSample.nD Cert.ScanSample.τ).loc Cert.ScanSample.main_arg2)
      ∧ r.2.mem ((c.tc : Thread Cert.ScanSample.nD Cert.ScanSample.τ).loc Cert.ScanSample.main_arg3) = m ((c.tc : Thread Cert.ScanSample.nD Cert.ScanSample.τ).loc Cert.ScanSample.main_arg3)
      ∧ r.2.mem ((c.tc : Thread Cert.ScanSample.nD Cert.ScanSample.τ).loc Cert.ScanSample.main_arg4) = m ((c.tc : Thread Cert.ScanSample.nD Cert.ScanSample.τ).loc Cert.ScanSample.main_arg4)
      ∧ r.2.mem ((c.tc : Thread Cert.ScanSample.nD Cert.ScanSample.τ).loc Cert.ScanSample.main_arg5) = m ((c.tc : Thread Cert.ScanSample.nD Cert.ScanSample.τ).loc Cert.ScanSample.main_arg5)
      ∧ r.2.mem ((c.tc : Thread Cert.ScanSample.nD Cert.ScanSample.τ).loc Cert.ScanSample.main_arg6) = m ((c.tc : Thread Cert.ScanSample.nD Cert.ScanSample.τ).loc Cert.ScanSample.main_arg6)
      ∧ r.2.mem ((c.tc : Thread Cert.ScanSample.nD Cert.ScanSample.τ).loc Cert.ScanSample.main_arg7) = m ((c.tc : Thread Cert.ScanSample.nD Cert.ScanSample.τ).loc Cert.ScanSample.main_arg7))
      ∧ r.2.sem = fun _ => 0)

def quiescent_ScanSampleIdeal [hScanSampleIdeal : Cert.ScanSampleIdeal.Facts] : Prop :=
  ∀ (m : (ℓ : Loc Cert.ScanSampleIdeal.nD Cert.ScanSampleIdeal.τ Cert.ScanSampleIdeal.sig) → Buf (Elt Ideal) ℓ) (g : Dev Cert.ScanSampleIdeal.nD → PrngReg), Pre_ScanSampleIdeal m →
    θ_run (Cert.ScanSampleIdeal.defs (F := Ideal)) (onTc (τ := Cert.ScanSampleIdeal.τ) (Cert.ScanSampleIdeal.main (F := Ideal))) ⟨m, fun _ => 0, g⟩ (fun r => (∀ c : Dev Cert.ScanSampleIdeal.nD,
      r.2.mem ((c.tc : Thread Cert.ScanSampleIdeal.nD Cert.ScanSampleIdeal.τ).loc Cert.ScanSampleIdeal.main_arg0) = m ((c.tc : Thread Cert.ScanSampleIdeal.nD Cert.ScanSampleIdeal.τ).loc Cert.ScanSampleIdeal.main_arg0)
      ∧ r.2.mem ((c.tc : Thread Cert.ScanSampleIdeal.nD Cert.ScanSampleIdeal.τ).loc Cert.ScanSampleIdeal.main_arg1) = m ((c.tc : Thread Cert.ScanSampleIdeal.nD Cert.ScanSampleIdeal.τ).loc Cert.ScanSampleIdeal.main_arg1)
      ∧ r.2.mem ((c.tc : Thread Cert.ScanSampleIdeal.nD Cert.ScanSampleIdeal.τ).loc Cert.ScanSampleIdeal.main_arg2) = m ((c.tc : Thread Cert.ScanSampleIdeal.nD Cert.ScanSampleIdeal.τ).loc Cert.ScanSampleIdeal.main_arg2)
      ∧ r.2.mem ((c.tc : Thread Cert.ScanSampleIdeal.nD Cert.ScanSampleIdeal.τ).loc Cert.ScanSampleIdeal.main_arg3) = m ((c.tc : Thread Cert.ScanSampleIdeal.nD Cert.ScanSampleIdeal.τ).loc Cert.ScanSampleIdeal.main_arg3)
      ∧ r.2.mem ((c.tc : Thread Cert.ScanSampleIdeal.nD Cert.ScanSampleIdeal.τ).loc Cert.ScanSampleIdeal.main_arg4) = m ((c.tc : Thread Cert.ScanSampleIdeal.nD Cert.ScanSampleIdeal.τ).loc Cert.ScanSampleIdeal.main_arg4)
      ∧ r.2.mem ((c.tc : Thread Cert.ScanSampleIdeal.nD Cert.ScanSampleIdeal.τ).loc Cert.ScanSampleIdeal.main_arg5) = m ((c.tc : Thread Cert.ScanSampleIdeal.nD Cert.ScanSampleIdeal.τ).loc Cert.ScanSampleIdeal.main_arg5)
      ∧ r.2.mem ((c.tc : Thread Cert.ScanSampleIdeal.nD Cert.ScanSampleIdeal.τ).loc Cert.ScanSampleIdeal.main_arg6) = m ((c.tc : Thread Cert.ScanSampleIdeal.nD Cert.ScanSampleIdeal.τ).loc Cert.ScanSampleIdeal.main_arg6)
      ∧ r.2.mem ((c.tc : Thread Cert.ScanSampleIdeal.nD Cert.ScanSampleIdeal.τ).loc Cert.ScanSampleIdeal.main_arg7) = m ((c.tc : Thread Cert.ScanSampleIdeal.nD Cert.ScanSampleIdeal.τ).loc Cert.ScanSampleIdeal.main_arg7))
      ∧ r.2.sem = fun _ => 0)

def quiescent_ScanSampleRefIdeal [hScanSampleRefIdeal : Cert.ScanSampleRefIdeal.Facts] : Prop :=
  ∀ (m : (ℓ : Loc Cert.ScanSampleRefIdeal.nD Cert.ScanSampleRefIdeal.τ Cert.ScanSampleRefIdeal.sig) → Buf (Elt Ideal) ℓ) (g : Dev Cert.ScanSampleRefIdeal.nD → PrngReg), Pre_ScanSampleRefIdeal m →
    θ_run (Cert.ScanSampleRefIdeal.defs (F := Ideal)) (onTc (τ := Cert.ScanSampleRefIdeal.τ) (Cert.ScanSampleRefIdeal.main (F := Ideal))) ⟨m, fun _ => 0, g⟩ (fun r => (∀ c : Dev Cert.ScanSampleRefIdeal.nD,
      r.2.mem ((c.tc : Thread Cert.ScanSampleRefIdeal.nD Cert.ScanSampleRefIdeal.τ).loc Cert.ScanSampleRefIdeal.main_arg0) = m ((c.tc : Thread Cert.ScanSampleRefIdeal.nD Cert.ScanSampleRefIdeal.τ).loc Cert.ScanSampleRefIdeal.main_arg0)
      ∧ r.2.mem ((c.tc : Thread Cert.ScanSampleRefIdeal.nD Cert.ScanSampleRefIdeal.τ).loc Cert.ScanSampleRefIdeal.main_arg1) = m ((c.tc : Thread Cert.ScanSampleRefIdeal.nD Cert.ScanSampleRefIdeal.τ).loc Cert.ScanSampleRefIdeal.main_arg1)
      ∧ r.2.mem ((c.tc : Thread Cert.ScanSampleRefIdeal.nD Cert.ScanSampleRefIdeal.τ).loc Cert.ScanSampleRefIdeal.main_arg2) = m ((c.tc : Thread Cert.ScanSampleRefIdeal.nD Cert.ScanSampleRefIdeal.τ).loc Cert.ScanSampleRefIdeal.main_arg2)
      ∧ r.2.mem ((c.tc : Thread Cert.ScanSampleRefIdeal.nD Cert.ScanSampleRefIdeal.τ).loc Cert.ScanSampleRefIdeal.main_arg3) = m ((c.tc : Thread Cert.ScanSampleRefIdeal.nD Cert.ScanSampleRefIdeal.τ).loc Cert.ScanSampleRefIdeal.main_arg3)
      ∧ r.2.mem ((c.tc : Thread Cert.ScanSampleRefIdeal.nD Cert.ScanSampleRefIdeal.τ).loc Cert.ScanSampleRefIdeal.main_arg4) = m ((c.tc : Thread Cert.ScanSampleRefIdeal.nD Cert.ScanSampleRefIdeal.τ).loc Cert.ScanSampleRefIdeal.main_arg4)
      ∧ r.2.mem ((c.tc : Thread Cert.ScanSampleRefIdeal.nD Cert.ScanSampleRefIdeal.τ).loc Cert.ScanSampleRefIdeal.main_arg5) = m ((c.tc : Thread Cert.ScanSampleRefIdeal.nD Cert.ScanSampleRefIdeal.τ).loc Cert.ScanSampleRefIdeal.main_arg5)
      ∧ r.2.mem ((c.tc : Thread Cert.ScanSampleRefIdeal.nD Cert.ScanSampleRefIdeal.τ).loc Cert.ScanSampleRefIdeal.main_arg6) = m ((c.tc : Thread Cert.ScanSampleRefIdeal.nD Cert.ScanSampleRefIdeal.τ).loc Cert.ScanSampleRefIdeal.main_arg6)
      ∧ r.2.mem ((c.tc : Thread Cert.ScanSampleRefIdeal.nD Cert.ScanSampleRefIdeal.τ).loc Cert.ScanSampleRefIdeal.main_arg7) = m ((c.tc : Thread Cert.ScanSampleRefIdeal.nD Cert.ScanSampleRefIdeal.τ).loc Cert.ScanSampleRefIdeal.main_arg7))
      ∧ r.2.sem = fun _ => 0)

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)) →
    ∃ (v0 : (c : Dev Cert.Ffn1Ideal.nD) → Buf (Elt Ideal) ((c.tc : Thread Cert.Ffn1Ideal.nD Cert.Ffn1Ideal.τ).loc Cert.Ffn1Ideal.main_v2)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v2) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v6) = v0 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1))

def preserves_Qkvz_QkvzIdeal : Prop :=
  True

def algebraic_QkvzIdeal_QkvzRefIdeal [hQkvzIdeal : Cert.QkvzIdeal.Facts] [hQkvzRefIdeal : Cert.QkvzRefIdeal.Facts] : Prop :=
  ∀ (m : (ℓ : Loc Cert.QkvzIdeal.nD Cert.QkvzIdeal.τ Cert.QkvzIdeal.sig) → Buf (Elt Ideal) ℓ) (g : Dev Cert.QkvzIdeal.nD → PrngReg)
    (m' : (ℓ : Loc Cert.QkvzRefIdeal.nD Cert.QkvzRefIdeal.τ Cert.QkvzRefIdeal.sig) → Buf (Elt Ideal) ℓ) (g' : Dev Cert.QkvzRefIdeal.nD → PrngReg), Pre_QkvzIdeal m →
    (∀ c : Dev Cert.QkvzIdeal.nD,
      m' ((c.tc : Thread Cert.QkvzRefIdeal.nD Cert.QkvzRefIdeal.τ).loc Cert.QkvzRefIdeal.main_arg0) = m ((c.tc : Thread Cert.QkvzIdeal.nD Cert.QkvzIdeal.τ).loc Cert.QkvzIdeal.main_arg0)
      ∧ m' ((c.tc : Thread Cert.QkvzRefIdeal.nD Cert.QkvzRefIdeal.τ).loc Cert.QkvzRefIdeal.main_arg1) = m ((c.tc : Thread Cert.QkvzIdeal.nD Cert.QkvzIdeal.τ).loc Cert.QkvzIdeal.main_arg1)) →
    ∃ (v0 : (c : Dev Cert.QkvzIdeal.nD) → Buf (Elt Ideal) ((c.tc : Thread Cert.QkvzIdeal.nD Cert.QkvzIdeal.τ).loc Cert.QkvzIdeal.main_v3)),
      θ_run (Cert.QkvzIdeal.defs (F := Ideal)) (onTc (τ := Cert.QkvzIdeal.τ) (Cert.QkvzIdeal.main (F := Ideal))) ⟨m, fun _ => 0, g⟩ (fun r => ∀ c : Dev Cert.QkvzIdeal.nD,
          r.2.mem ((c.tc : Thread Cert.QkvzIdeal.nD Cert.QkvzIdeal.τ).loc Cert.QkvzIdeal.main_v3) = v0 c
          ∧ r.2.mem ((c.tc : Thread Cert.QkvzIdeal.nD Cert.QkvzIdeal.τ).loc Cert.QkvzIdeal.main_arg0) = m ((c.tc : Thread Cert.QkvzIdeal.nD Cert.QkvzIdeal.τ).loc Cert.QkvzIdeal.main_arg0)
          ∧ r.2.mem ((c.tc : Thread Cert.QkvzIdeal.nD Cert.QkvzIdeal.τ).loc Cert.QkvzIdeal.main_arg1) = m ((c.tc : Thread Cert.QkvzIdeal.nD Cert.QkvzIdeal.τ).loc Cert.QkvzIdeal.main_arg1))
      ∧ θ_run (Cert.QkvzRefIdeal.defs (F := Ideal)) (onTc (τ := Cert.QkvzRefIdeal.τ) (Cert.QkvzRefIdeal.main (F := Ideal))) ⟨m', fun _ => 0, g'⟩ (fun r => ∀ c : Dev Cert.QkvzRefIdeal.nD,
          r.2.mem ((c.tc : Thread Cert.QkvzRefIdeal.nD Cert.QkvzRefIdeal.τ).loc Cert.QkvzRefIdeal.main_v2) = v0 c
          ∧ r.2.mem ((c.tc : Thread Cert.QkvzRefIdeal.nD Cert.QkvzRefIdeal.τ).loc Cert.QkvzRefIdeal.main_arg0) = m' ((c.tc : Thread Cert.QkvzRefIdeal.nD Cert.QkvzRefIdeal.τ).loc Cert.QkvzRefIdeal.main_arg0)
          ∧ r.2.mem ((c.tc : Thread Cert.QkvzRefIdeal.nD Cert.QkvzRefIdeal.τ).loc Cert.QkvzRefIdeal.main_arg1) = m' ((c.tc : Thread Cert.QkvzRefIdeal.nD Cert.QkvzRefIdeal.τ).loc Cert.QkvzRefIdeal.main_arg1))

def preserves_GatesPool_GatesPoolIdeal : Prop :=
  True

def algebraic_GatesPoolIdeal_GatesPoolRefIdeal [hGatesPoolIdeal : Cert.GatesPoolIdeal.Facts] [hGatesPoolRefIdeal : Cert.GatesPoolRefIdeal.Facts] : Prop :=
  ∀ (m : (ℓ : Loc Cert.GatesPoolIdeal.nD Cert.GatesPoolIdeal.τ Cert.GatesPoolIdeal.sig) → Buf (Elt Ideal) ℓ) (g : Dev Cert.GatesPoolIdeal.nD → PrngReg)
    (m' : (ℓ : Loc Cert.GatesPoolRefIdeal.nD Cert.GatesPoolRefIdeal.τ Cert.GatesPoolRefIdeal.sig) → Buf (Elt Ideal) ℓ) (g' : Dev Cert.GatesPoolRefIdeal.nD → PrngReg), Pre_GatesPoolIdeal m →
    (∀ c : Dev Cert.GatesPoolIdeal.nD,
      m' ((c.tc : Thread Cert.GatesPoolRefIdeal.nD Cert.GatesPoolRefIdeal.τ).loc Cert.GatesPoolRefIdeal.main_arg0) = m ((c.tc : Thread Cert.GatesPoolIdeal.nD Cert.GatesPoolIdeal.τ).loc Cert.GatesPoolIdeal.main_arg0)
      ∧ m' ((c.tc : Thread Cert.GatesPoolRefIdeal.nD Cert.GatesPoolRefIdeal.τ).loc Cert.GatesPoolRefIdeal.main_arg1) = m ((c.tc : Thread Cert.GatesPoolIdeal.nD Cert.GatesPoolIdeal.τ).loc Cert.GatesPoolIdeal.main_arg1)) →
    ∃ (v0 : (c : Dev Cert.GatesPoolIdeal.nD) → Buf (Elt Ideal) ((c.tc : Thread Cert.GatesPoolIdeal.nD Cert.GatesPoolIdeal.τ).loc Cert.GatesPoolIdeal.main_v3)),
      θ_run (Cert.GatesPoolIdeal.defs (F := Ideal)) (onTc (τ := Cert.GatesPoolIdeal.τ) (Cert.GatesPoolIdeal.main (F := Ideal))) ⟨m, fun _ => 0, g⟩ (fun r => ∀ c : Dev Cert.GatesPoolIdeal.nD,
          r.2.mem ((c.tc : Thread Cert.GatesPoolIdeal.nD Cert.GatesPoolIdeal.τ).loc Cert.GatesPoolIdeal.main_v3) = v0 c
          ∧ r.2.mem ((c.tc : Thread Cert.GatesPoolIdeal.nD Cert.GatesPoolIdeal.τ).loc Cert.GatesPoolIdeal.main_arg0) = m ((c.tc : Thread Cert.GatesPoolIdeal.nD Cert.GatesPoolIdeal.τ).loc Cert.GatesPoolIdeal.main_arg0)
          ∧ r.2.mem ((c.tc : Thread Cert.GatesPoolIdeal.nD Cert.GatesPoolIdeal.τ).loc Cert.GatesPoolIdeal.main_arg1) = m ((c.tc : Thread Cert.GatesPoolIdeal.nD Cert.GatesPoolIdeal.τ).loc Cert.GatesPoolIdeal.main_arg1))
      ∧ θ_run (Cert.GatesPoolRefIdeal.defs (F := Ideal)) (onTc (τ := Cert.GatesPoolRefIdeal.τ) (Cert.GatesPoolRefIdeal.main (F := Ideal))) ⟨m', fun _ => 0, g'⟩ (fun r => ∀ c : Dev Cert.GatesPoolRefIdeal.nD,
          r.2.mem ((c.tc : Thread Cert.GatesPoolRefIdeal.nD Cert.GatesPoolRefIdeal.τ).loc Cert.GatesPoolRefIdeal.main_v6) = v0 c
          ∧ r.2.mem ((c.tc : Thread Cert.GatesPoolRefIdeal.nD Cert.GatesPoolRefIdeal.τ).loc Cert.GatesPoolRefIdeal.main_arg0) = m' ((c.tc : Thread Cert.GatesPoolRefIdeal.nD Cert.GatesPoolRefIdeal.τ).loc Cert.GatesPoolRefIdeal.main_arg0)
          ∧ r.2.mem ((c.tc : Thread Cert.GatesPoolRefIdeal.nD Cert.GatesPoolRefIdeal.τ).loc Cert.GatesPoolRefIdeal.main_arg1) = m' ((c.tc : Thread Cert.GatesPoolRefIdeal.nD Cert.GatesPoolRefIdeal.τ).loc Cert.GatesPoolRefIdeal.main_arg1))

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)) →
    ∃ (v0 : (c : Dev Cert.ScanIdeal.nD) → Buf (Elt Ideal) ((c.tc : Thread Cert.ScanIdeal.nD Cert.ScanIdeal.τ).loc Cert.ScanIdeal.main_v25_0)) (v1 : (c : Dev Cert.ScanIdeal.nD) → Buf (Elt Ideal) ((c.tc : Thread Cert.ScanIdeal.nD Cert.ScanIdeal.τ).loc Cert.ScanIdeal.main_v25_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v25_0) = v0 c
          ∧ r.2.mem ((c.tc : Thread Cert.ScanIdeal.nD Cert.ScanIdeal.τ).loc Cert.ScanIdeal.main_v25_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v12) = v0 c
          ∧ r.2.mem ((c.tc : Thread Cert.ScanRefIdeal.nD Cert.ScanRefIdeal.τ).loc Cert.ScanRefIdeal.main_v13) = v1 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)
      ∧ m' ((c.tc : Thread Cert.Ffn2RefIdeal.nD Cert.Ffn2RefIdeal.τ).loc Cert.Ffn2RefIdeal.main_arg5) = m ((c.tc : Thread Cert.Ffn2Ideal.nD Cert.Ffn2Ideal.τ).loc Cert.Ffn2Ideal.main_arg5)) →
    ∃ (v0 : (c : Dev Cert.Ffn2Ideal.nD) → Buf (Elt Ideal) ((c.tc : Thread Cert.Ffn2Ideal.nD Cert.Ffn2Ideal.τ).loc Cert.Ffn2Ideal.main_v5_0)) (v1 : (c : Dev Cert.Ffn2Ideal.nD) → Buf (Elt Ideal) ((c.tc : Thread Cert.Ffn2Ideal.nD Cert.Ffn2Ideal.τ).loc Cert.Ffn2Ideal.main_v5_1)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v5_0) = v0 c
          ∧ r.2.mem ((c.tc : Thread Cert.Ffn2Ideal.nD Cert.Ffn2Ideal.τ).loc Cert.Ffn2Ideal.main_v5_1) = v1 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v58) = v0 c
          ∧ r.2.mem ((c.tc : Thread Cert.Ffn2RefIdeal.nD Cert.Ffn2RefIdeal.τ).loc Cert.Ffn2RefIdeal.main_v60) = v1 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4)
          ∧ r.2.mem ((c.tc : Thread Cert.Ffn2RefIdeal.nD Cert.Ffn2RefIdeal.τ).loc Cert.Ffn2RefIdeal.main_arg5) = m' ((c.tc : Thread Cert.Ffn2RefIdeal.nD Cert.Ffn2RefIdeal.τ).loc Cert.Ffn2RefIdeal.main_arg5))

def preserves_ScanSample_ScanSampleIdeal : Prop :=
  True

def algebraic_ScanSampleIdeal_ScanSampleRefIdeal [hScanSampleIdeal : Cert.ScanSampleIdeal.Facts] [hScanSampleRefIdeal : Cert.ScanSampleRefIdeal.Facts] : Prop :=
  ∀ (m : (ℓ : Loc Cert.ScanSampleIdeal.nD Cert.ScanSampleIdeal.τ Cert.ScanSampleIdeal.sig) → Buf (Elt Ideal) ℓ) (g : Dev Cert.ScanSampleIdeal.nD → PrngReg)
    (m' : (ℓ : Loc Cert.ScanSampleRefIdeal.nD Cert.ScanSampleRefIdeal.τ Cert.ScanSampleRefIdeal.sig) → Buf (Elt Ideal) ℓ) (g' : Dev Cert.ScanSampleRefIdeal.nD → PrngReg), Pre_ScanSampleIdeal m →
    (∀ c : Dev Cert.ScanSampleIdeal.nD,
      m' ((c.tc : Thread Cert.ScanSampleRefIdeal.nD Cert.ScanSampleRefIdeal.τ).loc Cert.ScanSampleRefIdeal.main_arg0) = m ((c.tc : Thread Cert.ScanSampleIdeal.nD Cert.ScanSampleIdeal.τ).loc Cert.ScanSampleIdeal.main_arg0)
      ∧ m' ((c.tc : Thread Cert.ScanSampleRefIdeal.nD Cert.ScanSampleRefIdeal.τ).loc Cert.ScanSampleRefIdeal.main_arg1) = m ((c.tc : Thread Cert.ScanSampleIdeal.nD Cert.ScanSampleIdeal.τ).loc Cert.ScanSampleIdeal.main_arg1)
      ∧ m' ((c.tc : Thread Cert.ScanSampleRefIdeal.nD Cert.ScanSampleRefIdeal.τ).loc Cert.ScanSampleRefIdeal.main_arg2) = m ((c.tc : Thread Cert.ScanSampleIdeal.nD Cert.ScanSampleIdeal.τ).loc Cert.ScanSampleIdeal.main_arg2)
      ∧ m' ((c.tc : Thread Cert.ScanSampleRefIdeal.nD Cert.ScanSampleRefIdeal.τ).loc Cert.ScanSampleRefIdeal.main_arg3) = m ((c.tc : Thread Cert.ScanSampleIdeal.nD Cert.ScanSampleIdeal.τ).loc Cert.ScanSampleIdeal.main_arg3)
      ∧ m' ((c.tc : Thread Cert.ScanSampleRefIdeal.nD Cert.ScanSampleRefIdeal.τ).loc Cert.ScanSampleRefIdeal.main_arg4) = m ((c.tc : Thread Cert.ScanSampleIdeal.nD Cert.ScanSampleIdeal.τ).loc Cert.ScanSampleIdeal.main_arg4)
      ∧ m' ((c.tc : Thread Cert.ScanSampleRefIdeal.nD Cert.ScanSampleRefIdeal.τ).loc Cert.ScanSampleRefIdeal.main_arg5) = m ((c.tc : Thread Cert.ScanSampleIdeal.nD Cert.ScanSampleIdeal.τ).loc Cert.ScanSampleIdeal.main_arg5)
      ∧ m' ((c.tc : Thread Cert.ScanSampleRefIdeal.nD Cert.ScanSampleRefIdeal.τ).loc Cert.ScanSampleRefIdeal.main_arg6) = m ((c.tc : Thread Cert.ScanSampleIdeal.nD Cert.ScanSampleIdeal.τ).loc Cert.ScanSampleIdeal.main_arg6)
      ∧ m' ((c.tc : Thread Cert.ScanSampleRefIdeal.nD Cert.ScanSampleRefIdeal.τ).loc Cert.ScanSampleRefIdeal.main_arg7) = m ((c.tc : Thread Cert.ScanSampleIdeal.nD Cert.ScanSampleIdeal.τ).loc Cert.ScanSampleIdeal.main_arg7)) →
    ∃ (v0 : (c : Dev Cert.ScanSampleIdeal.nD) → Buf (Elt Ideal) ((c.tc : Thread Cert.ScanSampleIdeal.nD Cert.ScanSampleIdeal.τ).loc Cert.ScanSampleIdeal.main_v47_0)) (v1 : (c : Dev Cert.ScanSampleIdeal.nD) → Buf (Elt Ideal) ((c.tc : Thread Cert.ScanSampleIdeal.nD Cert.ScanSampleIdeal.τ).loc Cert.ScanSampleIdeal.main_v47_1)),
      θ_run (Cert.ScanSampleIdeal.defs (F := Ideal)) (onTc (τ := Cert.ScanSampleIdeal.τ) (Cert.ScanSampleIdeal.main (F := Ideal))) ⟨m, fun _ => 0, g⟩ (fun r => ∀ c : Dev Cert.ScanSampleIdeal.nD,
          r.2.mem ((c.tc : Thread Cert.ScanSampleIdeal.nD Cert.ScanSampleIdeal.τ).loc Cert.ScanSampleIdeal.main_v47_0) = v0 c
          ∧ r.2.mem ((c.tc : Thread Cert.ScanSampleIdeal.nD Cert.ScanSampleIdeal.τ).loc Cert.ScanSampleIdeal.main_v47_1) = v1 c
          ∧ r.2.mem ((c.tc : Thread Cert.ScanSampleIdeal.nD Cert.ScanSampleIdeal.τ).loc Cert.ScanSampleIdeal.main_arg0) = m ((c.tc : Thread Cert.ScanSampleIdeal.nD Cert.ScanSampleIdeal.τ).loc Cert.ScanSampleIdeal.main_arg0)
          ∧ r.2.mem ((c.tc : Thread Cert.ScanSampleIdeal.nD Cert.ScanSampleIdeal.τ).loc Cert.ScanSampleIdeal.main_arg1) = m ((c.tc : Thread Cert.ScanSampleIdeal.nD Cert.ScanSampleIdeal.τ).loc Cert.ScanSampleIdeal.main_arg1)
          ∧ r.2.mem ((c.tc : Thread Cert.ScanSampleIdeal.nD Cert.ScanSampleIdeal.τ).loc Cert.ScanSampleIdeal.main_arg2) = m ((c.tc : Thread Cert.ScanSampleIdeal.nD Cert.ScanSampleIdeal.τ).loc Cert.ScanSampleIdeal.main_arg2)
          ∧ r.2.mem ((c.tc : Thread Cert.ScanSampleIdeal.nD Cert.ScanSampleIdeal.τ).loc Cert.ScanSampleIdeal.main_arg3) = m ((c.tc : Thread Cert.ScanSampleIdeal.nD Cert.ScanSampleIdeal.τ).loc Cert.ScanSampleIdeal.main_arg3)
          ∧ r.2.mem ((c.tc : Thread Cert.ScanSampleIdeal.nD Cert.ScanSampleIdeal.τ).loc Cert.ScanSampleIdeal.main_arg4) = m ((c.tc : Thread Cert.ScanSampleIdeal.nD Cert.ScanSampleIdeal.τ).loc Cert.ScanSampleIdeal.main_arg4)
          ∧ r.2.mem ((c.tc : Thread Cert.ScanSampleIdeal.nD Cert.ScanSampleIdeal.τ).loc Cert.ScanSampleIdeal.main_arg5) = m ((c.tc : Thread Cert.ScanSampleIdeal.nD Cert.ScanSampleIdeal.τ).loc Cert.ScanSampleIdeal.main_arg5)
          ∧ r.2.mem ((c.tc : Thread Cert.ScanSampleIdeal.nD Cert.ScanSampleIdeal.τ).loc Cert.ScanSampleIdeal.main_arg6) = m ((c.tc : Thread Cert.ScanSampleIdeal.nD Cert.ScanSampleIdeal.τ).loc Cert.ScanSampleIdeal.main_arg6)
          ∧ r.2.mem ((c.tc : Thread Cert.ScanSampleIdeal.nD Cert.ScanSampleIdeal.τ).loc Cert.ScanSampleIdeal.main_arg7) = m ((c.tc : Thread Cert.ScanSampleIdeal.nD Cert.ScanSampleIdeal.τ).loc Cert.ScanSampleIdeal.main_arg7))
      ∧ θ_run (Cert.ScanSampleRefIdeal.defs (F := Ideal)) (onTc (τ := Cert.ScanSampleRefIdeal.τ) (Cert.ScanSampleRefIdeal.main (F := Ideal))) ⟨m', fun _ => 0, g'⟩ (fun r => ∀ c : Dev Cert.ScanSampleRefIdeal.nD,
          r.2.mem ((c.tc : Thread Cert.ScanSampleRefIdeal.nD Cert.ScanSampleRefIdeal.τ).loc Cert.ScanSampleRefIdeal.main_v20) = v0 c
          ∧ r.2.mem ((c.tc : Thread Cert.ScanSampleRefIdeal.nD Cert.ScanSampleRefIdeal.τ).loc Cert.ScanSampleRefIdeal.main_v17) = v1 c
          ∧ r.2.mem ((c.tc : Thread Cert.ScanSampleRefIdeal.nD Cert.ScanSampleRefIdeal.τ).loc Cert.ScanSampleRefIdeal.main_arg0) = m' ((c.tc : Thread Cert.ScanSampleRefIdeal.nD Cert.ScanSampleRefIdeal.τ).loc Cert.ScanSampleRefIdeal.main_arg0)
          ∧ r.2.mem ((c.tc : Thread Cert.ScanSampleRefIdeal.nD Cert.ScanSampleRefIdeal.τ).loc Cert.ScanSampleRefIdeal.main_arg1) = m' ((c.tc : Thread Cert.ScanSampleRefIdeal.nD Cert.ScanSampleRefIdeal.τ).loc Cert.ScanSampleRefIdeal.main_arg1)
          ∧ r.2.mem ((c.tc : Thread Cert.ScanSampleRefIdeal.nD Cert.ScanSampleRefIdeal.τ).loc Cert.ScanSampleRefIdeal.main_arg2) = m' ((c.tc : Thread Cert.ScanSampleRefIdeal.nD Cert.ScanSampleRefIdeal.τ).loc Cert.ScanSampleRefIdeal.main_arg2)
          ∧ r.2.mem ((c.tc : Thread Cert.ScanSampleRefIdeal.nD Cert.ScanSampleRefIdeal.τ).loc Cert.ScanSampleRefIdeal.main_arg3) = m' ((c.tc : Thread Cert.ScanSampleRefIdeal.nD Cert.ScanSampleRefIdeal.τ).loc Cert.ScanSampleRefIdeal.main_arg3)
          ∧ r.2.mem ((c.tc : Thread Cert.ScanSampleRefIdeal.nD Cert.ScanSampleRefIdeal.τ).loc Cert.ScanSampleRefIdeal.main_arg4) = m' ((c.tc : Thread Cert.ScanSampleRefIdeal.nD Cert.ScanSampleRefIdeal.τ).loc Cert.ScanSampleRefIdeal.main_arg4)
          ∧ r.2.mem ((c.tc : Thread Cert.ScanSampleRefIdeal.nD Cert.ScanSampleRefIdeal.τ).loc Cert.ScanSampleRefIdeal.main_arg5) = m' ((c.tc : Thread Cert.ScanSampleRefIdeal.nD Cert.ScanSampleRefIdeal.τ).loc Cert.ScanSampleRefIdeal.main_arg5)
          ∧ r.2.mem ((c.tc : Thread Cert.ScanSampleRefIdeal.nD Cert.ScanSampleRefIdeal.τ).loc Cert.ScanSampleRefIdeal.main_arg6) = m' ((c.tc : Thread Cert.ScanSampleRefIdeal.nD Cert.ScanSampleRefIdeal.τ).loc Cert.ScanSampleRefIdeal.main_arg6)
          ∧ r.2.mem ((c.tc : Thread Cert.ScanSampleRefIdeal.nD Cert.ScanSampleRefIdeal.τ).loc Cert.ScanSampleRefIdeal.main_arg7) = m' ((c.tc : Thread Cert.ScanSampleRefIdeal.nD Cert.ScanSampleRefIdeal.τ).loc Cert.ScanSampleRefIdeal.main_arg7))

def Claim : Prop :=
  ∃ (hFfn1 : Cert.Ffn1.Facts) (hFfn1Ideal : Cert.Ffn1Ideal.Facts) (hFfn1RefIdeal : Cert.Ffn1RefIdeal.Facts) (hQkvz : Cert.Qkvz.Facts) (hQkvzIdeal : Cert.QkvzIdeal.Facts) (hQkvzRefIdeal : Cert.QkvzRefIdeal.Facts) (hGatesPool : Cert.GatesPool.Facts) (hGatesPoolIdeal : Cert.GatesPoolIdeal.Facts) (hGatesPoolRefIdeal : Cert.GatesPoolRefIdeal.Facts) (hScan : Cert.Scan.Facts) (hScanIdeal : Cert.ScanIdeal.Facts) (hScanRefIdeal : Cert.ScanRefIdeal.Facts) (hFfn2 : Cert.Ffn2.Facts) (hFfn2Ideal : Cert.Ffn2Ideal.Facts) (hFfn2RefIdeal : Cert.Ffn2RefIdeal.Facts) (hScanSample : Cert.ScanSample.Facts) (hScanSampleIdeal : Cert.ScanSampleIdeal.Facts) (hScanSampleRefIdeal : Cert.ScanSampleRefIdeal.Facts),
    quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Qkvz (hQkvz := hQkvz)
    ∧ quiescent_QkvzIdeal (hQkvzIdeal := hQkvzIdeal)
    ∧ quiescent_QkvzRefIdeal (hQkvzRefIdeal := hQkvzRefIdeal)
    ∧ quiescent_GatesPool (hGatesPool := hGatesPool)
    ∧ quiescent_GatesPoolIdeal (hGatesPoolIdeal := hGatesPoolIdeal)
    ∧ quiescent_GatesPoolRefIdeal (hGatesPoolRefIdeal := hGatesPoolRefIdeal)
    ∧ quiescent_Scan (hScan := hScan)
    ∧ quiescent_ScanIdeal (hScanIdeal := hScanIdeal)
    ∧ quiescent_ScanRefIdeal (hScanRefIdeal := hScanRefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_ScanSample (hScanSample := hScanSample)
    ∧ quiescent_ScanSampleIdeal (hScanSampleIdeal := hScanSampleIdeal)
    ∧ quiescent_ScanSampleRefIdeal (hScanSampleRefIdeal := hScanSampleRefIdeal)
    ∧ preserves_Ffn1_Ffn1Ideal
    ∧ algebraic_Ffn1Ideal_Ffn1RefIdeal (hFfn1Ideal := hFfn1Ideal) (hFfn1RefIdeal := hFfn1RefIdeal)
    ∧ preserves_Qkvz_QkvzIdeal
    ∧ algebraic_QkvzIdeal_QkvzRefIdeal (hQkvzIdeal := hQkvzIdeal) (hQkvzRefIdeal := hQkvzRefIdeal)
    ∧ preserves_GatesPool_GatesPoolIdeal
    ∧ algebraic_GatesPoolIdeal_GatesPoolRefIdeal (hGatesPoolIdeal := hGatesPoolIdeal) (hGatesPoolRefIdeal := hGatesPoolRefIdeal)
    ∧ preserves_Scan_ScanIdeal
    ∧ algebraic_ScanIdeal_ScanRefIdeal (hScanIdeal := hScanIdeal) (hScanRefIdeal := hScanRefIdeal)
    ∧ preserves_Ffn2_Ffn2Ideal
    ∧ algebraic_Ffn2Ideal_Ffn2RefIdeal (hFfn2Ideal := hFfn2Ideal) (hFfn2RefIdeal := hFfn2RefIdeal)
    ∧ preserves_ScanSample_ScanSampleIdeal
    ∧ algebraic_ScanSampleIdeal_ScanSampleRefIdeal (hScanSampleIdeal := hScanSampleIdeal) (hScanSampleRefIdeal := hScanSampleRefIdeal)
-- ==== Ffn1.lean ====
abbrev S8704x2048 : Shape := ⟨2, ![8704, 2048]⟩
abbrev S1x2048x11264 : Shape := ⟨3, ![1, 2048, 11264]⟩
abbrev S2048x11264 : Shape := ⟨2, ![2048, 11264]⟩
abbrev S8704x5632 : Shape := ⟨2, ![8704, 5632]⟩
abbrev S2176x2048 : Shape := ⟨2, ![2176, 2048]⟩
abbrev S2048x512 : Shape := ⟨2, ![2048, 512]⟩
abbrev S2176x512 : Shape := ⟨2, ![2176, 512]⟩

abbrev nBuf : Space → Nat
  | .hbm => 5
  | .vmem => 10
  | .smem => 0
  | _ => 0

abbrev bufTy : (tb : Table) → Fin (tcTables nBuf tb) → BufTy
  | .hbm, ⟨0, _⟩ => ⟨S8704x2048, .f32⟩
  | .hbm, ⟨1, _⟩ => ⟨S1x2048x11264, .f32⟩
  | .hbm, ⟨2, _⟩ => ⟨S8704x2048, .bf16⟩
  | .hbm, ⟨3, _⟩ => ⟨S2048x11264, .f32⟩
  | .hbm, ⟨4, _⟩ => ⟨S8704x5632, .bf16⟩
  | .local _ .vmem, ⟨0, _⟩ => ⟨S2176x2048, .bf16⟩
  | .local _ .vmem, ⟨1, _⟩ => ⟨S2176x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2176x512, .bf16⟩
  | .local _ .vmem, ⟨7, _⟩ => ⟨S2176x512, .bf16⟩
  | .local _ .vmem, ⟨8, _⟩ => ⟨S2048x512, .bf16⟩
  | .local _ .vmem, ⟨9, _⟩ => ⟨S2048x512, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2176x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Ffn1RefIdeal.lean ====
abbrev S8704x2048 : Shape := ⟨2, ![8704, 2048]⟩
abbrev S1x2048x11264 : Shape := ⟨3, ![1, 2048, 11264]⟩
abbrev S2048x11264 : Shape := ⟨2, ![2048, 11264]⟩
abbrev S8704x11264 : Shape := ⟨2, ![8704, 11264]⟩
abbrev S8704x5632 : Shape := ⟨2, ![8704, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S1x2048x11264, .f32⟩
  | .hbm, ⟨2, _⟩ => ⟨S2048x11264, .f32⟩
  | .hbm, ⟨3, _⟩ => ⟨S8704x11264, .f32⟩
  | .hbm, ⟨4, _⟩ => ⟨S8704x5632, .f32⟩
  | .hbm, ⟨5, _⟩ => ⟨S8704x5632, .f32⟩
  | .hbm, ⟨6, _⟩ => ⟨S8704x5632, .f32⟩
  | .hbm, ⟨7, _⟩ => ⟨S8704x5632, .f32⟩
  | .hbm, ⟨8, _⟩ => ⟨S_, .f32⟩
  | .hbm, ⟨9, _⟩ => ⟨S8704x5632, .f32⟩
  | .hbm, ⟨10, _⟩ => ⟨S8704x5632, .f32⟩
  | .hbm, ⟨11, _⟩ => ⟨S_, .f32⟩
  | .hbm, ⟨12, _⟩ => ⟨S8704x5632, .f32⟩
  | .hbm, ⟨13, _⟩ => ⟨S8704x5632, .f32⟩
  | .hbm, ⟨14, _⟩ => ⟨S8704x5632, .f32⟩
  | .hbm, ⟨15, _⟩ => ⟨S8704x5632, .f32⟩
  | .hbm, ⟨16, _⟩ => ⟨S8704x5632, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Qkvz.lean ====
abbrev S8704x2048 : Shape := ⟨2, ![8704, 2048]⟩
abbrev S1x2048x9232 : Shape := ⟨3, ![1, 2048, 9232]⟩
abbrev S2048x9232 : Shape := ⟨2, ![2048, 9232]⟩
abbrev S9232x2048 : Shape := ⟨2, ![9232, 2048]⟩
abbrev S8704x4096 : Shape := ⟨2, ![8704, 4096]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8704x2048, .f32⟩
  | .hbm, ⟨1, _⟩ => ⟨S1x2048x9232, .f32⟩
  | .hbm, ⟨2, _⟩ => ⟨S8704x2048, .bf16⟩
  | .hbm, ⟨3, _⟩ => ⟨S2048x9232, .f32⟩
  | .hbm, ⟨4, _⟩ => ⟨S9232x2048, .f32⟩
  | .hbm, ⟨5, _⟩ => ⟨S8704x4096, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .f32⟩
  | .local _ .vmem, ⟨3, _⟩ => ⟨S1024x2048, .f32⟩
  | .local _ .vmem, ⟨4, _⟩ => ⟨S1088x1024, .f32⟩
  | .local _ .vmem, ⟨5, _⟩ => ⟨S1088x1024, .f32⟩
  | .local _ .vmem, ⟨6, _⟩ => ⟨S1024x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvzRefIdeal.lean ====
abbrev S8704x2048 : Shape := ⟨2, ![8704, 2048]⟩
abbrev S1x2048x9232 : Shape := ⟨3, ![1, 2048, 9232]⟩
abbrev S2048x9232 : Shape := ⟨2, ![2048, 9232]⟩
abbrev S8704x9232 : Shape := ⟨2, ![8704, 9232]⟩
abbrev S8704x4096 : Shape := ⟨2, ![8704, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S1x2048x9232, .f32⟩
  | .hbm, ⟨2, _⟩ => ⟨S2048x9232, .f32⟩
  | .hbm, ⟨3, _⟩ => ⟨S8704x9232, .f32⟩
  | .hbm, ⟨4, _⟩ => ⟨S8704x4096, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GatesPool.lean ====
abbrev S8704x2048 : Shape := ⟨2, ![8704, 2048]⟩
abbrev S1x2048x9232 : Shape := ⟨3, ![1, 2048, 9232]⟩
abbrev S2048x9232 : Shape := ⟨2, ![2048, 9232]⟩
abbrev S9232x2048 : Shape := ⟨2, ![9232, 2048]⟩
abbrev S8704x5120 : Shape := ⟨2, ![8704, 5120]⟩
abbrev S1088x2048 : Shape := ⟨2, ![1088, 2048]⟩
abbrev S1024x2048 : Shape := ⟨2, ![1024, 2048]⟩
abbrev S16x2048 : Shape := ⟨2, ![16, 2048]⟩
abbrev S1088x1024 : Shape := ⟨2, ![1088, 1024]⟩
abbrev S1008x2048 : Shape := ⟨2, ![1008, 2048]⟩

abbrev nBuf : Space → Nat
  | .hbm => 6
  | .vmem => 9
  | .smem => 0
  | _ => 0

abbrev bufTy : (tb : Table) → Fin (tcTables nBuf tb) → BufTy
  | .hbm, ⟨0, _⟩ => ⟨S8704x2048, .f32⟩
  | .hbm, ⟨1, _⟩ => ⟨S1x2048x9232, .f32⟩
  | .hbm, ⟨2, _⟩ => ⟨S8704x2048, .bf16⟩
  | .hbm, ⟨3, _⟩ => ⟨S2048x9232, .f32⟩
  | .hbm, ⟨4, _⟩ => ⟨S9232x2048, .f32⟩
  | .hbm, ⟨5, _⟩ => ⟨S8704x5120, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .f32⟩
  | .local _ .vmem, ⟨3, _⟩ => ⟨S1024x2048, .f32⟩
  | .local _ .vmem, ⟨4, _⟩ => ⟨S16x2048, .f32⟩
  | .local _ .vmem, ⟨5, _⟩ => ⟨S16x2048, .f32⟩
  | .local _ .vmem, ⟨6, _⟩ => ⟨S1088x1024, .f32⟩
  | .local _ .vmem, ⟨7, _⟩ => ⟨S1088x1024, .f32⟩
  | .local _ .vmem, ⟨8, _⟩ => ⟨S1024x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c5_i32 : BitVec 32 := 5#32
  let v1 : BitVec 32 := Scalar.remsi v0 c5_i32
  let c4_i32 : BitVec 32 := 4#32
  let v2 : BitVec 32 := Scalar.addi c4_i32 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c5_i32 : BitVec 32 := 5#32
  let v1 : BitVec 32 := Scalar.remsi v0 c5_i32
  let c1_i32_0 : BitVec 32 := 1#32
  let v2 : BitVec 32 := Scalar.addi v1 c1_i32_0
  let c1024_i32 : BitVec 32 := 1024#32
  let v3 : BitVec 32 := Scalar.muli v2 c1024_i32
  let c4096_i32 : BitVec 32 := 4096#32
  let v4 : BitVec 32 := Scalar.addi c4096_i32 v3
  let c16_i32 : BitVec 32 := 16#32
  let v5 : BitVec 32 := Scalar.divsi v4 c16_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c16_i32 c0_i32_2
  let v12 : BitVec 32 := Scalar.extui v11
  let c0_i32_3 : BitVec 32 := 0#32
  let v13 : BitVec 1 := Scalar.cmpi .slt c16_i32 c0_i32_3
  let v14 : BitVec 32 := Scalar.extui v13
  let v15 : BitVec 32 := Scalar.subi v12 v14
  let v16 : BitVec 1 := Scalar.cmpi .ne v10 v15
  let v17 : BitVec 32 := Scalar.remsi v4 c16_i32
  let c0_i32_4 : BitVec 32 := 0#32
  let v18 : BitVec 1 := Scalar.cmpi .ne v17 c0_i32_4
  let v19 : BitVec 1 := Scalar.andi v16 v18
  let c1_i32_5 : BitVec 32 := 1#32
  let v20 : BitVec 32 := Scalar.subi v5 c1_i32_5
  let v21 : BitVec 32 := Scalar.select v19 v20 v5
  let c0_i32_6 : BitVec 32 := 0#32
  let c0_i32_7 : BitVec 32 := 0#32
  ![v21.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesPoolRefIdeal.lean ====
abbrev S8704x2048 : Shape := ⟨2, ![8704, 2048]⟩
abbrev S1x2048x9232 : Shape := ⟨3, ![1, 2048, 9232]⟩
abbrev S2048x9232 : Shape := ⟨2, ![2048, 9232]⟩
abbrev S8704x9232 : Shape := ⟨2, ![8704, 9232]⟩
abbrev S8704x5120 : Shape := ⟨2, ![8704, 5120]⟩
abbrev S8704x1024 : Shape := ⟨2, ![8704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S1x2048x9232, .f32⟩
  | .hbm, ⟨2, _⟩ => ⟨S2048x9232, .f32⟩
  | .hbm, ⟨3, _⟩ => ⟨S8704x9232, .f32⟩
  | .hbm, ⟨4, _⟩ => ⟨S8704x5120, .f32⟩
  | .hbm, ⟨5, _⟩ => ⟨S8704x1024, .f32⟩
  | .hbm, ⟨6, _⟩ => ⟨S8704x2048, .f32⟩
  | .hbm, ⟨7, _⟩ => ⟨S8704x2048, .f32⟩
  | .hbm, ⟨8, _⟩ => ⟨S8704x5120, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Scan.lean ====
abbrev S4x32x8x64x64 : Shape := ⟨5, ![4, 32, 8, 64, 64]⟩
abbrev S4x32x8x64x128 : Shape := ⟨5, ![4, 32, 8, 64, 128]⟩
abbrev S4x32x8 : Shape := ⟨3, ![4, 32, 8]⟩
abbrev S4x32x8x128x64 : Shape := ⟨5, ![4, 32, 8, 128, 64]⟩
abbrev S4x32x8x192x64 : Shape := ⟨5, ![4, 32, 8, 192, 64]⟩
abbrev S1024x192x64 : Shape := ⟨3, ![1024, 192, 64]⟩
abbrev S4x32x1x8 : Shape := ⟨4, ![4, 32, 1, 8]⟩
abbrev S4x32x64x8 : Shape := ⟨4, ![4, 32, 64, 8]⟩
abbrev S8192x8 : Shape := ⟨2, ![8192, 8]⟩
abbrev S_ : Shape := ⟨0, ![]⟩
abbrev S8192x128 : Shape := ⟨2, ![8192, 128]⟩
abbrev S1024x64x64 : Shape := ⟨3, ![1024, 64, 64]⟩
abbrev S4x32x64x8x128 : Shape := ⟨5, ![4, 32, 64, 8, 128]⟩
abbrev S8192x1024 : Shape := ⟨2, ![8192, 1024]⟩
abbrev S4x256x64x64 : Shape := ⟨4, ![4, 256, 64, 64]⟩
abbrev S4x256x192x64 : Shape := ⟨4, ![4, 256, 192, 64]⟩
abbrev S4x2048x1024 : Shape := ⟨3, ![4, 2048, 1024]⟩
abbrev S4x2048x128 : Shape := ⟨3, ![4, 2048, 128]⟩
abbrev S32x128x128 : Shape := ⟨3, ![32, 128, 128]⟩
abbrev S4x16x64x64 : Shape := ⟨4, ![4, 16, 64, 64]⟩
abbrev S4x16x192x64 : Shape := ⟨4, ![4, 16, 192, 64]⟩
abbrev S4x128x1024 : Shape := ⟨3, ![4, 128, 1024]⟩
abbrev S4x128x128 : Shape := ⟨3, ![4, 128, 128]⟩
abbrev S64x64x128 : Shape := ⟨3, ![64, 64, 128]⟩
abbrev S1x64x128 : Shape := ⟨3, ![1, 64, 128]⟩
abbrev S64x128 : Shape := ⟨2, ![64, 128]⟩
abbrev S64x256 : Shape := ⟨2, ![64, 256]⟩
abbrev S1x1x64x64 : Shape := ⟨4, ![1, 1, 64, 64]⟩
abbrev S64x64 : Shape := ⟨2, ![64, 64]⟩
abbrev S128x128 : Shape := ⟨2, ![128, 128]⟩
abbrev S1x128x128 : Shape := ⟨3, ![1, 128, 128]⟩
abbrev S1x1x192x64 : Shape := ⟨4, ![1, 1, 192, 64]⟩
abbrev S192x64 : Shape := ⟨2, ![192, 64]⟩
abbrev S192x128 : Shape := ⟨2, ![192, 128]⟩
abbrev S1x1x1 : Shape := ⟨3, ![1, 1, 1]⟩
abbrev S1x1 : Shape := ⟨2, ![1, 1]⟩

abbrev nBuf : Space → Nat
  | .hbm => 36
  | .vmem => 18
  | .smem => 0
  | _ => 0

abbrev bufTy : (tb : Table) → Fin (tcTables nBuf tb) → BufTy
  | .hbm, ⟨0, _⟩ => ⟨S4x32x8x64x64, .f32⟩
  | .hbm, ⟨1, _⟩ => ⟨S4x32x8x64x128, .f32⟩
  | .hbm, ⟨2, _⟩ => ⟨S4x32x8x64x128, .f32⟩
  | .hbm, ⟨3, _⟩ => ⟨S4x32x8x64x64, .f32⟩
  | .hbm, ⟨4, _⟩ => ⟨S4x32x8x64x128, .f32⟩
  | .hbm, ⟨5, _⟩ => ⟨S4x32x8x64x128, .f32⟩
  | .hbm, ⟨6, _⟩ => ⟨S4x32x8, .f32⟩
  | .hbm, ⟨7, _⟩ => ⟨S4x32x8x128x64, .f32⟩
  | .hbm, ⟨8, _⟩ => ⟨S4x32x8x192x64, .f32⟩
  | .hbm, ⟨9, _⟩ => ⟨S1024x192x64, .f32⟩
  | .hbm, ⟨10, _⟩ => ⟨S1024x192x64, .bf16⟩
  | .hbm, ⟨11, _⟩ => ⟨S4x32x1x8, .f32⟩
  | .hbm, ⟨12, _⟩ => ⟨S4x32x64x8, .f32⟩
  | .hbm, ⟨13, _⟩ => ⟨S8192x8, .f32⟩
  | .hbm, ⟨14, _⟩ => ⟨S_, .i32⟩
  | .hbm, ⟨15, _⟩ => ⟨S_, .f32⟩
  | .hbm, ⟨16, _⟩ => ⟨S8192x128, .f32⟩
  | .hbm, ⟨17, _⟩ => ⟨S1024x64x64, .f32⟩
  | .hbm, ⟨18, _⟩ => ⟨S1024x64x64, .bf16⟩
  | .hbm, ⟨19, _⟩ => ⟨S4x32x64x8x128, .f32⟩
  | .hbm, ⟨20, _⟩ => ⟨S8192x1024, .f32⟩
  | .hbm, ⟨21, _⟩ => ⟨S8192x1024, .bf16⟩
  | .hbm, ⟨22, _⟩ => ⟨S4x32x64x8x128, .f32⟩
  | .hbm, ⟨23, _⟩ => ⟨S8192x1024, .f32⟩
  | .hbm, ⟨24, _⟩ => ⟨S8192x1024, .bf16⟩
  | .hbm, ⟨25, _⟩ => ⟨S4x32x64x8x128, .f32⟩
  | .hbm, ⟨26, _⟩ => ⟨S8192x1024, .f32⟩
  | .hbm, ⟨27, _⟩ => ⟨S8192x1024, .bf16⟩
  | .hbm, ⟨28, _⟩ => ⟨S4x256x64x64, .bf16⟩
  | .hbm, ⟨29, _⟩ => ⟨S4x256x192x64, .bf16⟩
  | .hbm, ⟨30, _⟩ => ⟨S4x2048x1024, .bf16⟩
  | .hbm, ⟨31, _⟩ => ⟨S4x2048x1024, .bf16⟩
  | .hbm, ⟨32, _⟩ => ⟨S4x2048x1024, .bf16⟩
  | .hbm, ⟨33, _⟩ => ⟨S4x2048x128, .f32⟩
  | .hbm, ⟨34, _⟩ => ⟨S4x2048x1024, .f32⟩
  | .hbm, ⟨35, _⟩ => ⟨S32x128x128, .f32⟩
  | .local _ .vmem, ⟨0, _⟩ => ⟨S4x16x64x64, .bf16⟩
  | .local _ .vmem, ⟨1, _⟩ => ⟨S4x16x64x64, .bf16⟩
  | .local _ .vmem, ⟨2, _⟩ => ⟨S4x16x192x64, .bf16⟩
  | .local _ .vmem, ⟨3, _⟩ => ⟨S4x16x192x64, .bf16⟩
  | .local _ .vmem, ⟨4, _⟩ => ⟨S4x128x1024, .bf16⟩
  | .local _ .vmem, ⟨5, _⟩ => ⟨S4x128x1024, .bf16⟩
  | .local _ .vmem, ⟨6, _⟩ => ⟨S4x128x1024, .bf16⟩
  | .local _ .vmem, ⟨7, _⟩ => ⟨S4x128x1024, .bf16⟩
  | .local _ .vmem, ⟨8, _⟩ => ⟨S4x128x1024, .bf16⟩
  | .local _ .vmem, ⟨9, _⟩ => ⟨S4x128x1024, .bf16⟩
  | .local _ .vmem, ⟨10, _⟩ => ⟨S4x128x128, .f32⟩
  | .local _ .vmem, ⟨11, _⟩ => ⟨S4x128x128, .f32⟩
  | .local _ .vmem, ⟨12, _⟩ => ⟨S4x128x1024, .f32⟩
  | .local _ .vmem, ⟨13, _⟩ => ⟨S4x128x1024, .f32⟩
  | .local _ .vmem, ⟨14, _⟩ => ⟨S32x128x128, .f32⟩
  | .local _ .vmem, ⟨15, _⟩ => ⟨S32x128x128, .f32⟩
  | .local _ .vmem, ⟨16, _⟩ => ⟨S64x64x128, .f32⟩
  | .local _ .vmem, ⟨17, _⟩ => ⟨S64x64x128, .bf16⟩
  | _, _ => ⟨S4x32x8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v3267 : BitVec 1 := Scalar.cmpi .eq arg0 c15_i32
  let v3268 : BitVec 32 := Scalar.extui v3267
  let c0_i32_2936 : BitVec 32 := 0#32
  let v3269 : BitVec 1 := Scalar.cmpi .ne v3268 c0_i32_2936
  v3269

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x16x64x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ScanRefIdeal.lean ====
abbrev S4x32x8x64x64 : Shape := ⟨5, ![4, 32, 8, 64, 64]⟩
abbrev S4x32x8x64x128 : Shape := ⟨5, ![4, 32, 8, 64, 128]⟩
abbrev S4x32x8 : Shape := ⟨3, ![4, 32, 8]⟩
abbrev S32x4x8x64x128 : Shape := ⟨5, ![32, 4, 8, 64, 128]⟩
abbrev S32x4x8x64x64 : Shape := ⟨5, ![32, 4, 8, 64, 64]⟩
abbrev S32x4x8 : Shape := ⟨3, ![32, 4, 8]⟩
abbrev S_ : Shape := ⟨0, ![]⟩
abbrev S4x8x128x128 : Shape := ⟨4, ![4, 8, 128, 128]⟩
abbrev S1x4x8x64x128 : Shape := ⟨5, ![1, 4, 8, 64, 128]⟩
abbrev S4x8x64x128 : Shape := ⟨4, ![4, 8, 64, 128]⟩
abbrev S1x4x8x64x64 : Shape := ⟨5, ![1, 4, 8, 64, 64]⟩
abbrev S4x8x64x64 : Shape := ⟨4, ![4, 8, 64, 64]⟩
abbrev S1x4x8 : Shape := ⟨3, ![1, 4, 8]⟩
abbrev S4x8 : Shape := ⟨2, ![4, 8]⟩
abbrev S4x8x1x1 : Shape := ⟨4, ![4, 8, 1, 1]⟩
abbrev S4x32x64x8x128 : Shape := ⟨5, ![4, 32, 64, 8, 128]⟩
abbrev S4x2048x1024 : Shape := ⟨3, ![4, 2048, 1024]⟩
abbrev S32x128x128 : Shape := ⟨3, ![32, 128, 128]⟩

abbrev nBuf : Space → Nat
  | .hbm => 86
  | .vmem => 0
  | .smem => 0
  | _ => 0

abbrev bufTy : (tb : Table) → Fin (tcTables nBuf tb) → BufTy
  | .hbm, ⟨0, _⟩ => ⟨S4x32x8x64x64, .f32⟩
  | .hbm, ⟨1, _⟩ => ⟨S4x32x8x64x128, .f32⟩
  | .hbm, ⟨2, _⟩ => ⟨S4x32x8x64x128, .f32⟩
  | .hbm, ⟨3, _⟩ => ⟨S4x32x8x64x64, .f32⟩
  | .hbm, ⟨4, _⟩ => ⟨S4x32x8x64x128, .f32⟩
  | .hbm, ⟨5, _⟩ => ⟨S4x32x8x64x128, .f32⟩
  | .hbm, ⟨6, _⟩ => ⟨S4x32x8, .f32⟩
  | .hbm, ⟨7, _⟩ => ⟨S4x32x8x64x128, .f32⟩
  | .hbm, ⟨8, _⟩ => ⟨S4x32x8x64x128, .f32⟩
  | .hbm, ⟨9, _⟩ => ⟨S32x4x8x64x128, .f32⟩
  | .hbm, ⟨10, _⟩ => ⟨S32x4x8x64x128, .f32⟩
  | .hbm, ⟨11, _⟩ => ⟨S32x4x8x64x64, .f32⟩
  | .hbm, ⟨12, _⟩ => ⟨S32x4x8x64x128, .f32⟩
  | .hbm, ⟨13, _⟩ => ⟨S32x4x8x64x128, .f32⟩
  | .hbm, ⟨14, _⟩ => ⟨S32x4x8, .f32⟩
  | .hbm, ⟨15, _⟩ => ⟨S_, .f32⟩
  | .hbm, ⟨16, _⟩ => ⟨S4x8x128x128, .f32⟩
  | .hbm, ⟨17, _⟩ => ⟨S_, .f32⟩
  | .hbm, ⟨18, _⟩ => ⟨S32x4x8x64x128, .f32⟩
  | .hbm, ⟨19, _⟩ => ⟨S_, .i32⟩
  | .hbm, ⟨20, _⟩ => ⟨S32x4x8x64x128, .f32⟩
  | .hbm, ⟨21, _⟩ => ⟨S32x4x8x64x128, .f32⟩
  | .hbm, ⟨22, _⟩ => ⟨S32x4x8x64x64, .f32⟩
  | .hbm, ⟨23, _⟩ => ⟨S32x4x8x64x128, .f32⟩
  | .hbm, ⟨24, _⟩ => ⟨S32x4x8x64x128, .f32⟩
  | .hbm, ⟨25, _⟩ => ⟨S32x4x8, .f32⟩
  | .hbm, ⟨26, _⟩ => ⟨S_, .i32⟩
  | .hbm, ⟨27, _⟩ => ⟨S4x8x128x128, .f32⟩
  | .hbm, ⟨28, _⟩ => ⟨S32x4x8x64x128, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x4x8x64x128, .f32⟩
  | .hbm, ⟨36, _⟩ => ⟨S4x8x64x128, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x4x8x64x128, .f32⟩
  | .hbm, ⟨42, _⟩ => ⟨S4x8x64x128, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x4x8x64x64, .f32⟩
  | .hbm, ⟨48, _⟩ => ⟨S4x8x64x64, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x4x8x64x128, .f32⟩
  | .hbm, ⟨54, _⟩ => ⟨S4x8x64x128, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x4x8x64x128, .f32⟩
  | .hbm, ⟨60, _⟩ => ⟨S4x8x64x128, .f32⟩
  | .hbm, ⟨61, _⟩ => ⟨S_, .i32⟩
  | .hbm, ⟨62, _⟩ => ⟨S_, .i32⟩
  | .hbm, ⟨63, _⟩ => ⟨S1x4x8, .f32⟩
  | .hbm, ⟨64, _⟩ => ⟨S4x8, .f32⟩
  | .hbm, ⟨65, _⟩ => ⟨S4x8x64x128, .f32⟩
  | .hbm, ⟨66, _⟩ => ⟨S4x8x64x128, .f32⟩
  | .hbm, ⟨67, _⟩ => ⟨S4x8x64x128, .f32⟩
  | .hbm, ⟨68, _⟩ => ⟨S4x8x64x128, .f32⟩
  | .hbm, ⟨69, _⟩ => ⟨S4x8x64x128, .f32⟩
  | .hbm, ⟨70, _⟩ => ⟨S4x8x1x1, .f32⟩
  | .hbm, ⟨71, _⟩ => ⟨S4x8x128x128, .f32⟩
  | .hbm, ⟨72, _⟩ => ⟨S4x8x128x128, .f32⟩
  | .hbm, ⟨73, _⟩ => ⟨S4x8x128x128, .f32⟩
  | .hbm, ⟨74, _⟩ => ⟨S4x8x128x128, .f32⟩
  | .hbm, ⟨75, _⟩ => ⟨S1x4x8x64x128, .f32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S32x4x8x64x128, .f32⟩
  | .hbm, ⟨81, _⟩ => ⟨S_, .i32⟩
  | .hbm, ⟨82, _⟩ => ⟨S_, .i32⟩
  | .hbm, ⟨83, _⟩ => ⟨S4x32x64x8x128, .f32⟩
  | .hbm, ⟨84, _⟩ => ⟨S4x2048x1024, .f32⟩
  | .hbm, ⟨85, _⟩ => ⟨S32x128x128, .f32⟩
  | _, _ => ⟨S4x32x8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_c : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev main_v10_6 : Ref sig .tc := ⟨.hbm, 26, rfl⟩
abbrev main_v10_7 : Ref sig .tc := ⟨.hbm, 27, rfl⟩
abbrev main_v10_8 : Ref sig .tc := ⟨.hbm, 28, rfl⟩
abbrev main_while0c_c_9 : Ref sig .tc := ⟨.hbm, 29, rfl⟩
abbrev main_while0c_v14 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_c_1 : Ref sig .tc := ⟨.hbm, 33, rfl⟩
abbrev main_while0b_call0_c_2 : Ref sig .tc := ⟨.hbm, 34, rfl⟩
abbrev main_while0b_call0_v0 : Ref sig .tc := ⟨.hbm, 35, rfl⟩
abbrev main_while0b_v14 : Ref sig .tc := ⟨.hbm, 36, rfl⟩
abbrev main_while0b_call1_c : Ref sig .tc := ⟨.hbm, 37, rfl⟩
abbrev main_while0b_call1_c_0 : Ref sig .tc := ⟨.hbm, 38, rfl⟩
abbrev main_while0b_call1_c_1 : Ref sig .tc := ⟨.hbm, 39, rfl⟩
abbrev main_while0b_call1_c_2 : Ref sig .tc := ⟨.hbm, 40, rfl⟩
abbrev main_while0b_call1_v0 : Ref sig .tc := ⟨.hbm, 41, rfl⟩
abbrev main_while0b_v15 : Ref sig .tc := ⟨.hbm, 42, rfl⟩
abbrev main_while0b_call2_c : Ref sig .tc := ⟨.hbm, 43, rfl⟩
abbrev main_while0b_call2_c_0 : Ref sig .tc := ⟨.hbm, 44, rfl⟩
abbrev main_while0b_call2_c_1 : Ref sig .tc := ⟨.hbm, 45, rfl⟩
abbrev main_while0b_call2_c_2 : Ref sig .tc := ⟨.hbm, 46, rfl⟩
abbrev main_while0b_call2_v0 : Ref sig .tc := ⟨.hbm, 47, rfl⟩
abbrev main_while0b_v16 : Ref sig .tc := ⟨.hbm, 48, rfl⟩
abbrev main_while0b_call3_c : Ref sig .tc := ⟨.hbm, 49, rfl⟩
abbrev main_while0b_call3_c_0 : Ref sig .tc := ⟨.hbm, 50, rfl⟩
abbrev main_while0b_call3_c_1 : Ref sig .tc := ⟨.hbm, 51, rfl⟩
abbrev main_while0b_call3_c_2 : Ref sig .tc := ⟨.hbm, 52, rfl⟩
abbrev main_while0b_call3_v0 : Ref sig .tc := ⟨.hbm, 53, rfl⟩
abbrev main_while0b_v17 : Ref sig .tc := ⟨.hbm, 54, rfl⟩
abbrev main_while0b_call4_c : Ref sig .tc := ⟨.hbm, 55, rfl⟩
abbrev main_while0b_call4_c_0 : Ref sig .tc := ⟨.hbm, 56, rfl⟩
abbrev main_while0b_call4_c_1 : Ref sig .tc := ⟨.hbm, 57, rfl⟩
abbrev main_while0b_call4_c_2 : Ref sig .tc := ⟨.hbm, 58, rfl⟩
abbrev main_while0b_call4_v0 : Ref sig .tc := ⟨.hbm, 59, rfl⟩
abbrev main_while0b_v18 : Ref sig .tc := ⟨.hbm, 60, rfl⟩
abbrev main_while0b_call5_c : Ref sig .tc := ⟨.hbm, 61, rfl⟩
abbrev main_while0b_call5_c_0 : Ref sig .tc := ⟨.hbm, 62, rfl⟩
abbrev main_while0b_call5_v0 : Ref sig .tc := ⟨.hbm, 63, rfl⟩
abbrev main_while0b_v19 : Ref sig .tc := ⟨.hbm, 64, rfl⟩
abbrev main_while0b_v20 : Ref sig .tc := ⟨.hbm, 65, rfl⟩
abbrev main_while0b_v21 : Ref sig .tc := ⟨.hbm, 66, rfl⟩
abbrev main_while0b_v22 : Ref sig .tc := ⟨.hbm, 67, rfl⟩
abbrev main_while0b_v23 : Ref sig .tc := ⟨.hbm, 68, rfl⟩
abbrev main_while0b_v24 : Ref sig .tc := ⟨.hbm, 69, rfl⟩
abbrev main_while0b_v25 : Ref sig .tc := ⟨.hbm, 70, rfl⟩
abbrev main_while0b_v26 : Ref sig .tc := ⟨.hbm, 71, rfl⟩
abbrev main_while0b_v27 : Ref sig .tc := ⟨.hbm, 72, rfl⟩
abbrev main_while0b_v28 : Ref sig .tc := ⟨.hbm, 73, rfl⟩
abbrev main_while0b_v29 : Ref sig .tc := ⟨.hbm, 74, rfl⟩
abbrev main_while0b_call6_v0 : Ref sig .tc := ⟨.hbm, 75, rfl⟩
abbrev main_while0b_call6_c : Ref sig .tc := ⟨.hbm, 76, rfl⟩
abbrev main_while0b_call6_c_0 : Ref sig .tc := ⟨.hbm, 77, rfl⟩
abbrev main_while0b_call6_c_1 : Ref sig .tc := ⟨.hbm, 78, rfl⟩
abbrev main_while0b_call6_c_2 : Ref sig .tc := ⟨.hbm, 79, rfl⟩
abbrev main_while0b_v30 : Ref sig .tc := ⟨.hbm, 80, rfl⟩
abbrev main_while0b_c_9 : Ref sig .tc := ⟨.hbm, 81, rfl⟩
abbrev main_while0b_v31 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩

abbrev nD : Nat := 1
abbrev τ : Topo := Topo.v7x

variable {F : FTy → Type} [FloatOps F]

abbrev main_while0_count : Scf.Loop 32 := ⟨0#32, 32#32, 1#32⟩
-- ==== Ffn2.lean ====
abbrev S8704x5632 : Shape := ⟨2, ![8704, 5632]⟩
abbrev S8704x2048 : Shape := ⟨2, ![8704, 2048]⟩
abbrev S4x12288 : Shape := ⟨2, ![4, 12288]⟩
abbrev S128x12288 : Shape := ⟨2, ![128, 12288]⟩
abbrev S1x5632x2048 : Shape := ⟨3, ![1, 5632, 2048]⟩
abbrev S2048 : Shape := ⟨1, ![2048]⟩
abbrev S5632x2048 : Shape := ⟨2, ![5632, 2048]⟩
abbrev S4x1x12288 : Shape := ⟨3, ![4, 1, 12288]⟩
abbrev S1x2048 : Shape := ⟨2, ![1, 2048]⟩
abbrev S8192x2048 : Shape := ⟨2, ![8192, 2048]⟩
abbrev S512x2048 : Shape := ⟨2, ![512, 2048]⟩
abbrev S256x5632 : Shape := ⟨2, ![256, 5632]⟩
abbrev S256x2048 : Shape := ⟨2, ![256, 2048]⟩
abbrev S1x1x2048 : Shape := ⟨3, ![1, 1, 2048]⟩
abbrev S128x2048 : Shape := ⟨2, ![128, 2048]⟩
abbrev S256x512 : Shape := ⟨2, ![256, 512]⟩
abbrev S1x512 : Shape := ⟨2, ![1, 512]⟩
abbrev S5632x512 : Shape := ⟨2, ![5632, 512]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S8704x5632, .f32⟩
  | .hbm, ⟨1, _⟩ => ⟨S8704x2048, .f32⟩
  | .hbm, ⟨2, _⟩ => ⟨S4x12288, .f32⟩
  | .hbm, ⟨3, _⟩ => ⟨S128x12288, .f32⟩
  | .hbm, ⟨4, _⟩ => ⟨S1x5632x2048, .f32⟩
  | .hbm, ⟨5, _⟩ => ⟨S2048, .f32⟩
  | .hbm, ⟨6, _⟩ => ⟨S8704x5632, .bf16⟩
  | .hbm, ⟨7, _⟩ => ⟨S5632x2048, .f32⟩
  | .hbm, ⟨8, _⟩ => ⟨S5632x2048, .bf16⟩
  | .hbm, ⟨9, _⟩ => ⟨S4x1x12288, .f32⟩
  | .hbm, ⟨10, _⟩ => ⟨S1x2048, .f32⟩
  | .hbm, ⟨11, _⟩ => ⟨S8192x2048, .f32⟩
  | .hbm, ⟨12, _⟩ => ⟨S512x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S128x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | _, _ => ⟨S8704x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c0_i32_4 : BitVec 32 := 0#32
  let c5_i32 : BitVec 32 := 5#32
  let c0_i32_5 : BitVec 32 := 0#32
  ![v17.toNat, c0_i32_4.toNat, c5_i32.toNat]

def cc0_transform_4 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Ffn2RefIdeal.lean ====
abbrev S8704x5632 : Shape := ⟨2, ![8704, 5632]⟩
abbrev S8704x2048 : Shape := ⟨2, ![8704, 2048]⟩
abbrev S4x12288 : Shape := ⟨2, ![4, 12288]⟩
abbrev S128x12288 : Shape := ⟨2, ![128, 12288]⟩
abbrev S1x5632x2048 : Shape := ⟨3, ![1, 5632, 2048]⟩
abbrev S2048 : Shape := ⟨1, ![2048]⟩
abbrev S5632x2048 : Shape := ⟨2, ![5632, 2048]⟩
abbrev S8192x2048 : Shape := ⟨2, ![8192, 2048]⟩
abbrev S4x2048x2048 : Shape := ⟨3, ![4, 2048, 2048]⟩
abbrev S4x2048 : Shape := ⟨2, ![4, 2048]⟩
abbrev S4x1x2048 : Shape := ⟨3, ![4, 1, 2048]⟩
abbrev S_ : Shape := ⟨0, ![]⟩
abbrev S4x2048x1 : Shape := ⟨3, ![4, 2048, 1]⟩
abbrev S1x1x2048 : Shape := ⟨3, ![1, 1, 2048]⟩
abbrev S512x2048 : Shape := ⟨2, ![512, 2048]⟩
abbrev S4x128x2048 : Shape := ⟨3, ![4, 128, 2048]⟩
abbrev S128x4x2048 : Shape := ⟨3, ![128, 4, 2048]⟩
abbrev S128x2048 : Shape := ⟨2, ![128, 2048]⟩
abbrev S128x1x2048 : Shape := ⟨3, ![128, 1, 2048]⟩
abbrev S128x4 : Shape := ⟨2, ![128, 4]⟩
abbrev S128x4x1 : Shape := ⟨3, ![128, 4, 1]⟩

abbrev nBuf : Space → Nat
  | .hbm => 73
  | .vmem => 0
  | .smem => 0
  | _ => 0

abbrev bufTy : (tb : Table) → Fin (tcTables nBuf tb) → BufTy
  | .hbm, ⟨0, _⟩ => ⟨S8704x5632, .f32⟩
  | .hbm, ⟨1, _⟩ => ⟨S8704x2048, .f32⟩
  | .hbm, ⟨2, _⟩ => ⟨S4x12288, .f32⟩
  | .hbm, ⟨3, _⟩ => ⟨S128x12288, .f32⟩
  | .hbm, ⟨4, _⟩ => ⟨S1x5632x2048, .f32⟩
  | .hbm, ⟨5, _⟩ => ⟨S2048, .f32⟩
  | .hbm, ⟨6, _⟩ => ⟨S5632x2048, .f32⟩
  | .hbm, ⟨7, _⟩ => ⟨S8704x2048, .f32⟩
  | .hbm, ⟨8, _⟩ => ⟨S8192x2048, .f32⟩
  | .hbm, ⟨9, _⟩ => ⟨S4x2048x2048, .f32⟩
  | .hbm, ⟨10, _⟩ => ⟨S8192x2048, .f32⟩
  | .hbm, ⟨11, _⟩ => ⟨S4x2048x2048, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S4x2048, .f32⟩
  | .hbm, ⟨16, _⟩ => ⟨S4x2048, .f32⟩
  | .hbm, ⟨17, _⟩ => ⟨S4x2048, .f32⟩
  | .hbm, ⟨18, _⟩ => ⟨S4x1x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S1x1x2048, .f32⟩
  | .hbm, ⟨36, _⟩ => ⟨S4x2048x2048, .f32⟩
  | .hbm, ⟨37, _⟩ => ⟨S4x2048x2048, .f32⟩
  | .hbm, ⟨38, _⟩ => ⟨S512x2048, .f32⟩
  | .hbm, ⟨39, _⟩ => ⟨S4x128x2048, .f32⟩
  | .hbm, ⟨40, _⟩ => ⟨S128x4x2048, .f32⟩
  | .hbm, ⟨41, _⟩ => ⟨S512x2048, .f32⟩
  | .hbm, ⟨42, _⟩ => ⟨S4x128x2048, .f32⟩
  | .hbm, ⟨43, _⟩ => ⟨S128x4x2048, .f32⟩
  | .hbm, ⟨44, _⟩ => ⟨S128x2048, .f32⟩
  | .hbm, ⟨45, _⟩ => ⟨S128x2048, .f32⟩
  | .hbm, ⟨46, _⟩ => ⟨S128x2048, .f32⟩
  | .hbm, ⟨47, _⟩ => ⟨S128x2048, .f32⟩
  | .hbm, ⟨48, _⟩ => ⟨S128x2048, .f32⟩
  | .hbm, ⟨49, _⟩ => ⟨S128x2048, .f32⟩
  | .hbm, ⟨50, _⟩ => ⟨S128x1x2048, .f32⟩
  | .hbm, ⟨51, _⟩ => ⟨S128x4x2048, .f32⟩
  | .hbm, ⟨52, _⟩ => ⟨S128x4x2048, .f32⟩
  | .hbm, ⟨53, _⟩ => ⟨S128x4x2048, .f32⟩
  | .hbm, ⟨54, _⟩ => ⟨S128x4x2048, .f32⟩
  | .hbm, ⟨55, _⟩ => ⟨S_, .f32⟩
  | .hbm, ⟨56, _⟩ => ⟨S128x4, .f32⟩
  | .hbm, ⟨57, _⟩ => ⟨S128x4x1, .f32⟩
  | .hbm, ⟨58, _⟩ => ⟨S_, .f32⟩
  | .hbm, ⟨59, _⟩ => ⟨S128x4x1, .f32⟩
  | .hbm, ⟨60, _⟩ => ⟨S128x4x1, .f32⟩
  | .hbm, ⟨61, _⟩ => ⟨S_, .f32⟩
  | .hbm, ⟨62, _⟩ => ⟨S128x4x1, .f32⟩
  | .hbm, ⟨63, _⟩ => ⟨S128x4x1, .f32⟩
  | .hbm, ⟨64, _⟩ => ⟨S128x4x1, .f32⟩
  | .hbm, ⟨65, _⟩ => ⟨S128x4x2048, .f32⟩
  | .hbm, ⟨66, _⟩ => ⟨S128x4x2048, .f32⟩
  | .hbm, ⟨67, _⟩ => ⟨S1x1x2048, .f32⟩
  | .hbm, ⟨68, _⟩ => ⟨S128x4x2048, .f32⟩
  | .hbm, ⟨69, _⟩ => ⟨S128x4x2048, .f32⟩
  | .hbm, ⟨70, _⟩ => ⟨S8192x2048, .f32⟩
  | .hbm, ⟨71, _⟩ => ⟨S4x128x2048, .f32⟩
  | .hbm, ⟨72, _⟩ => ⟨S512x2048, .f32⟩
  | _, _ => ⟨S8704x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_2 : Ref sig .tc := ⟨.hbm, 55, rfl⟩
abbrev main_v46 : Ref sig .tc := ⟨.hbm, 56, rfl⟩
abbrev main_v47 : Ref sig .tc := ⟨.hbm, 57, rfl⟩
abbrev main_cst_3 : Ref sig .tc := ⟨.hbm, 58, rfl⟩
abbrev main_v48 : Ref sig .tc := ⟨.hbm, 59, rfl⟩
abbrev main_v49 : Ref sig .tc := ⟨.hbm, 60, rfl⟩
abbrev main_cst_4 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== ScanSample.lean ====
abbrev S128x1x8x4x4 : Shape := ⟨5, ![128, 1, 8, 4, 4]⟩
abbrev S128x1x8x4x128 : Shape := ⟨5, ![128, 1, 8, 4, 128]⟩
abbrev S128x1x8 : Shape := ⟨3, ![128, 1, 8]⟩
abbrev S128x8x128x128 : Shape := ⟨4, ![128, 8, 128, 128]⟩
abbrev S128x8x4x128 : Shape := ⟨4, ![128, 8, 4, 128]⟩
abbrev S128x4x8x128 : Shape := ⟨4, ![128, 4, 8, 128]⟩
abbrev S_ : Shape := ⟨0, ![]⟩
abbrev S128x8x8x128 : Shape := ⟨4, ![128, 8, 8, 128]⟩
abbrev S8x128x8x128 : Shape := ⟨4, ![8, 128, 8, 128]⟩
abbrev S8x8x128x128 : Shape := ⟨4, ![8, 8, 128, 128]⟩
abbrev S64x128x128 : Shape := ⟨3, ![64, 128, 128]⟩
abbrev S128x8x4x4 : Shape := ⟨4, ![128, 8, 4, 4]⟩
abbrev S128x8x8x8 : Shape := ⟨4, ![128, 8, 8, 8]⟩
abbrev S8x16x8x8x8 : Shape := ⟨5, ![8, 16, 8, 8, 8]⟩
abbrev S8x8x16x8x8 : Shape := ⟨5, ![8, 8, 16, 8, 8]⟩
abbrev S64x16x8x1x8 : Shape := ⟨5, ![64, 16, 8, 1, 8]⟩
abbrev S1x16x1x16x1 : Shape := ⟨5, ![1, 16, 1, 16, 1]⟩
abbrev S64x16x8x16x8 : Shape := ⟨5, ![64, 16, 8, 16, 8]⟩
abbrev S64x256x128 : Shape := ⟨3, ![64, 256, 128]⟩
abbrev S128x8x8 : Shape := ⟨3, ![128, 8, 8]⟩
abbrev S1024x8 : Shape := ⟨2, ![1024, 8]⟩
abbrev S1024x128 : Shape := ⟨2, ![1024, 128]⟩
abbrev S1024x1024 : Shape := ⟨2, ![1024, 1024]⟩
abbrev S8x128x128 : Shape := ⟨3, ![8, 128, 128]⟩
abbrev S8x256x128 : Shape := ⟨3, ![8, 256, 128]⟩
abbrev S128x1024 : Shape := ⟨2, ![128, 1024]⟩
abbrev S128x128 : Shape := ⟨2, ![128, 128]⟩
abbrev S16x8x128x128 : Shape := ⟨4, ![16, 8, 128, 128]⟩
abbrev S128x1 : Shape := ⟨2, ![128, 1]⟩
abbrev S128x256 : Shape := ⟨2, ![128, 256]⟩
abbrev S1x128x128 : Shape := ⟨3, ![1, 128, 128]⟩
abbrev S8x128 : Shape := ⟨2, ![8, 128]⟩
abbrev S16x128 : Shape := ⟨2, ![16, 128]⟩
abbrev S1x1x128x128 : Shape := ⟨4, ![1, 1, 128, 128]⟩
abbrev S1x1 : Shape := ⟨2, ![1, 1]⟩

abbrev nBuf : Space → Nat
  | .hbm => 81
  | .vmem => 18
  | .smem => 0
  | _ => 0

abbrev bufTy : (tb : Table) → Fin (tcTables nBuf tb) → BufTy
  | .hbm, ⟨0, _⟩ => ⟨S128x1x8x4x4, .f32⟩
  | .hbm, ⟨1, _⟩ => ⟨S128x1x8x4x128, .f32⟩
  | .hbm, ⟨2, _⟩ => ⟨S128x1x8x4x128, .f32⟩
  | .hbm, ⟨3, _⟩ => ⟨S128x1x8x4x4, .f32⟩
  | .hbm, ⟨4, _⟩ => ⟨S128x1x8x4x128, .f32⟩
  | .hbm, ⟨5, _⟩ => ⟨S128x1x8x4x128, .f32⟩
  | .hbm, ⟨6, _⟩ => ⟨S128x1x8, .f32⟩
  | .hbm, ⟨7, _⟩ => ⟨S128x8x128x128, .f32⟩
  | .hbm, ⟨8, _⟩ => ⟨S128x8x4x128, .f32⟩
  | .hbm, ⟨9, _⟩ => ⟨S128x4x8x128, .f32⟩
  | .hbm, ⟨10, _⟩ => ⟨S_, .i32⟩
  | .hbm, ⟨11, _⟩ => ⟨S_, .f32⟩
  | .hbm, ⟨12, _⟩ => ⟨S128x8x8x128, .f32⟩
  | .hbm, ⟨13, _⟩ => ⟨S8x128x8x128, .f32⟩
  | .hbm, ⟨14, _⟩ => ⟨S8x8x128x128, .f32⟩
  | .hbm, ⟨15, _⟩ => ⟨S64x128x128, .f32⟩
  | .hbm, ⟨16, _⟩ => ⟨S128x8x4x4, .f32⟩
  | .hbm, ⟨17, _⟩ => ⟨S_, .i32⟩
  | .hbm, ⟨18, _⟩ => ⟨S_, .f32⟩
  | .hbm, ⟨19, _⟩ => ⟨S128x8x8x8, .f32⟩
  | .hbm, ⟨20, _⟩ => ⟨S8x16x8x8x8, .f32⟩
  | .hbm, ⟨21, _⟩ => ⟨S8x8x16x8x8, .f32⟩
  | .hbm, ⟨22, _⟩ => ⟨S64x16x8x1x8, .f32⟩
  | .hbm, ⟨23, _⟩ => ⟨S1x16x1x16x1, .i32⟩
  | .hbm, ⟨24, _⟩ => ⟨S1x16x1x16x1, .i32⟩
  | .hbm, ⟨25, _⟩ => ⟨S1x16x1x16x1, .i1⟩
  | .hbm, ⟨26, _⟩ => ⟨S_, .f32⟩
  | .hbm, ⟨27, _⟩ => ⟨S_, .f32⟩
  | .hbm, ⟨28, _⟩ => ⟨S64x16x8x16x8, .i1⟩
  | .hbm, ⟨29, _⟩ => ⟨S64x16x8x16x8, .f32⟩
  | .hbm, ⟨30, _⟩ => ⟨S64x16x8x16x8, .f32⟩
  | .hbm, ⟨31, _⟩ => ⟨S64x16x8x16x8, .f32⟩
  | .hbm, ⟨32, _⟩ => ⟨S64x128x128, .f32⟩
  | .hbm, ⟨33, _⟩ => ⟨S64x256x128, .f32⟩
  | .hbm, ⟨34, _⟩ => ⟨S64x256x128, .bf16⟩
  | .hbm, ⟨35, _⟩ => ⟨S128x8x8, .f32⟩
  | .hbm, ⟨36, _⟩ => ⟨S1024x8, .f32⟩
  | .hbm, ⟨37, _⟩ => ⟨S_, .i32⟩
  | .hbm, ⟨38, _⟩ => ⟨S_, .f32⟩
  | .hbm, ⟨39, _⟩ => ⟨S1024x128, .f32⟩
  | .hbm, ⟨40, _⟩ => ⟨S128x8x4x4, .f32⟩
  | .hbm, ⟨41, _⟩ => ⟨S_, .i32⟩
  | .hbm, ⟨42, _⟩ => ⟨S_, .f32⟩
  | .hbm, ⟨43, _⟩ => ⟨S128x8x8x8, .f32⟩
  | .hbm, ⟨44, _⟩ => ⟨S8x16x8x8x8, .f32⟩
  | .hbm, ⟨45, _⟩ => ⟨S8x8x16x8x8, .f32⟩
  | .hbm, ⟨46, _⟩ => ⟨S64x16x8x1x8, .f32⟩
  | .hbm, ⟨47, _⟩ => ⟨S1x16x1x16x1, .i32⟩
  | .hbm, ⟨48, _⟩ => ⟨S1x16x1x16x1, .i32⟩
  | .hbm, ⟨49, _⟩ => ⟨S1x16x1x16x1, .i1⟩
  | .hbm, ⟨50, _⟩ => ⟨S_, .f32⟩
  | .hbm, ⟨51, _⟩ => ⟨S_, .f32⟩
  | .hbm, ⟨52, _⟩ => ⟨S64x16x8x16x8, .i1⟩
  | .hbm, ⟨53, _⟩ => ⟨S64x16x8x16x8, .f32⟩
  | .hbm, ⟨54, _⟩ => ⟨S64x16x8x16x8, .f32⟩
  | .hbm, ⟨55, _⟩ => ⟨S64x16x8x16x8, .f32⟩
  | .hbm, ⟨56, _⟩ => ⟨S64x128x128, .f32⟩
  | .hbm, ⟨57, _⟩ => ⟨S64x128x128, .bf16⟩
  | .hbm, ⟨58, _⟩ => ⟨S128x8x4x128, .f32⟩
  | .hbm, ⟨59, _⟩ => ⟨S128x4x8x128, .f32⟩
  | .hbm, ⟨60, _⟩ => ⟨S_, .i32⟩
  | .hbm, ⟨61, _⟩ => ⟨S_, .f32⟩
  | .hbm, ⟨62, _⟩ => ⟨S128x8x8x128, .f32⟩
  | .hbm, ⟨63, _⟩ => ⟨S1024x1024, .f32⟩
  | .hbm, ⟨64, _⟩ => ⟨S1024x1024, .bf16⟩
  | .hbm, ⟨65, _⟩ => ⟨S128x8x4x128, .f32⟩
  | .hbm, ⟨66, _⟩ => ⟨S128x4x8x128, .f32⟩
  | .hbm, ⟨67, _⟩ => ⟨S_, .i32⟩
  | .hbm, ⟨68, _⟩ => ⟨S_, .f32⟩
  | .hbm, ⟨69, _⟩ => ⟨S128x8x8x128, .f32⟩
  | .hbm, ⟨70, _⟩ => ⟨S1024x1024, .f32⟩
  | .hbm, ⟨71, _⟩ => ⟨S1024x1024, .bf16⟩
  | .hbm, ⟨72, _⟩ => ⟨S128x8x4x128, .f32⟩
  | .hbm, ⟨73, _⟩ => ⟨S128x4x8x128, .f32⟩
  | .hbm, ⟨74, _⟩ => ⟨S_, .i32⟩
  | .hbm, ⟨75, _⟩ => ⟨S_, .f32⟩
  | .hbm, ⟨76, _⟩ => ⟨S128x8x8x128, .f32⟩
  | .hbm, ⟨77, _⟩ => ⟨S1024x1024, .f32⟩
  | .hbm, ⟨78, _⟩ => ⟨S1024x1024, .bf16⟩
  | .hbm, ⟨79, _⟩ => ⟨S1024x1024, .f32⟩
  | .hbm, ⟨80, _⟩ => ⟨S128x8x128x128, .f32⟩
  | .local _ .vmem, ⟨0, _⟩ => ⟨S8x128x128, .bf16⟩
  | .local _ .vmem, ⟨1, _⟩ => ⟨S8x128x128, .bf16⟩
  | .local _ .vmem, ⟨2, _⟩ => ⟨S8x256x128, .bf16⟩
  | .local _ .vmem, ⟨3, _⟩ => ⟨S8x256x128, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x128, .f32⟩
  | .local _ .vmem, ⟨11, _⟩ => ⟨S128x128, .f32⟩
  | .local _ .vmem, ⟨12, _⟩ => ⟨S16x8x128x128, .f32⟩
  | .local _ .vmem, ⟨13, _⟩ => ⟨S16x8x128x128, .f32⟩
  | .local _ .vmem, ⟨14, _⟩ => ⟨S128x1024, .f32⟩
  | .local _ .vmem, ⟨15, _⟩ => ⟨S128x1024, .f32⟩
  | .local _ .vmem, ⟨16, _⟩ => ⟨S16x8x128x128, .f32⟩
  | .local _ .vmem, ⟨17, _⟩ => ⟨S16x8x128x128, .f32⟩
  | _, _ => ⟨S128x1x8x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_call3_v0 : Ref sig .tc := ⟨.hbm, 38, rfl⟩
abbrev main_v20 : Ref sig .tc := ⟨.hbm, 39, rfl⟩
abbrev main_v21 : Ref sig .tc := ⟨.hbm, 40, rfl⟩
abbrev main_c_2 : Ref sig .tc := ⟨.hbm, 41, rfl⟩
abbrev main_call4_v0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_call5_v0 : Ref sig .tc := ⟨.hbm, 51, rfl⟩
abbrev main_call5_v1 : Ref sig .tc := ⟨.hbm, 52, rfl⟩
abbrev main_call5_v2 : Ref sig .tc := ⟨.hbm, 53, rfl⟩
abbrev main_call5_v3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_4 : Ref sig .tc := ⟨.hbm, 60, rfl⟩
abbrev main_call6_v0 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_5 : Ref sig .tc := ⟨.hbm, 67, rfl⟩
abbrev main_call7_v0 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_6 : Ref sig .tc := ⟨.hbm, 74, rfl⟩
abbrev main_call8_v0 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47_0 : Ref sig .tc := ⟨.hbm, 79, rfl⟩
abbrev main_v47_1 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ScanSampleRefIdeal.lean ====
abbrev S128x1x8x4x4 : Shape := ⟨5, ![128, 1, 8, 4, 4]⟩
abbrev S128x1x8x4x128 : Shape := ⟨5, ![128, 1, 8, 4, 128]⟩
abbrev S128x1x8 : Shape := ⟨3, ![128, 1, 8]⟩
abbrev S128x8x128x128 : Shape := ⟨4, ![128, 8, 128, 128]⟩
abbrev S128x8x4x128 : Shape := ⟨4, ![128, 8, 4, 128]⟩
abbrev S128x8x4x4 : Shape := ⟨4, ![128, 8, 4, 4]⟩
abbrev S128x8 : Shape := ⟨2, ![128, 8]⟩
abbrev S128x8x1x1 : Shape := ⟨4, ![128, 8, 1, 1]⟩
abbrev S128x4x8x128 : Shape := ⟨4, ![128, 4, 8, 128]⟩
abbrev S_ : Shape := ⟨0, ![]⟩
abbrev S128x8x8x128 : Shape := ⟨4, ![128, 8, 8, 128]⟩
abbrev S1024x1024 : Shape := ⟨2, ![1024, 1024]⟩

abbrev nBuf : Space → Nat
  | .hbm => 31
  | .vmem => 0
  | .smem => 0
  | _ => 0

abbrev bufTy : (tb : Table) → Fin (tcTables nBuf tb) → BufTy
  | .hbm, ⟨0, _⟩ => ⟨S128x1x8x4x4, .f32⟩
  | .hbm, ⟨1, _⟩ => ⟨S128x1x8x4x128, .f32⟩
  | .hbm, ⟨2, _⟩ => ⟨S128x1x8x4x128, .f32⟩
  | .hbm, ⟨3, _⟩ => ⟨S128x1x8x4x4, .f32⟩
  | .hbm, ⟨4, _⟩ => ⟨S128x1x8x4x128, .f32⟩
  | .hbm, ⟨5, _⟩ => ⟨S128x1x8x4x128, .f32⟩
  | .hbm, ⟨6, _⟩ => ⟨S128x1x8, .f32⟩
  | .hbm, ⟨7, _⟩ => ⟨S128x8x128x128, .f32⟩
  | .hbm, ⟨8, _⟩ => ⟨S128x1x8x4x128, .f32⟩
  | .hbm, ⟨9, _⟩ => ⟨S128x1x8x4x128, .f32⟩
  | .hbm, ⟨10, _⟩ => ⟨S128x8x4x128, .f32⟩
  | .hbm, ⟨11, _⟩ => ⟨S128x8x4x128, .f32⟩
  | .hbm, ⟨12, _⟩ => ⟨S128x8x4x4, .f32⟩
  | .hbm, ⟨13, _⟩ => ⟨S128x8x4x128, .f32⟩
  | .hbm, ⟨14, _⟩ => ⟨S128x8x4x128, .f32⟩
  | .hbm, ⟨15, _⟩ => ⟨S128x8, .f32⟩
  | .hbm, ⟨16, _⟩ => ⟨S128x8x4x128, .f32⟩
  | .hbm, ⟨17, _⟩ => ⟨S128x8x4x128, .f32⟩
  | .hbm, ⟨18, _⟩ => ⟨S128x8x4x128, .f32⟩
  | .hbm, ⟨19, _⟩ => ⟨S128x8x4x128, .f32⟩
  | .hbm, ⟨20, _⟩ => ⟨S128x8x4x128, .f32⟩
  | .hbm, ⟨21, _⟩ => ⟨S128x8x1x1, .f32⟩
  | .hbm, ⟨22, _⟩ => ⟨S128x8x128x128, .f32⟩
  | .hbm, ⟨23, _⟩ => ⟨S128x8x128x128, .f32⟩
  | .hbm, ⟨24, _⟩ => ⟨S128x8x128x128, .f32⟩
  | .hbm, ⟨25, _⟩ => ⟨S128x8x128x128, .f32⟩
  | .hbm, ⟨26, _⟩ => ⟨S128x4x8x128, .f32⟩
  | .hbm, ⟨27, _⟩ => ⟨S_, .i32⟩
  | .hbm, ⟨28, _⟩ => ⟨S_, .f32⟩
  | .hbm, ⟨29, _⟩ => ⟨S128x8x8x128, .f32⟩
  | .hbm, ⟨30, _⟩ => ⟨S1024x1024, .f32⟩
  | _, _ => ⟨S128x1x8x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Proof.Ffn1Value.lean ====
module

public import proofs.«01_k».proof.Proof.Gen.Ffn1Ideal.Frame
public import proofs.«01_k».proof.Proof.Gen.Ffn1RefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn1Ideal.Val

open Cert.Ffn1Ideal Cert.Ffn1Ideal.Gen

variable (m : (ℓ : Loc nD τ sig) → Buf (Elt Ideal) ℓ) (ρ : Dev nD → PrngReg)

/-- The block each window reads or writes at a grid point: the row block is the point modulo 4, the column block the
    point divided by 4, the second weight block 11 blocks further. -/
theorem idx : ∀ t : Fin cfg0.N, win0_0.index t = ![t.val % 4, 0] ∧ win0_1.index t = ![0, t.val / 4]
    ∧ win0_2.index t = ![0, 11 + t.val / 4] ∧ win0_3.index t = ![t.val % 4, t.val / 4] :=
  (by decide +kernel : ∀ t : Fin grid0.N, _)

/-- Between two resets the gate weights' block does not move. -/
theorem blk1_succ (c : Dev nD) (n : ℕ) (h : n + 1 < cfg0.N) (hr : ¬(n + 1) % 4 = 0) :
    iblk m c 1 ⟨n + 1, h⟩ = iblk m c 1 ⟨n, Nat.lt_of_succ_lt h⟩ := by
  have e : (n + 1) / 4 = n / 4 := by omega
  funext y
  blk_ext [iblk, V, idx ⟨n + 1, h⟩, idx ⟨n, Nat.lt_of_succ_lt h⟩]

/-- Between two resets the up weights' block does not move. -/
theorem blk2_succ (c : Dev nD) (n : ℕ) (h : n + 1 < cfg0.N) (hr : ¬(n + 1) % 4 = 0) :
    iblk m c 2 ⟨n + 1, h⟩ = iblk m c 2 ⟨n, Nat.lt_of_succ_lt h⟩ := by
  have e : (n + 1) / 4 = n / 4 := by omega
  funext y
  blk_ext [iblk, V, idx ⟨n + 1, h⟩, idx ⟨n, Nat.lt_of_succ_lt h⟩]

/-- After every grid point the two scratch buffers hold the point's weight blocks, rounded. -/
theorem scratch (c : Dev nD) : ∀ (n : ℕ) (h : n < cfg0.N),
    (outsAt0 m c n h).2.1 = k0_pay1 (iblk m c 1 ⟨n, h⟩) ∧ (outsAt0 m c n h).2.2 = k0_pay2 (iblk m c 2 ⟨n, h⟩)
  | 0, h => by
    rw [outsAt0_A m c ⟨0, h⟩ rfl]
    exact ⟨by frame_out, by frame_out⟩
  | n + 1, h => by
    by_cases hr : (n + 1) % 4 = 0
    · rw [outsAt0_A m c ⟨n + 1, h⟩ hr]
      exact ⟨by frame_out, by frame_out⟩
    · rw [outsAt0_B m c ⟨n + 1, h⟩ hr, blk1_succ m c n h hr, blk2_succ m c n h hr]
      simp only [sout0_B_0, sout0_B_1, Nat.add_sub_cancel]
      exact scratch c n _

/-- What the body leaves in the output's buffer at a point: the payload over the point's blocks. -/
theorem out (c : Dev nD) (t : Fin cfg0.N) : (outsAt0 m c t.val t.isLt).1
    = k0_pay3 (iblk m c 0 t) (k0_pay1 (iblk m c 1 t)) (k0_pay2 (iblk m c 2 t)) := by
  by_cases hr : t.val % 4 = 0
  · rw [outsAt0_A m c t hr]; frame_out
  · obtain ⟨n, h⟩ := t
    obtain _ | n := n
    · exact absurd rfl hr
    · rw [outsAt0_B m c ⟨n + 1, h⟩ hr, blk1_succ m c n h hr, blk2_succ m c n h hr]
      rw [← (scratch m c n _).1, ← (scratch m c n _).2]
      frame_out
      exact congrArg₂ (k0_pay3 _) (Memref.IsWhole.read_unread (Memref.isWhole_whole _) _) (Memref.IsWhole.read_unread (Memref.isWhole_whole _) _)

/-- The reference's result, as a function of its two arguments. -/
abbrev REF (X : FVec Ideal S8704x2048 .f32) (W : FVec Ideal S1x2048x11264 .f32) : FVec Ideal S8704x5632 .bf16 :=
  truncf .bf16 (mulf (mulf (extractStridedSlice Cert.Ffn1RefIdeal.S8704x5632 ![0, 0] (Host.dotGeneral Cert.Ffn1RefIdeal.dot_S8704x2048_S2048x11264_S8704x11264_1_0_0_1_n_n none X (shapeCast _ W Cert.Ffn1RefIdeal.Gen.shapeCasts_S1x2048x11264_S2048x11264)) Cert.Ffn1RefIdeal.Gen.slices_S8704x11264_S8704x5632_0_0) (Host.divf (broadcastInDim Cert.Ffn1RefIdeal.S8704x5632 ![] Cert.Ffn1RefIdeal.Gen.bcast_S_S8704x5632 (constant Cert.Ffn1RefIdeal.S_ .f32 0x3F800000#32)) (addf (broadcastInDim Cert.Ffn1RefIdeal.S8704x5632 ![] Cert.Ffn1RefIdeal.Gen.bcast_S_S8704x5632 (constant Cert.Ffn1RefIdeal.S_ .f32 0x3F800000#32)) (Host.exp (Host.negf (extractStridedSlice Cert.Ffn1RefIdeal.S8704x5632 ![0, 0] (Host.dotGeneral Cert.Ffn1RefIdeal.dot_S8704x2048_S2048x11264_S8704x11264_1_0_0_1_n_n none X (shapeCast _ W Cert.Ffn1RefIdeal.Gen.shapeCasts_S1x2048x11264_S2048x11264)) Cert.Ffn1RefIdeal.Gen.slices_S8704x11264_S8704x5632_0_0)))))) (extractStridedSlice Cert.Ffn1RefIdeal.S8704x5632 ![0, 5632] (Host.dotGeneral Cert.Ffn1RefIdeal.dot_S8704x2048_S2048x11264_S8704x11264_1_0_0_1_n_n none X (shapeCast _ W Cert.Ffn1RefIdeal.Gen.shapeCasts_S1x2048x11264_S2048x11264)) Cert.Ffn1RefIdeal.Gen.slices_S8704x11264_S8704x5632_0_5632)) Cert.Ffn1RefIdeal.Gen.bitsLt_bf16_f32

/-- The payload of a grid point, at an index of its block, is the reference's result where the block lies. -/
theorem point (c : Dev nD) (t : Fin cfg0.N) (y) : k0_pay3 (iblk m c 0 t) (k0_pay1 (iblk m c 1 t)) (k0_pay2 (iblk m c 2 t)) y
    = REF (m ((c : Thread nD τ).loc main_arg0)) (m ((c : Thread nD τ).loc main_arg1)) (((cfg0.win 3).blk t).view.emb y) := by
  pointwise [k0_pay1, k0_pay2, k0_pay3, REF]
  simp only [zero_sub]
  blk_point [iblk, V, idx t]

/-- The result array after the run is the reference's. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3, out]
  exact point m c t y

end Cert.Ffn1Ideal.Val
end
-- ==== Proof.GatesPoolValue.lean ====
module

public import proofs.«01_k».proof.Proof.Gen.GatesPoolIdeal.Frame
public import proofs.«01_k».proof.Proof.Gen.GatesPoolRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GatesPoolIdeal.Val

open Cert.GatesPoolIdeal Cert.GatesPoolIdeal.Gen

variable (m : (ℓ : Loc nD τ sig) → Buf (Elt Ideal) ℓ) (ρ : Dev nD → PrngReg)

/-- The block each window reads or writes at a grid point: the row block is the point modulo 8; the column block of the
    result is the point divided by 8, whose weights start one block later in the pool and gate columns, the last block
    being the pool's; the second weight window holds the 16 rows that follow the first. -/
theorem idx : ∀ t : Fin cfg0.N, win0_0.index t = ![t.val % 8, 0] ∧ win0_1.index t = ![4 + (t.val / 8 + 1) % 5, 0]
    ∧ win0_2.index t = ![64 * (5 + (t.val / 8 + 1) % 5), 0] ∧ win0_3.index t = ![t.val % 8, t.val / 8] :=
  (by decide +kernel : ∀ t : Fin grid0.N, _)

/-- The rounded weights of a point: the 1008 rows that follow the first window's first 16, and the second window's 16. -/
abbrev WB (c : Dev nD) (t : Fin cfg0.N) : FVec Ideal S1024x2048 .bf16 :=
  k0_pay1 (View.ld (X0_1 m c t) (Rect.unit ![16, 0] ![1008, 2048] inb_S1024x2048_S1008x2048_16_0)) (iblk m c 2 t)

/-- Row `n` of a point's rounded weights is the weights' column `n` past the block's first one. -/
theorem wblk (c : Dev nD) (t : Fin cfg0.N) (n : Fin 1024) (k : Fin 2048) (h : 4112 + (t.val / 8 + 1) % 5 * 1024 + n.val < 9232) :
    WB m c t (ix2 n k) = m ((c : Thread nD τ).loc main_arg1) (ix3 0 k ⟨4112 + (t.val / 8 + 1) % 5 * 1024 + n.val, h⟩) := by
  pointwise [WB, k0_pay1]
  split
  · unfold X0_1 Pipeline.Window.fill
    rw [dif_pos (moved0_1 t _)]
    blk_point [iblk, V, idx t]
  · blk_point [iblk, V, idx t]

/-- Between two resets the weights do not move. -/
theorem wblk_succ (c : Dev nD) (n : ℕ) (h : n + 1 < cfg0.N) (hr : ¬(n + 1) % 8 = 0) :
    WB m c ⟨n + 1, h⟩ = WB m c ⟨n, Nat.lt_of_succ_lt h⟩ := by
  have e : (n + 1) / 8 = n / 8 := by omega
  funext y
  have hy : (y 0).val < 1024 := (y 0).isLt
  rw [eq_ix2 y]
  refine (wblk m c ⟨n + 1, h⟩ (y 0) (y 1) (by omega)).trans (Eq.trans ?_ (wblk m c ⟨n, _⟩ (y 0) (y 1) (by omega)).symm)
  simp only [e]

/-- After every grid point the scratch buffer holds the point's weights, rounded. -/
theorem scratch (c : Dev nD) : ∀ (n : ℕ) (h : n < cfg0.N), (outsAt0 m c n h).2 = WB m c ⟨n, h⟩
  | 0, h => by rw [outsAt0_A m c ⟨0, h⟩ rfl]; frame_out; rfl
  | n + 1, h => by
    by_cases hr : (n + 1) % 8 = 0
    · rw [outsAt0_A m c ⟨n + 1, h⟩ hr]; frame_out; rfl
    · rw [outsAt0_B m c ⟨n + 1, h⟩ hr, wblk_succ m c n h hr]
      simp only [sout0_B_0, Nat.add_sub_cancel]
      exact scratch c n _

/-- What the body leaves in the output's buffer at a point: the payload over the point's blocks. -/
theorem out (c : Dev nD) (t : Fin cfg0.N) : (outsAt0 m c t.val t.isLt).1 = k0_pay2 (iblk m c 0 t) (WB m c t) := by
  by_cases hr : t.val % 8 = 0
  · rw [outsAt0_A m c t hr]; frame_out; rfl
  · obtain ⟨n, h⟩ := t
    obtain _ | n := n
    · exact absurd rfl hr
    · rw [outsAt0_B m c ⟨n + 1, h⟩ hr, wblk_succ m c n h hr, ← scratch m c n _]
      frame_out
      exact congrArg (k0_pay2 _) (Memref.IsWhole.read_unread (Memref.isWhole_whole _) _)

/-- The reference's whole product. -/
abbrev PROJ (X : FVec Ideal S8704x2048 .f32) (W : FVec Ideal S1x2048x9232 .f32) : FVec Ideal Cert.GatesPoolRefIdeal.S8704x5120 .f32 :=
  extractStridedSlice Cert.GatesPoolRefIdeal.S8704x5120 ![0, 4112] (Host.dotGeneral Cert.GatesPoolRefIdeal.dot_S8704x2048_S2048x9232_S8704x9232_1_0_0_1_n_n none X (shapeCast _ W Cert.GatesPoolRefIdeal.Gen.shapeCasts_S1x2048x9232_S2048x9232)) Cert.GatesPoolRefIdeal.Gen.slices_S8704x9232_S8704x5120_0_4112

/-- The reference's result, as a function of its two arguments. -/
abbrev REF (X : FVec Ideal S8704x2048 .f32) (W : FVec Ideal S1x2048x9232 .f32) : FVec Ideal Cert.GatesPoolRefIdeal.S8704x5120 .f32 :=
  (concatenate Cert.GatesPoolRefIdeal.S8704x5120 1 [⟨Cert.GatesPoolRefIdeal.S8704x2048, ((extractStridedSlice Cert.GatesPoolRefIdeal.S8704x2048 ![0, 1024] (PROJ X W) Cert.GatesPoolRefIdeal.Gen.slices_S8704x5120_S8704x2048_0_1024) : (⟨Cert.GatesPoolRefIdeal.S8704x2048, .f32⟩ : BufTy).Contents (Elt Ideal))⟩, ⟨Cert.GatesPoolRefIdeal.S8704x2048, ((extractStridedSlice Cert.GatesPoolRefIdeal.S8704x2048 ![0, 3072] (PROJ X W) Cert.GatesPoolRefIdeal.Gen.slices_S8704x5120_S8704x2048_0_3072) : (⟨Cert.GatesPoolRefIdeal.S8704x2048, .f32⟩ : BufTy).Contents (Elt Ideal))⟩, ⟨Cert.GatesPoolRefIdeal.S8704x1024, ((extractStridedSlice Cert.GatesPoolRefIdeal.S8704x1024 ![0, 0] (PROJ X W) Cert.GatesPoolRefIdeal.Gen.slices_S8704x5120_S8704x1024_0_0) : (⟨Cert.GatesPoolRefIdeal.S8704x1024, .f32⟩ : BufTy).Contents (Elt Ideal))⟩] Cert.GatesPoolRefIdeal.Gen.concatenates_S8704x2048_S8704x2048_S8704x1024_S8704x5120_d1 : (⟨Cert.GatesPoolRefIdeal.S8704x5120, .f32⟩ : BufTy).Contents (Elt Ideal))

/-- The reference's result at an index: the product of the row and of the column the concatenation takes it from. -/
theorem REF_at (X : FVec Ideal S8704x2048 .f32) (W : FVec Ideal S1x2048x9232 .f32) (r : Fin 8704) (n : Fin 5120)
    (h : 4112 + (n.val + 1024) % 5120 < 9232) :
    REF X W (ix2 r n) = ∑ k : Fin 2048, X (ix2 r k) * W (ix3 0 k ⟨4112 + (n.val + 1024) % 5120, h⟩) := by
  pointwise [REF, PROJ]
  have hn := n.isLt
  split
  · refine Fin.sum_fin_congr fun k => ?_
    blk_point []
  · split
    · refine Fin.sum_fin_congr fun k => ?_
      blk_point []
    · refine Fin.sum_fin_congr fun k => ?_
      blk_point []

/-- The payload of a grid point, at an index of its block, is the reference's result where the block lies. -/
theorem point (c : Dev nD) (t : Fin cfg0.N) (y) : k0_pay2 (iblk m c 0 t) (WB m c t) y
    = REF (m ((c : Thread nD τ).loc main_arg0)) (m ((c : Thread nD τ).loc main_arg1)) (((cfg0.win 3).blk t).view.emb y) := by
  have hN : t.val < 40 := lt_of_lt_of_eq t.isLt N_0
  have h0 : (((cfg0.win 3).blk t).view.emb y 0).val = t.val % 8 * 1088 + (y 0).val := by blk_simp [idx t]
  have h1 : (((cfg0.win 3).blk t).view.emb y 1).val = t.val / 8 * 1024 + (y 1).val := by blk_simp [idx t]
  have hy : (y 1).val < 1024 := (y 1).isLt
  refine Eq.trans ?_ ((congrArg (REF _ _) (eq_ix2 (n0 := 8704) (n1 := 5120) (((cfg0.win 3).blk t).view.emb y))).trans
    (REF_at _ _ _ _ (by omega))).symm
  pointwise [k0_pay2]
  refine Fin.sum_fin_congr fun x => congrArg₂ (fun a b : EReal => a * b) ?_ ((wblk m c t (y 1) x (by omega)).trans ?_)
  · blk_point [iblk, V, idx t]
  · blk_point [iblk, V, idx t]

/-- The result array after the run is the reference's. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3, out]
  exact point m c t y

end Cert.GatesPoolIdeal.Val
end
-- ==== Proof.QkvzValue.lean ====
module

public import proofs.«01_k».proof.Proof.Gen.QkvzIdeal.Frame
public import proofs.«01_k».proof.Proof.Gen.QkvzRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QkvzIdeal.Val

open Cert.QkvzIdeal Cert.QkvzIdeal.Gen

variable (m : (ℓ : Loc nD τ sig) → Buf (Elt Ideal) ℓ) (ρ : Dev nD → PrngReg)

/-- The block each window reads or writes at a grid point: the row block is the point modulo 8, the column block the
    point divided by 8. -/
theorem idx : ∀ t : Fin cfg0.N, win0_0.index t = ![t.val % 8, 0] ∧ win0_1.index t = ![t.val / 8, 0]
    ∧ win0_2.index t = ![t.val % 8, t.val / 8] :=
  (by decide +kernel : ∀ t : Fin grid0.N, _)

/-- The weights' block of a point, read from the argument: the transposed weights' rows, none past the array's end. -/
theorem wblk (c : Dev nD) (t : Fin cfg0.N) (n : Fin 1024) (k : Fin 2048) (h : t.val / 8 * 1024 + n.val < 9232) :
    X0_1 m c t (ix2 n k) = m ((c : Thread nD τ).loc main_arg1) (ix3 0 k ⟨t.val / 8 * 1024 + n.val, h⟩) := by
  unfold X0_1 Pipeline.Window.fill
  rw [dif_pos (moved0_1 t _)]
  blk_point [iblk, V, idx t]

/-- Between two resets the weights' block does not move. -/
theorem wblk_succ (c : Dev nD) (n : ℕ) (h : n + 1 < cfg0.N) (hr : ¬(n + 1) % 8 = 0) :
    X0_1 m c ⟨n + 1, h⟩ = X0_1 m c ⟨n, Nat.lt_of_succ_lt h⟩ := by
  have e : (n + 1) / 8 = n / 8 := by omega
  funext y
  unfold X0_1 Pipeline.Window.fill
  rw [dif_pos (moved0_1 _ y), dif_pos (moved0_1 _ y)]
  blk_ext [iblk, V, idx ⟨n + 1, h⟩, idx ⟨n, Nat.lt_of_succ_lt h⟩]

/-- After every grid point the scratch buffer holds the point's weight block, rounded. -/
theorem scratch (c : Dev nD) : ∀ (n : ℕ) (h : n < cfg0.N), (outsAt0 m c n h).2 = k0_pay1 (X0_1 m c ⟨n, h⟩)
  | 0, h => by rw [outsAt0_A m c ⟨0, h⟩ rfl]; frame_out
  | n + 1, h => by
    by_cases hr : (n + 1) % 8 = 0
    · rw [outsAt0_A m c ⟨n + 1, h⟩ hr]; frame_out
    · rw [outsAt0_B m c ⟨n + 1, h⟩ hr, wblk_succ m c n h hr]
      simp only [sout0_B_0, Nat.add_sub_cancel]
      exact scratch c n _

/-- What the body leaves in the output's buffer at a point: the payload over the point's blocks. -/
theorem out (c : Dev nD) (t : Fin cfg0.N) : (outsAt0 m c t.val t.isLt).1
    = k0_pay2 (iblk m c 0 t) (k0_pay1 (X0_1 m c t)) := by
  by_cases hr : t.val % 8 = 0
  · rw [outsAt0_A m c t hr]; frame_out
  · obtain ⟨n, h⟩ := t
    obtain _ | n := n
    · exact absurd rfl hr
    · rw [outsAt0_B m c ⟨n + 1, h⟩ hr, wblk_succ m c n h hr, ← scratch m c n _]
      frame_out
      exact congrArg (k0_pay2 _) (Memref.IsWhole.read_unread (Memref.isWhole_whole _) _)

/-- The reference's result, as a function of its two arguments. -/
abbrev REF (X : FVec Ideal S8704x2048 .f32) (W : FVec Ideal S1x2048x9232 .f32) : FVec Ideal S8704x4096 .f32 :=
  extractStridedSlice Cert.QkvzRefIdeal.S8704x4096 ![0, 0] (Host.dotGeneral Cert.QkvzRefIdeal.dot_S8704x2048_S2048x9232_S8704x9232_1_0_0_1_n_n none X (shapeCast _ W Cert.QkvzRefIdeal.Gen.shapeCasts_S1x2048x9232_S2048x9232)) Cert.QkvzRefIdeal.Gen.slices_S8704x9232_S8704x4096_0_0

/-- The payload of a grid point, at an index of its block, is the reference's result where the block lies. -/
theorem point (c : Dev nD) (t : Fin cfg0.N) (y) : k0_pay2 (iblk m c 0 t) (k0_pay1 (X0_1 m c t)) y
    = REF (m ((c : Thread nD τ).loc main_arg0)) (m ((c : Thread nD τ).loc main_arg1)) (((cfg0.win 2).blk t).view.emb y) := by
  have hN : t.val < 32 := lt_of_lt_of_eq t.isLt N_0
  have hw : ∀ (n : Fin 1024) (k : Fin 2048), X0_1 m c t (ix2 n k) = m ((c : Thread nD τ).loc main_arg1) (ix3 0 k ⟨t.val / 8 * 1024 + n.val, by omega⟩) :=
    fun n k => wblk m c t n k _
  pointwise [k0_pay1, k0_pay2, REF]
  refine Fin.sum_fin_congr fun x => congrArg₂ (fun a b : EReal => a * b) ?_ ((hw (y 1) x).trans ?_)
  · blk_point [iblk, V, idx t]
  · blk_point [iblk, V, idx t]

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2, out]
  exact point m c t y

end Cert.QkvzIdeal.Val
end
-- ==== Proof.Stores.lean ====
module

public import Idealize.ShloMosaic.Lib.Pipeline.ValueKit

@[expose] public section

set_option maxRecDepth 16384

noncomputable section

open Idealize.ShloMosaic

namespace Cert.Stores

/-! What a buffer holds after stores made one after another, each to the indices of one place in an order. -/

section Mix
variable {S : Shape} {e : EltTy} {Val : EltTy → Type} [∀ e, Nonempty (Val e)]

/-- The stores `L` were made in the order `ord` and the first `k` are done: they leave `G` at the indices they have reached
    and the earlier contents `J` elsewhere. -/
def Mix (k : ℕ) (ord : S.Idx → ℕ) (G J : S.Idx → Val e) (L : List (View.Piece Val S e)) : Prop :=
  View.canon L = fun y => if ord y < k then G y else J y

/-- When all the stores are done, they leave `G`. -/
theorem Mix.full {k : ℕ} {ord : S.Idx → ℕ} {G J : S.Idx → Val e} {L : List (View.Piece Val S e)} (h : Mix k ord G J L)
    (hk : ∀ y, ord y < k) : View.canon L = G := by
  rw [h]; funext y; exact if_pos (hk y)

/-- Before the first of the stores the earlier contents are there. -/
theorem Mix.start {k : ℕ} {ord : S.Idx → ℕ} {G J : S.Idx → Val e} {L : List (View.Piece Val S e)} (h : View.canon L = J)
    (hk : ∀ y, k ≤ ord y) : Mix k ord G J L := by
  rw [Mix, h]; funext y; exact (if_neg (by have := hk y; omega)).symm

/-- One more store. -/
theorem mix_cons (ord : S.Idx → ℕ) (k : ℕ) (r : Rect S) (w : r.shape.Idx → Val e) (L : List (View.Piece Val S e)) (J G : S.Idx → Val e)
    (hL : Mix k ord G J L)
    (h1 : ∀ x, ord (r.emb x) = k) (h2 : ∀ y, ord y = k → y ∈ r.set) (hw : ∀ x, w x = G (r.emb x)) :
    Mix (k + 1) ord G J ((⟨r, w⟩ : View.Piece Val S e) :: L) := by
  funext y
  by_cases hy : y ∈ r.set
  · obtain ⟨x, rfl⟩ : ∃ x, r.emb x = y := r.exists_idx_of_mem hy
    rw [View.canon_cons_emb, hw, if_pos (by rw [h1]; omega)]
  · rw [View.canon_cons_of_not_mem _ _ hy, hL]
    have : ord y ≠ k := fun h => hy (h2 y h)
    by_cases h : ord y < k
    · simp only [if_pos h, if_pos (show ord y < k + 1 by omega)]
    · simp only [if_neg h, if_neg (show ¬ ord y < k + 1 by omega)]

end Mix

end Cert.Stores
-- ==== Proof.ScanStep.lean ====
module

public import proofs.«01_k».proof.Proof.Stores
public import proofs.«01_k».proof.Proof.Gen.ScanIdeal.Frame
public import Idealize.ShloMosaic.Lib.Pipeline.ValueKit

@[expose] public section

set_option maxRecDepth 16384

noncomputable section

open Idealize.ShloMosaic Idealize.ShloMosaic.TcCoe Idealize.SL.Sem

namespace Cert.ScanIdeal.Val

open Cert.ScanIdeal Cert.ScanIdeal.Gen

/-! One chunk of one chain of the recurrence, on the blocks a grid point reads. A point holds two chunks of the 32 chains
    (four sequences by eight heads): chain-chunk `k` is chunk `k / 32` of chain `k % 32`, which is head `k % 8` of
    sequence `k % 32 / 8`. -/

/-- Entry `(i, v)` of the product of chain-chunk `k`'s triangular block with its rows of `a`. -/
def ubAt (t : Vec Ideal S4x16x64x64 .bf16) (a : Vec Ideal S4x128x1024 .bf16) (k : Fin 64) (i : Fin 64) (v : Fin 128) : EReal :=
  ∑ j : Fin 64, t (ix4 ⟨k.val % 32 / 8, by omega⟩ ⟨k.val / 32 * 8 + k.val % 8, by omega⟩ i j)
    * a (ix3 ⟨k.val % 32 / 8, by omega⟩ ⟨k.val / 32 * 64 + j.val, by omega⟩ ⟨k.val % 8 * 128 + v.val, by omega⟩)

/-- Entry `(j, v)` of chain-chunk `k`'s corrected values, from the states `s` before the chunk. -/
def uAt (x0 : Vec Ideal S4x16x64x64 .bf16) (x2 x3 : Vec Ideal S4x128x1024 .bf16) (s : Vec Ideal S32x128x128 .f32)
    (k : Fin 64) (j : Fin 64) (v : Fin 128) : EReal :=
  ubAt x0 x2 k j v - ∑ d : Fin 128, ubAt x0 x3 k j d * s (ix3 ⟨k.val % 32, by omega⟩ d v)

/-- Entry `(d, v)` of the chain's state after chain-chunk `k`. -/
def sAt (x0 : Vec Ideal S4x16x64x64 .bf16) (x1 : Vec Ideal S4x16x192x64 .bf16) (x2 x3 : Vec Ideal S4x128x1024 .bf16)
    (x5 : Vec Ideal S4x128x128 .f32) (s : Vec Ideal S32x128x128 .f32) (k : Fin 64) (d v : Fin 128) : EReal :=
  s (ix3 ⟨k.val % 32, by omega⟩ d v) * x5 (ix3 ⟨k.val % 32 / 8, by omega⟩ ⟨k.val / 32 * 64, by omega⟩ ⟨k.val % 8, by omega⟩)
    + ∑ j : Fin 64, x1 (ix4 ⟨k.val % 32 / 8, by omega⟩ ⟨k.val / 32 * 8 + k.val % 8, by omega⟩ ⟨64 + d.val, by omega⟩ j)
        * uAt x0 x2 x3 s k j v

/-- Entry `(i, v)` of chain-chunk `k`'s output. -/
def oAt (x0 : Vec Ideal S4x16x64x64 .bf16) (x1 : Vec Ideal S4x16x192x64 .bf16) (x2 x3 x4 : Vec Ideal S4x128x1024 .bf16)
    (s : Vec Ideal S32x128x128 .f32) (k : Fin 64) (i : Fin 64) (v : Fin 128) : EReal :=
  (∑ d : Fin 128, x4 (ix3 ⟨k.val % 32 / 8, by omega⟩ ⟨k.val / 32 * 64 + i.val, by omega⟩ ⟨k.val % 8 * 128 + d.val, by omega⟩)
      * s (ix3 ⟨k.val % 32, by omega⟩ d v))
    + ∑ j : Fin 64, x1 (ix4 ⟨k.val % 32 / 8, by omega⟩ ⟨k.val / 32 * 8 + k.val % 8, by omega⟩ ⟨i.val, by omega⟩ j)
        * uAt x0 x2 x3 s k j v

/-- The first products of all chain-chunks. -/
def UB (t : Vec Ideal S4x16x64x64 .bf16) (a : Vec Ideal S4x128x1024 .bf16) : S64x64x128.Idx → EReal :=
  fun y => ubAt t a (y 0) (y 1) (y 2)

/-- The states of all chains after chunk `ck`, from those before it. -/
def SN (ck : ℕ) (hck : ck < 2) (x0 : Vec Ideal S4x16x64x64 .bf16) (x1 : Vec Ideal S4x16x192x64 .bf16)
    (x2 x3 : Vec Ideal S4x128x1024 .bf16) (x5 : Vec Ideal S4x128x128 .f32) (s : Vec Ideal S32x128x128 .f32) : S32x128x128.Idx → EReal :=
  fun y => sAt x0 x1 x2 x3 x5 s ⟨32 * ck + (show Fin 32 from y 0).val, by have := (show Fin 32 from y 0).isLt; omega⟩ (y 1) (y 2)

/-- The state payload, entry by entry, from what its loads read. -/
theorem pay_s (W : Vec Ideal S1x64x128 .bf16) (Q : Vec Ideal S1x64x128 .bf16) (S : Vec Ideal S1x128x128 .f32)
    (U : Vec Ideal S1x64x128 .f32) (L : Vec Ideal S1x1x192x64 .bf16) (C : Vec Ideal S1x1x1 .f32) (S' : Vec Ideal S1x128x128 .f32)
    (d v : Fin 128) :
    k0_pay564 (F := Ideal) (k0_pay446 W Q S) U L C S' (ix3 0 d v)
      = S' (ix3 0 d v) * C (ix3 0 0 0) + ∑ j : Fin 64, L (ix4 0 0 ⟨64 + d.val, by omega⟩ j)
          * (U (ix3 0 j v) - ∑ d' : Fin 128, W (ix3 0 j d') * S (ix3 0 d' v)) := by
  pointwise [k0_pay564, k0_pay446, k0_pay562]

/-- The output payload, entry by entry. -/
theorem pay_o (W : Vec Ideal S1x64x128 .bf16) (Q : Vec Ideal S1x64x128 .bf16) (S : Vec Ideal S1x128x128 .f32)
    (U : Vec Ideal S1x64x128 .f32) (L : Vec Ideal S1x1x192x64 .bf16) (i : Fin 64) (v : Fin 128) :
    k0_pay563 (F := Ideal) (k0_pay446 W Q S) U L (ix3 0 i v)
      = (∑ d : Fin 128, Q (ix3 0 i d) * S (ix3 0 d v)) + ∑ j : Fin 64, L (ix4 0 0 ⟨i.val, by omega⟩ j)
          * (U (ix3 0 j v) - ∑ d' : Fin 128, W (ix3 0 j d') * S (ix3 0 d' v)) := by
  pointwise [k0_pay563, k0_pay446, k0_pay562]

/-- The first product's payload, entry by entry: its left half … -/
theorem pay_u (A B : Vec Ideal S1x64x128 .bf16) (T : Vec Ideal S1x1x64x64 .bf16) (i : Fin 64) (v : Fin 128) :
    k0_pay3 (F := Ideal) A B T (ix3 0 i v) = ∑ j : Fin 64, T (ix4 0 0 i j) * A (ix3 0 j v) := by
  pointwise [k0_pay3, k0_pay2]

/-- … and its right half. -/
theorem pay_w (A B : Vec Ideal S1x64x128 .bf16) (T : Vec Ideal S1x1x64x64 .bf16) (i : Fin 64) (v : Fin 128) :
    k0_pay4 (F := Ideal) A B T (ix3 0 i v) = ∑ j : Fin 64, T (ix4 0 0 i j) * B (ix3 0 j v) := by
  pointwise [k0_pay4, k0_pay2]

open Cert.Stores

/-! The boxes chain-chunk `k` reads and writes. -/

/-- Its triangular block. -/
abbrev rT (k : ℕ) (hk : k < 64) : Rect S4x16x64x64 := Rect.unit ![k % 32 / 8, k / 32 * 8 + k % 8, 0, 0] ![1, 1, 64, 64]
  (by simp only [Fin.forall_fin_succ]; refine ⟨?_, ?_, ?_, ?_, fun i => i.elim0⟩ <;> simp <;> omega)

/-- Its two stacked factors. -/
abbrev rL (k : ℕ) (hk : k < 64) : Rect S4x16x192x64 := Rect.unit ![k % 32 / 8, k / 32 * 8 + k % 8, 0, 0] ![1, 1, 192, 64]
  (by simp only [Fin.forall_fin_succ]; refine ⟨?_, ?_, ?_, ?_, fun i => i.elim0⟩ <;> simp <;> omega)

/-- Its rows and columns of a token array. -/
abbrev rA (k : ℕ) (hk : k < 64) : Rect S4x128x1024 := Rect.unit ![k % 32 / 8, k / 32 * 64, k % 8 * 128] ![1, 64, 128]
  (by simp only [Fin.forall_fin_succ]; refine ⟨?_, ?_, ?_, fun i => i.elim0⟩ <;> simp <;> omega)

/-- Its decay. -/
abbrev rC (k : ℕ) (hk : k < 64) : Rect S4x128x128 := Rect.unit ![k % 32 / 8, k / 32 * 64, k % 8] ![1, 1, 1]
  (by simp only [Fin.forall_fin_succ]; refine ⟨?_, ?_, ?_, fun i => i.elim0⟩ <;> simp <;> omega)

/-- Its chain's state. -/
abbrev rS (k : ℕ) (hk : k < 64) : Rect S32x128x128 := Rect.unit ![k % 32, 0, 0] ![1, 128, 128]
  (by simp only [Fin.forall_fin_succ]; refine ⟨?_, ?_, ?_, fun i => i.elim0⟩ <;> simp <;> omega)

/-- Its first products. -/
abbrev rU (k : ℕ) (hk : k < 64) : Rect S64x64x128 := Rect.unit ![k, 0, 0] ![1, 64, 128]
  (by simp only [Fin.forall_fin_succ]; refine ⟨?_, ?_, ?_, fun i => i.elim0⟩ <;> (try simp) <;> try omega)

/-- A load from a whole buffer reads the contents at the box. -/
theorem rd_whole {sp : Space} {S : Shape} {e : EltTy} {a : Memref sig .tc sp S e} (h : a.IsWhole) (X : Vec Ideal S e) (r : Rect S) :
    View.readAt (Elt Ideal) a.view r.toLoadRect (h.unread X) = View.ld X r := by
  rw [View.readAt_eq_ld, h.read_unread]

/-- A load after stores reads what they leave. -/
theorem rd_cov {sp : Space} {S : Shape} {e : EltTy} (v : View sig .tc sp S e) (L : List (View.Piece (Elt Ideal) S e))
    (G : S.Idx → Elt Ideal e) (hL : View.canon L = G) (r : Rect S) :
    v.readCov L r.toLoadRect = View.ld G r := by
  rw [View.readCov_eq_canon', hL]

/-! Where an index of a box lies in its array. -/

theorem embT (k : ℕ) (hk : k < 64) (i j : Fin 64) :
    (rT k hk).emb (ix4 0 0 i j) = ix4 ⟨k % 32 / 8, by omega⟩ ⟨k / 32 * 8 + k % 8, by omega⟩ i j := by
  funext a; refine Fin.ext ?_; rw [Rect.emb_apply]; fin_cases a <;> simp

theorem embL (k : ℕ) (hk : k < 64) (i : Fin 192) (j : Fin 64) :
    (rL k hk).emb (ix4 0 0 i j) = ix4 ⟨k % 32 / 8, by omega⟩ ⟨k / 32 * 8 + k % 8, by omega⟩ i j := by
  funext a; refine Fin.ext ?_; rw [Rect.emb_apply]; fin_cases a <;> simp

theorem embA (k : ℕ) (hk : k < 64) (i : Fin 64) (v : Fin 128) :
    (rA k hk).emb (ix3 0 i v) = ix3 ⟨k % 32 / 8, by omega⟩ ⟨k / 32 * 64 + i.val, by omega⟩ ⟨k % 8 * 128 + v.val, by omega⟩ := by
  funext a; refine Fin.ext ?_; rw [Rect.emb_apply]; fin_cases a <;> simp

theorem embC (k : ℕ) (hk : k < 64) :
    (rC k hk).emb (ix3 0 0 0) = ix3 ⟨k % 32 / 8, by omega⟩ ⟨k / 32 * 64, by omega⟩ ⟨k % 8, by omega⟩ := by
  funext a; refine Fin.ext ?_; rw [Rect.emb_apply]; fin_cases a <;> simp

theorem embS (k : ℕ) (hk : k < 64) (d v : Fin 128) :
    (rS k hk).emb (ix3 0 d v) = ix3 ⟨k % 32, by omega⟩ d v := by
  funext a; refine Fin.ext ?_; rw [Rect.emb_apply]; fin_cases a <;> simp

theorem embU (k : ℕ) (hk : k < 64) (i : Fin 64) (v : Fin 128) :
    (rU k hk).emb (ix3 0 i v) = ix3 ⟨k, hk⟩ i v := by
  funext a; refine Fin.ext ?_; rw [Rect.emb_apply]; fin_cases a <;> simp

/-! What a load through one of the boxes reads. -/

theorem ldT (X : Vec Ideal S4x16x64x64 .bf16) (k : ℕ) (hk : k < 64) (i j : Fin 64) :
    View.ld X (rT k hk) (ix4 0 0 i j) = X (ix4 ⟨k % 32 / 8, by omega⟩ ⟨k / 32 * 8 + k % 8, by omega⟩ i j) := congrArg X (embT k hk i j)

theorem ldL (X : Vec Ideal S4x16x192x64 .bf16) (k : ℕ) (hk : k < 64) (i : Fin 192) (j : Fin 64) :
    View.ld X (rL k hk) (ix4 0 0 i j) = X (ix4 ⟨k % 32 / 8, by omega⟩ ⟨k / 32 * 8 + k % 8, by omega⟩ i j) := congrArg X (embL k hk i j)

theorem ldA (X : Vec Ideal S4x128x1024 .bf16) (k : ℕ) (hk : k < 64) (i : Fin 64) (v : Fin 128) :
    View.ld X (rA k hk) (ix3 0 i v) = X (ix3 ⟨k % 32 / 8, by omega⟩ ⟨k / 32 * 64 + i.val, by omega⟩ ⟨k % 8 * 128 + v.val, by omega⟩) :=
  congrArg X (embA k hk i v)

theorem ldC (X : Vec Ideal S4x128x128 .f32) (k : ℕ) (hk : k < 64) :
    View.ld X (rC k hk) (ix3 0 0 0) = X (ix3 ⟨k % 32 / 8, by omega⟩ ⟨k / 32 * 64, by omega⟩ ⟨k % 8, by omega⟩) := congrArg X (embC k hk)

theorem ldS (X : S32x128x128.Idx → EReal) (k : ℕ) (hk : k < 64) (d v : Fin 128) :
    View.ld (Val := Elt Ideal) (e' := .f32) X (rS k hk) (ix3 0 d v) = X (ix3 ⟨k % 32, by omega⟩ d v) := congrArg X (embS k hk d v)

theorem ldU (X : S64x64x128.Idx → EReal) (k : ℕ) (hk : k < 64) (i : Fin 64) (v : Fin 128) :
    View.ld (Val := Elt Ideal) (e' := .f32) X (rU k hk) (ix3 0 i v) = X (ix3 ⟨k, hk⟩ i v) := congrArg X (embU k hk i v)

section Cons

variable {arg1 : Memref sig .tc .vmem S4x16x64x64 .bf16} {arg2 : Memref sig .tc .vmem S4x16x192x64 .bf16}
  {arg3 arg4 arg5 : Memref sig .tc .vmem S4x128x1024 .bf16} {arg6 : Memref sig .tc .vmem S4x128x128 .f32}
  (h1 : arg1.IsWhole) (h2 : arg2.IsWhole) (h3 : arg3.IsWhole) (h4 : arg4.IsWhole) (h5 : arg5.IsWhole) (h6 : arg6.IsWhole)
  (x0 : Vec Ideal S4x16x64x64 .bf16) (x1 : Vec Ideal S4x16x192x64 .bf16) (x2 x3 x4 : Vec Ideal S4x128x1024 .bf16)
  (x5 : Vec Ideal S4x128x128 .f32) (s : Vec Ideal S32x128x128 .f32)

/-- The product of a chain-chunk's blocks, as loaded. -/
theorem ub_ld (a : Vec Ideal S4x128x1024 .bf16) (k : ℕ) (hk : k < 64) (i : Fin 64) (v : Fin 128) :
    (∑ j : Fin 64, View.ld x0 (rT k hk) (ix4 0 0 i j) * View.ld a (rA k hk) (ix3 0 j v) : EReal) = ubAt x0 a ⟨k, hk⟩ i v := by
  exact Finset.sum_congr rfl fun j _ => congrArg₂ (fun p q : EReal => p * q) (ldT x0 k hk i j) (ldA a k hk j v)

/-- One more first product (left half) stored. -/
theorem u_cons (k : ℕ) (hk : k < 64) (w : (rU k hk).shape.Idx → Elt Ideal .f32) (L : List (View.Piece (Elt Ideal) S64x64x128 .f32))
    (J : S64x64x128.Idx → Elt Ideal .f32)
    (hw : w = k0_pay3 (F := Ideal) (View.readAt (Elt Ideal) arg3.view (rA k hk).toLoadRect (h3.unread x2))
      (View.readAt (Elt Ideal) arg4.view (rA k hk).toLoadRect (h4.unread x3))
      (View.readAt (Elt Ideal) arg1.view (rT k hk).toLoadRect (h1.unread x0)))
    (hL : Mix k (fun y => (y 0).val) (UB x0 x2) J L) :
    Mix (k + 1) (fun y => (y 0).val) (UB x0 x2) J ((⟨rU k hk, w⟩ : View.Piece (Elt Ideal) S64x64x128 .f32) :: L) := by
  refine mix_cons (fun y => (y 0).val) k _ w L J _ hL ?_ ?_ ?_ <;> (try intro x) <;>
    (try obtain ⟨a, b, c, rfl⟩ : ∃ a b c, x = ix3 a b c := ⟨_, _, _, eq_ix3 x⟩)
  · obtain rfl : a = 0 := Subsingleton.elim _ _
    rw [embU]; rfl
  · intro hy
    rw [Rect.mem_set_unit]
    simp only [Fin.forall_fin_succ]
    obtain rfl : a.val = k := hy
    refine ⟨?_, ?_, ?_, fun i => i.elim0⟩ <;> simp
  · obtain rfl : a = 0 := Subsingleton.elim _ _
    subst hw
    simp only [rd_whole]
    rw [embU, pay_u]
    exact ub_ld x0 x2 k hk b c

/-- One more first product (right half) stored. -/
theorem w_cons (k : ℕ) (hk : k < 64) (w : (rU k hk).shape.Idx → Elt Ideal .bf16) (L : List (View.Piece (Elt Ideal) S64x64x128 .bf16))
    (J : S64x64x128.Idx → Elt Ideal .bf16)
    (hw : w = k0_pay4 (F := Ideal) (View.readAt (Elt Ideal) arg3.view (rA k hk).toLoadRect (h3.unread x2))
      (View.readAt (Elt Ideal) arg4.view (rA k hk).toLoadRect (h4.unread x3))
      (View.readAt (Elt Ideal) arg1.view (rT k hk).toLoadRect (h1.unread x0)))
    (hL : Mix k (fun y => (y 0).val) (UB x0 x3) J L) :
    Mix (k + 1) (fun y => (y 0).val) (UB x0 x3) J ((⟨rU k hk, w⟩ : View.Piece (Elt Ideal) S64x64x128 .bf16) :: L) := by
  refine mix_cons (fun y => (y 0).val) k _ w L J _ hL ?_ ?_ ?_ <;> (try intro x) <;>
    (try obtain ⟨a, b, c, rfl⟩ : ∃ a b c, x = ix3 a b c := ⟨_, _, _, eq_ix3 x⟩)
  · obtain rfl : a = 0 := Subsingleton.elim _ _
    rw [embU]; rfl
  · intro hy
    rw [Rect.mem_set_unit]
    simp only [Fin.forall_fin_succ]
    obtain rfl : a.val = k := hy
    refine ⟨?_, ?_, ?_, fun i => i.elim0⟩ <;> simp
  · obtain rfl : a = 0 := Subsingleton.elim _ _
    subst hw
    simp only [rd_whole]
    rw [embU, pay_w]
    exact ub_ld x0 x3 k hk b c

variable {v0 : View sig .tc .vmem S32x128x128 .f32} {v1 : View sig .tc .vmem S64x64x128 .f32} {v2 : View sig .tc .vmem S64x64x128 .bf16}
  (LU : List (View.Piece (Elt Ideal) S64x64x128 .f32)) (LW : List (View.Piece (Elt Ideal) S64x64x128 .bf16))
  (hU : View.canon LU = UB x0 x2) (hW : View.canon LW = UB x0 x3)

include hU hW in
/-- The corrected values, from what the chain-chunk loads. -/
theorem u_ld (k : ℕ) (hk : k < 64) (S : Vec Ideal S1x128x128 .f32) (hS : S = View.ld s (rS k hk)) (j : Fin 64) (v : Fin 128) :
    (v1.readCov LU (rU k hk).toLoadRect (ix3 0 j v)
      - ∑ d' : Fin 128, v2.readCov LW (rU k hk).toLoadRect (ix3 0 j d') * S (ix3 0 d' v) : EReal) = uAt x0 x2 x3 s ⟨k, hk⟩ j v := by
  subst hS
  rw [rd_cov _ _ _ hU, rd_cov _ _ _ hW]
  exact congrArg₂ (fun p q : EReal => p - q) (ldU _ k hk j v)
    (Finset.sum_congr rfl fun d _ => congrArg₂ (fun p q : EReal => p * q) (ldU _ k hk j d) (ldS s k hk d v))

include hU hW in
/-- One more state stored: chain-chunk `k`'s, from its chain's state `s` before the chunk. -/
theorem s_cons (ck : ℕ) (hck : ck < 2) (k : ℕ) (hk : k < 64) (hkc : k / 32 = ck)
    (w : (rS k hk).shape.Idx → Elt Ideal .f32) (L : List (View.Piece (Elt Ideal) S32x128x128 .f32))
    (J : S32x128x128.Idx → Elt Ideal .f32) (S S' : Vec Ideal S1x128x128 .f32)
    (hw : w = k0_pay564 (F := Ideal) (k0_pay446 (v2.readCov LW (rU k hk).toLoadRect)
        (View.readAt (Elt Ideal) arg5.view (rA k hk).toLoadRect (h5.unread x4)) S)
      (v1.readCov LU (rU k hk).toLoadRect) (View.readAt (Elt Ideal) arg2.view (rL k hk).toLoadRect (h2.unread x1))
      (View.readAt (Elt Ideal) arg6.view (rC k hk).toLoadRect (h6.unread x5)) S')
    (hS : S = View.ld s (rS k hk)) (hS' : S' = View.ld s (rS k hk))
    (hL : Mix k (fun y => 32 * ck + (y 0).val) (SN ck hck x0 x1 x2 x3 x5 s) J L) :
    Mix (k + 1) (fun y => 32 * ck + (y 0).val) (SN ck hck x0 x1 x2 x3 x5 s) J ((⟨rS k hk, w⟩ : View.Piece (Elt Ideal) S32x128x128 .f32) :: L) := by
  refine mix_cons (fun y => 32 * ck + (y 0).val) k _ w L J _ hL ?_ ?_ ?_ <;> (try intro x) <;>
    (try obtain ⟨a, b, c, rfl⟩ : ∃ a b c, x = ix3 a b c := ⟨_, _, _, eq_ix3 x⟩)
  · obtain rfl : a = 0 := Subsingleton.elim _ _
    rw [embS]; show 32 * ck + k % 32 = k; omega
  · intro hy
    have hy : 32 * ck + a.val = k := hy
    have ha : k % 32 = a.val := by omega
    rw [Rect.mem_set_unit]
    simp only [Fin.forall_fin_succ]
    refine ⟨?_, ?_, ?_, fun i => i.elim0⟩ <;> simp <;> omega
  · obtain rfl : a = 0 := Subsingleton.elim _ _
    subst hw hS'
    rw [embS, pay_s]
    simp only [rd_whole, u_ld x0 x2 x3 s LU LW hU hW k hk S hS]
    have e : 32 * ck + k % 32 = k := by omega
    show _ = sAt x0 x1 x2 x3 x5 s ⟨32 * ck + k % 32, _⟩ b c
    simp only [e]
    exact congrArg₂ (fun p q : EReal => p + q) (congrArg₂ (fun p q : EReal => p * q) (ldS s k hk b c) (ldC x5 k hk))
      (Finset.sum_congr rfl fun j _ => congrArg (fun p : EReal => p * _) (ldL x1 k hk _ j))

/-- What a point leaves in the output's block, from the states `s` before the point. -/
def OB : S4x128x1024.Idx → EReal := fun y =>
  let k : Fin 64 := ⟨(show Fin 128 from y 1).val / 64 * 32 + (show Fin 4 from y 0).val * 8 + (show Fin 1024 from y 2).val / 128, by
    have := (show Fin 128 from y 1).isLt; have := (show Fin 4 from y 0).isLt; have := (show Fin 1024 from y 2).isLt; omega⟩
  oAt x0 x1 x2 x3 x4 (if k.val < 32 then s else SN 0 (by omega) x0 x1 x2 x3 x5 s) k
    ⟨(show Fin 128 from y 1).val % 64, by omega⟩ ⟨(show Fin 1024 from y 2).val % 128, by omega⟩

/-- The place of an output index in the order of the stores. -/
def ordO (y : S4x128x1024.Idx) : ℕ := (y 1).val / 64 * 32 + (y 0).val * 8 + (y 2).val / 128

include hU hW in
/-- One more output box stored. -/
theorem o_cons (k : ℕ) (hk : k < 64) (w : (rA k hk).shape.Idx → Elt Ideal .f32) (L : List (View.Piece (Elt Ideal) S4x128x1024 .f32))
    (J : S4x128x1024.Idx → Elt Ideal .f32) (S : Vec Ideal S1x128x128 .f32)
    (hw : w = k0_pay563 (F := Ideal) (k0_pay446 (v2.readCov LW (rU k hk).toLoadRect)
        (View.readAt (Elt Ideal) arg5.view (rA k hk).toLoadRect (h5.unread x4)) S)
      (v1.readCov LU (rU k hk).toLoadRect) (View.readAt (Elt Ideal) arg2.view (rL k hk).toLoadRect (h2.unread x1)))
    (hS : S = View.ld (if k < 32 then s else SN 0 (by omega) x0 x1 x2 x3 x5 s : S32x128x128.Idx → EReal) (rS k hk))
    (hL : Mix k ordO (OB x0 x1 x2 x3 x4 x5 s) J L) :
    Mix (k + 1) ordO (OB x0 x1 x2 x3 x4 x5 s) J ((⟨rA k hk, w⟩ : View.Piece (Elt Ideal) S4x128x1024 .f32) :: L) := by
  refine mix_cons ordO k _ w L J _ hL ?_ ?_ ?_ <;> (try intro x) <;>
    (try obtain ⟨a, b, c, rfl⟩ : ∃ a b c, x = ix3 a b c := ⟨_, _, _, eq_ix3 x⟩)
  · obtain rfl : a = 0 := Subsingleton.elim _ _
    rw [embA]
    show (k / 32 * 64 + b.val) / 64 * 32 + k % 32 / 8 * 8 + (k % 8 * 128 + c.val) / 128 = k
    have := b.isLt; have := c.isLt
    omega
  · intro hy
    have hy : b.val / 64 * 32 + a.val * 8 + c.val / 128 = k := hy
    have := a.isLt; have := b.isLt; have := c.isLt
    rw [Rect.mem_set_unit]
    simp only [Fin.forall_fin_succ]
    refine ⟨?_, ?_, ?_, fun i => i.elim0⟩ <;> simp <;> omega
  · obtain rfl : a = 0 := Subsingleton.elim _ _
    subst hw
    rw [embA, pay_o]
    simp only [rd_whole, u_ld x0 x2 x3 _ LU LW hU hW k hk S hS]
    subst hS
    have hb := b.isLt; have hc := c.isLt
    have e : (k / 32 * 64 + b.val) / 64 * 32 + k % 32 / 8 * 8 + (k % 8 * 128 + c.val) / 128 = k := by omega
    have e1 : (k / 32 * 64 + b.val) % 64 = b.val := by omega
    have e2 : (k % 8 * 128 + c.val) % 128 = c.val := by omega
    show _ = oAt x0 x1 x2 x3 x4 (if (k / 32 * 64 + b.val) / 64 * 32 + k % 32 / 8 * 8 + (k % 8 * 128 + c.val) / 128 < 32 then s else SN 0 _ x0 x1 x2 x3 x5 s)
      ⟨(k / 32 * 64 + b.val) / 64 * 32 + k % 32 / 8 * 8 + (k % 8 * 128 + c.val) / 128, _⟩ ⟨(k / 32 * 64 + b.val) % 64, _⟩ ⟨(k % 8 * 128 + c.val) % 128, _⟩
    simp only [e, e1, e2]
    exact congrArg₂ (fun p q : EReal => p + q)
      (Finset.sum_congr rfl fun d _ => congrArg₂ (fun p q : EReal => p * q) (ldA x4 k hk b d) (ldS _ k hk d c))
      (Finset.sum_congr rfl fun j _ => congrArg (fun p : EReal => p * _) (ldL x1 k hk _ j))

variable {arg9 : Memref sig .tc .vmem S32x128x128 .f32}

include hU hW in
/-- `s_cons` where the chain's state is loaded from the carried buffer itself. -/
theorem s_first (h9 : arg9.IsWhole) (ck : ℕ) (hck : ck < 2) (k : ℕ) (hk : k < 64) (hkc : k / 32 = ck)
    (w : (rS k hk).shape.Idx → Elt Ideal .f32) (L : List (View.Piece (Elt Ideal) S32x128x128 .f32)) (J : S32x128x128.Idx → Elt Ideal .f32)
    (hw : w = k0_pay564 (F := Ideal) (k0_pay446 (v2.readCov LW (rU k hk).toLoadRect)
        (View.readAt (Elt Ideal) arg5.view (rA k hk).toLoadRect (h5.unread x4))
        (View.readAt (Elt Ideal) arg9.view (rS k hk).toLoadRect (h9.unread s)))
      (v1.readCov LU (rU k hk).toLoadRect) (View.readAt (Elt Ideal) arg2.view (rL k hk).toLoadRect (h2.unread x1))
      (View.readAt (Elt Ideal) arg6.view (rC k hk).toLoadRect (h6.unread x5))
      (View.readAt (Elt Ideal) arg9.view (rS k hk).toLoadRect (h9.unread s)))
    (hL : Mix k (fun y => 32 * ck + (y 0).val) (SN ck hck x0 x1 x2 x3 x5 s) J L) :
    Mix (k + 1) (fun y => 32 * ck + (y 0).val) (SN ck hck x0 x1 x2 x3 x5 s) J ((⟨rS k hk, w⟩ : View.Piece (Elt Ideal) S32x128x128 .f32) :: L) :=
  s_cons h2 h5 h6 x0 x1 x2 x3 x4 x5 s LU LW hU hW ck hck k hk hkc w L J _ _ hw (rd_whole h9 s _) (rd_whole h9 s _) hL

include hU hW in
/-- `s_cons` where the chain's state is loaded from what earlier stores left: `LS` before the chunk, `L` now. -/
theorem s_next (LS : List (View.Piece (Elt Ideal) S32x128x128 .f32)) (hLS : View.canon LS = s)
    (ck : ℕ) (hck : ck < 2) (k : ℕ) (hk : k < 64) (hkc : k / 32 = ck)
    (w : (rS k hk).shape.Idx → Elt Ideal .f32) (L : List (View.Piece (Elt Ideal) S32x128x128 .f32))
    (hw : w = k0_pay564 (F := Ideal) (k0_pay446 (v2.readCov LW (rU k hk).toLoadRect)
        (View.readAt (Elt Ideal) arg5.view (rA k hk).toLoadRect (h5.unread x4)) (v0.readCov LS (rS k hk).toLoadRect))
      (v1.readCov LU (rU k hk).toLoadRect) (View.readAt (Elt Ideal) arg2.view (rL k hk).toLoadRect (h2.unread x1))
      (View.readAt (Elt Ideal) arg6.view (rC k hk).toLoadRect (h6.unread x5)) (v0.readCov L (rS k hk).toLoadRect))
    (hL : Mix k (fun y => 32 * ck + (y 0).val) (SN ck hck x0 x1 x2 x3 x5 s) s L) :
    Mix (k + 1) (fun y => 32 * ck + (y 0).val) (SN ck hck x0 x1 x2 x3 x5 s) s ((⟨rS k hk, w⟩ : View.Piece (Elt Ideal) S32x128x128 .f32) :: L) := by
  refine s_cons h2 h5 h6 x0 x1 x2 x3 x4 x5 s LU LW hU hW ck hck k hk hkc w L s _ _ hw (rd_cov _ _ _ hLS _) ?_ hL
  rw [rd_cov _ _ _ hL]
  funext x
  obtain ⟨a, b, c, rfl⟩ : ∃ a b c, x = ix3 a b c := ⟨_, _, _, eq_ix3 x⟩
  obtain rfl : a = 0 := Subsingleton.elim _ _
  have e : ¬ 32 * ck + k % 32 < k := by omega
  refine (ldS _ k hk b c).trans (Eq.trans ?_ (ldS s k hk b c).symm)
  exact if_neg e

include hU hW in
/-- `o_cons` in the first chunk, the state loaded from the carried buffer itself. -/
theorem o_first (h9 : arg9.IsWhole) (k : ℕ) (hk : k < 64) (hk' : k < 32) (w : (rA k hk).shape.Idx → Elt Ideal .f32)
    (L : List (View.Piece (Elt Ideal) S4x128x1024 .f32)) (J : S4x128x1024.Idx → Elt Ideal .f32)
    (hw : w = k0_pay563 (F := Ideal) (k0_pay446 (v2.readCov LW (rU k hk).toLoadRect)
        (View.readAt (Elt Ideal) arg5.view (rA k hk).toLoadRect (h5.unread x4))
        (View.readAt (Elt Ideal) arg9.view (rS k hk).toLoadRect (h9.unread s)))
      (v1.readCov LU (rU k hk).toLoadRect) (View.readAt (Elt Ideal) arg2.view (rL k hk).toLoadRect (h2.unread x1)))
    (hL : Mix k ordO (OB x0 x1 x2 x3 x4 x5 s) J L) :
    Mix (k + 1) ordO (OB x0 x1 x2 x3 x4 x5 s) J ((⟨rA k hk, w⟩ : View.Piece (Elt Ideal) S4x128x1024 .f32) :: L) :=
  o_cons h2 h5 x0 x1 x2 x3 x4 x5 s LU LW hU hW k hk w L J _ hw (by rw [if_pos hk']; exact rd_whole h9 s _) hL

include hU hW in
/-- `o_cons` in the first chunk, the state loaded from what earlier stores left. -/
theorem o_first' (LS : List (View.Piece (Elt Ideal) S32x128x128 .f32)) (hLS : View.canon LS = s)
    (k : ℕ) (hk : k < 64) (hk' : k < 32) (w : (rA k hk).shape.Idx → Elt Ideal .f32)
    (L : List (View.Piece (Elt Ideal) S4x128x1024 .f32)) (J : S4x128x1024.Idx → Elt Ideal .f32)
    (hw : w = k0_pay563 (F := Ideal) (k0_pay446 (v2.readCov LW (rU k hk).toLoadRect)
        (View.readAt (Elt Ideal) arg5.view (rA k hk).toLoadRect (h5.unread x4)) (v0.readCov LS (rS k hk).toLoadRect))
      (v1.readCov LU (rU k hk).toLoadRect) (View.readAt (Elt Ideal) arg2.view (rL k hk).toLoadRect (h2.unread x1)))
    (hL : Mix k ordO (OB x0 x1 x2 x3 x4 x5 s) J L) :
    Mix (k + 1) ordO (OB x0 x1 x2 x3 x4 x5 s) J ((⟨rA k hk, w⟩ : View.Piece (Elt Ideal) S4x128x1024 .f32) :: L) :=
  o_cons h2 h5 x0 x1 x2 x3 x4 x5 s LU LW hU hW k hk w L J _ hw (by rw [if_pos hk']; exact rd_cov _ _ _ hLS _) hL

include hU hW in
/-- `o_cons` in the second chunk, the state loaded from what the first chunk's stores `LS` left. -/
theorem o_next (LS : List (View.Piece (Elt Ideal) S32x128x128 .f32)) (hLS : View.canon LS = SN 0 (by omega) x0 x1 x2 x3 x5 s)
    (k : ℕ) (hk : k < 64) (hk' : ¬ k < 32) (w : (rA k hk).shape.Idx → Elt Ideal .f32)
    (L : List (View.Piece (Elt Ideal) S4x128x1024 .f32)) (J : S4x128x1024.Idx → Elt Ideal .f32)
    (hw : w = k0_pay563 (F := Ideal) (k0_pay446 (v2.readCov LW (rU k hk).toLoadRect)
        (View.readAt (Elt Ideal) arg5.view (rA k hk).toLoadRect (h5.unread x4)) (v0.readCov LS (rS k hk).toLoadRect))
      (v1.readCov LU (rU k hk).toLoadRect) (View.readAt (Elt Ideal) arg2.view (rL k hk).toLoadRect (h2.unread x1)))
    (hL : Mix k ordO (OB x0 x1 x2 x3 x4 x5 s) J L) :
    Mix (k + 1) ordO (OB x0 x1 x2 x3 x4 x5 s) J ((⟨rA k hk, w⟩ : View.Piece (Elt Ideal) S4x128x1024 .f32) :: L) :=
  o_cons h2 h5 x0 x1 x2 x3 x4 x5 s LU LW hU hW k hk w L J _ hw (by rw [if_neg hk']; exact rd_cov _ _ _ hLS _) hL

end Cons

theorem off0 : (![0, 0, 0] : Fin 3 → ℕ) = fun _ => 0 := by decide

/-- The states before a sequence. -/
def Z : Vec Ideal S32x128x128 .f32 := fun _ => (0 : EReal)

theorem idx0_lt64 (y : S64x64x128.Idx) : (y 0).val < 64 := (y 0).isLt

theorem ordO_lt (y : S4x128x1024.Idx) : ordO y < 64 := by
  have := (show Fin 128 from y 1).isLt; have := (show Fin 4 from y 0).isLt; have := (show Fin 1024 from y 2).isLt
  show (show Fin 128 from y 1).val / 64 * 32 + (show Fin 4 from y 0).val * 8 + (show Fin 1024 from y 2).val / 128 < 64
  omega

end Cert.ScanIdeal.Val
-- ==== Proof.ScanBlocks.lean ====
module

public import proofs.«01_k».proof.Proof.ScanStep

@[expose] public section

set_option maxRecDepth 16384

noncomputable section

open Idealize.ShloMosaic Idealize.ShloMosaic.TcCoe Idealize.SL.Sem

namespace Cert.ScanIdeal.Val

open Cert.ScanIdeal Cert.ScanIdeal.Gen

variable (m : (ℓ : Loc nD τ sig) → Buf (Elt Ideal) ℓ) (ρ : Dev nD → PrngReg)

/-- The block each window reads or writes at a grid point. -/
theorem idx : ∀ t : Fin cfg0.N, win0_0.index t = ![0, t.val, 0, 0] ∧ win0_1.index t = ![0, t.val, 0, 0]
    ∧ win0_2.index t = ![0, t.val, 0] ∧ win0_3.index t = ![0, t.val, 0] ∧ win0_4.index t = ![0, t.val, 0] ∧ win0_5.index t = ![0, t.val, 0]
    ∧ win0_6.index t = ![0, t.val, 0] ∧ win0_7.index t = ![0, 0, 0] :=
  (by decide +kernel : ∀ t : Fin grid0.N, _)

theorem N16 (t : Fin cfg0.N) : t.val < 16 := lt_of_lt_of_eq t.isLt N_0

/-- A read at an index is a read at an equal one. -/
theorem ix5_arg {n0 n1 n2 n3 n4 : ℕ} {α : Sort*} (f : Shape.Idx ⟨5, ![n0, n1, n2, n3, n4]⟩ → α) {a a' : Fin n0} {b b' : Fin n1} {c c' : Fin n2} {d d' : Fin n3} {e e' : Fin n4}
    (ha : a.val = a'.val) (hb : b.val = b'.val) (hc : c.val = c'.val) (hd : d.val = d'.val) (he : e.val = e'.val) :
    f (ix5 a b c d e) = f (ix5 a' b' c' d' e') := by
  rw [Fin.ext ha, Fin.ext hb, Fin.ext hc, Fin.ext hd, Fin.ext he]

/-- The triangular factors as the region finds them. -/
theorem V19 (c : Dev nD) (b : Fin 4) (i : Fin 256) (r s : Fin 64) :
    V m c main_v19 (ix4 b i r s) = m ((c : Thread nD τ).loc main_arg0) (ix5 b ⟨i.val / 8, by omega⟩ ⟨i.val % 8, by omega⟩ r s) := by
  unfold V
  simp only [hostOps0, hostOps0_1, hostOps0_2, List.flatten_cons, List.flatten_nil, List.cons_append, List.nil_append, List.append_nil]
  after_results
  pointwise
  exact ix5_arg _ (by dsimp only; omega) (by dsimp only; omega) (by dsimp only; omega) rfl rfl

/-- The stacked factors: the upper 64 rows … -/
theorem V20_lo (c : Dev nD) (b : Fin 4) (i : Fin 256) (r s : Fin 64) :
    V m c main_v20 (ix4 b i ⟨r.val, by omega⟩ s) = m ((c : Thread nD τ).loc main_arg3) (ix5 b ⟨i.val / 8, by omega⟩ ⟨i.val % 8, by omega⟩ r s) := by
  unfold V
  simp only [hostOps0, hostOps0_1, hostOps0_2, List.flatten_cons, List.flatten_nil, List.cons_append, List.nil_append, List.append_nil]
  after_results
  pointwise
  exact ix5_arg _ (by dsimp only; omega) (by dsimp only; omega) (by dsimp only; omega) rfl rfl

/-- … and the lower 128. -/
theorem V20_hi (c : Dev nD) (b : Fin 4) (i : Fin 256) (d : Fin 128) (s : Fin 64) :
    V m c main_v20 (ix4 b i ⟨64 + d.val, by omega⟩ s) = m ((c : Thread nD τ).loc main_arg4) (ix5 b ⟨i.val / 8, by omega⟩ ⟨i.val % 8, by omega⟩ s d) := by
  unfold V
  simp only [hostOps0, hostOps0_1, hostOps0_2, List.flatten_cons, List.flatten_nil, List.cons_append, List.nil_append, List.append_nil]
  after_results
  pointwise
  exact ix5_arg _ (by dsimp only; omega) (by dsimp only; omega) (by dsimp only; omega) rfl rfl

/-- The values by token. -/
theorem V21 (c : Dev nD) (b : Fin 4) (r : Fin 2048) (q : Fin 1024) :
    V m c main_v21 (ix3 b r q) = m ((c : Thread nD τ).loc main_arg1)
      (ix5 b ⟨r.val / 64, by omega⟩ ⟨q.val / 128, by omega⟩ ⟨r.val % 64, by omega⟩ ⟨q.val % 128, by omega⟩) := by
  unfold V
  simp only [hostOps0, hostOps0_1, hostOps0_2, List.flatten_cons, List.flatten_nil, List.cons_append, List.nil_append, List.append_nil]
  after_results
  pointwise
  exact ix5_arg _ (by dsimp only; omega) (by dsimp only; omega) (by dsimp only) (by dsimp only; omega) rfl

/-- The keys by token. -/
theorem V22 (c : Dev nD) (b : Fin 4) (r : Fin 2048) (q : Fin 1024) :
    V m c main_v22 (ix3 b r q) = m ((c : Thread nD τ).loc main_arg2)
      (ix5 b ⟨r.val / 64, by omega⟩ ⟨q.val / 128, by omega⟩ ⟨r.val % 64, by omega⟩ ⟨q.val % 128, by omega⟩) := by
  unfold V
  simp only [hostOps0, hostOps0_1, hostOps0_2, List.flatten_cons, List.flatten_nil, List.cons_append, List.nil_append, List.append_nil]
  after_results
  pointwise
  exact ix5_arg _ (by dsimp only; omega) (by dsimp only; omega) (by dsimp only) (by dsimp only; omega) rfl

/-- The queries by token. -/
theorem V23 (c : Dev nD) (b : Fin 4) (r : Fin 2048) (q : Fin 1024) :
    V m c main_v23 (ix3 b r q) = m ((c : Thread nD τ).loc main_arg5)
      (ix5 b ⟨r.val / 64, by omega⟩ ⟨q.val / 128, by omega⟩ ⟨r.val % 64, by omega⟩ ⟨q.val % 128, by omega⟩) := by
  unfold V
  simp only [hostOps0, hostOps0_1, hostOps0_2, List.flatten_cons, List.flatten_nil, List.cons_append, List.nil_append, List.append_nil]
  after_results
  pointwise
  exact ix5_arg _ (by dsimp only; omega) (by dsimp only; omega) (by dsimp only) (by dsimp only; omega) rfl

/-- The decays by token. -/
theorem V24 (c : Dev nD) (b : Fin 4) (r : Fin 2048) (h : Fin 8) :
    V m c main_v24 (ix3 b r ⟨h.val, by omega⟩) = m ((c : Thread nD τ).loc main_arg6) (ix3 b ⟨r.val / 64, by omega⟩ h) := by
  unfold V
  simp only [hostOps0, hostOps0_1, hostOps0_2, List.flatten_cons, List.flatten_nil, List.cons_append, List.nil_append, List.append_nil]
  after_results
  pointwise
  simp only [StableHlo.TRef.toBuf, StableHlo.TRef.ofBuf, cast_eq]
  pointwise
  rw [dif_pos (by omega)]
  refine congrArg₂ (fun p n => m ((c : Thread nD τ).loc main_arg6) (ix3 p n h)) (Fin.ext ?_) (Fin.ext ?_) <;> dsimp only <;> omega

variable (f : ∀ (c : Dev nD) (b : Ref sig .tc), Buf (Elt Ideal) ((c : Thread nD τ).loc b))

/-- The triangular factors of a point. -/
theorem blk0 (c : Dev nD) (t : Fin cfg0.N) (b : Fin 4) (i : Fin 16) (r s : Fin 64) :
    iblk m c 0 t (ix4 b i r s) = m ((c : Thread nD τ).loc main_arg0)
      (ix5 b ⟨t.val * 2 + i.val / 8, by have := N16 t; omega⟩ ⟨i.val % 8, by omega⟩ r s) := by
  have hN := N16 t
  have e : iblk m c 0 t (ix4 b i r s) = V m c main_v19 (ix4 b ⟨t.val * 16 + i.val, by omega⟩ r s) := by blk_ext [iblk, idx t]
  refine e.trans ((V19 m c b _ r s).trans ?_)
  exact ix5_arg _ rfl (by dsimp only; omega) (by dsimp only; omega) rfl rfl

/-- The stacked factors of a point … -/
theorem emb1 (t : Fin cfg0.N) (b : Fin 4) (i : Fin 16) (a : Fin 192) (s : Fin 64) :
    ((cfg0.win 1).blk t).view.emb (ix4 b i a s) = ix4 b ⟨t.val * 16 + i.val, by have := N16 t; omega⟩ a s := by
  blk_ext [idx t]

/-- … as the region finds them … -/
theorem blk1 (c : Dev nD) (t : Fin cfg0.N) (b : Fin 4) (i : Fin 16) (a : Fin 192) (s : Fin 64) :
    ((cfg0.win 1).blk t).view.read (Elt Ideal) (f c (Pipeline.arrRef spec0 1)) (ix4 b i a s)
      = f c main_v20 (ix4 b ⟨t.val * 16 + i.val, by have := N16 t; omega⟩ a s) :=
  congrArg (f c main_v20) (emb1 t b i a s)

/-- … the upper 64 rows … -/
theorem blk1_lo (c : Dev nD) (t : Fin cfg0.N) (b : Fin 4) (i : Fin 16) (r s : Fin 64) :
    iblk m c 1 t (ix4 b i ⟨r.val, by omega⟩ s) = m ((c : Thread nD τ).loc main_arg3)
      (ix5 b ⟨t.val * 2 + i.val / 8, by have := N16 t; omega⟩ ⟨i.val % 8, by omega⟩ r s) := by
  have hN := N16 t
  refine (blk1 (V m) c t b i _ s).trans ((V20_lo m c b _ r s).trans ?_)
  exact ix5_arg _ rfl (by dsimp only; omega) (by dsimp only; omega) rfl rfl

/-- … and the lower 128. -/
theorem blk1_hi (c : Dev nD) (t : Fin cfg0.N) (b : Fin 4) (i : Fin 16) (d : Fin 128) (s : Fin 64) :
    iblk m c 1 t (ix4 b i ⟨64 + d.val, by omega⟩ s) = m ((c : Thread nD τ).loc main_arg4)
      (ix5 b ⟨t.val * 2 + i.val / 8, by have := N16 t; omega⟩ ⟨i.val % 8, by omega⟩ s d) := by
  have hN := N16 t
  refine (blk1 (V m) c t b i _ s).trans ((V20_hi m c b _ d s).trans ?_)
  exact ix5_arg _ rfl (by dsimp only; omega) (by dsimp only; omega) rfl rfl

/-- The values' rows of a point. -/
theorem blk2 (c : Dev nD) (t : Fin cfg0.N) (b : Fin 4) (r : Fin 128) (q : Fin 1024) :
    iblk m c 2 t (ix3 b r q) = m ((c : Thread nD τ).loc main_arg1)
      (ix5 b ⟨t.val * 2 + r.val / 64, by have := N16 t; omega⟩ ⟨q.val / 128, by omega⟩ ⟨r.val % 64, by omega⟩ ⟨q.val % 128, by omega⟩) := by
  have hN := N16 t
  have e : iblk m c 2 t (ix3 b r q) = V m c main_v21 (ix3 b ⟨t.val * 128 + r.val, by omega⟩ q) := by blk_ext [iblk, idx t]
  refine e.trans ((V21 m c b _ q).trans ?_)
  exact ix5_arg _ rfl (by dsimp only; omega) rfl (by dsimp only; omega) rfl

/-- The keys' rows of a point. -/
theorem blk3 (c : Dev nD) (t : Fin cfg0.N) (b : Fin 4) (r : Fin 128) (q : Fin 1024) :
    iblk m c 3 t (ix3 b r q) = m ((c : Thread nD τ).loc main_arg2)
      (ix5 b ⟨t.val * 2 + r.val / 64, by have := N16 t; omega⟩ ⟨q.val / 128, by omega⟩ ⟨r.val % 64, by omega⟩ ⟨q.val % 128, by omega⟩) := by
  have hN := N16 t
  have e : iblk m c 3 t (ix3 b r q) = V m c main_v22 (ix3 b ⟨t.val * 128 + r.val, by omega⟩ q) := by blk_ext [iblk, idx t]
  refine e.trans ((V22 m c b _ q).trans ?_)
  exact ix5_arg _ rfl (by dsimp only; omega) rfl (by dsimp only; omega) rfl

/-- The queries' rows of a point. -/
theorem blk4 (c : Dev nD) (t : Fin cfg0.N) (b : Fin 4) (r : Fin 128) (q : Fin 1024) :
    iblk m c 4 t (ix3 b r q) = m ((c : Thread nD τ).loc main_arg5)
      (ix5 b ⟨t.val * 2 + r.val / 64, by have := N16 t; omega⟩ ⟨q.val / 128, by omega⟩ ⟨r.val % 64, by omega⟩ ⟨q.val % 128, by omega⟩) := by
  have hN := N16 t
  have e : iblk m c 4 t (ix3 b r q) = V m c main_v23 (ix3 b ⟨t.val * 128 + r.val, by omega⟩ q) := by blk_ext [iblk, idx t]
  refine e.trans ((V23 m c b _ q).trans ?_)
  exact ix5_arg _ rfl (by dsimp only; omega) rfl (by dsimp only; omega) rfl

/-- The decays' block of a point. -/
theorem blk5_V (c : Dev nD) (t : Fin cfg0.N) (b : Fin 4) (r h : Fin 128) :
    ((cfg0.win 5).blk t).view.read (Elt Ideal) (f c (Pipeline.arrRef spec0 5)) (ix3 b r h)
      = f c main_v24 (ix3 b ⟨t.val * 128 + r.val, by have := N16 t; omega⟩ h) := by
  have e : ((cfg0.win 5).blk t).view.emb (ix3 b r h) = ix3 b ⟨t.val * 128 + r.val, by have := N16 t; omega⟩ h := by blk_ext [idx t]
  exact congrArg (f c main_v24) e

/-- The decays of a point. -/
theorem blk5 (c : Dev nD) (t : Fin cfg0.N) (b : Fin 4) (r : Fin 128) (h : Fin 8) :
    iblk m c 5 t (ix3 b r ⟨h.val, by omega⟩) = m ((c : Thread nD τ).loc main_arg6)
      (ix3 b ⟨t.val * 2 + r.val / 64, by have := N16 t; omega⟩ h) := by
  have hN := N16 t
  refine (blk5_V (V m) c t b r _).trans ((V24 m c b _ h).trans ?_)
  refine congrArg (fun n => m ((c : Thread nD τ).loc main_arg6) (ix3 b n h)) (Fin.ext ?_)
  dsimp only; omega

end Cert.ScanIdeal.Val
-- ==== Proof.ScanCaseA.lean ====
module

public import proofs.«01_k».proof.Proof.ScanStep

@[expose] public section

set_option maxRecDepth 16384

noncomputable section

open Idealize.ShloMosaic Idealize.ShloMosaic.TcCoe Idealize.SL.Sem

namespace Cert.ScanIdeal.Val

open Cert.Stores

open Cert.ScanIdeal Cert.ScanIdeal.Gen

/-! The first point: the states start at zero. -/

variable (c : Dev nD) (arg1 : Memref sig .tc .vmem S4x16x64x64 .bf16) (h1 : arg1.IsWhole) (arg2 : Memref sig .tc .vmem S4x16x192x64 .bf16) (h2 : arg2.IsWhole)
  (arg3 : Memref sig .tc .vmem S4x128x1024 .bf16) (h3 : arg3.IsWhole) (arg4 : Memref sig .tc .vmem S4x128x1024 .bf16) (h4 : arg4.IsWhole)
  (arg5 : Memref sig .tc .vmem S4x128x1024 .bf16) (h5 : arg5.IsWhole) (arg6 : Memref sig .tc .vmem S4x128x128 .f32) (h6 : arg6.IsWhole)
  (arg9 : Memref sig .tc .vmem S32x128x128 .f32) (h9 : arg9.IsWhole) (arg10 : Memref sig .tc .vmem S64x64x128 .f32) (arg11 : Memref sig .tc .vmem S64x64x128 .bf16)
  (x0 : Vec Ideal S4x16x64x64 .bf16) (x1 : Vec Ideal S4x16x192x64 .bf16) (x2 x3 x4 : Vec Ideal S4x128x1024 .bf16)
  (x5 : Vec Ideal S4x128x128 .f32)

/-- The first products' left halves. -/
theorem A_U : View.canon (kernelRun0_A.sl.HS1_64 (F := Ideal) c arg1 h1 arg3 h3 arg4 h4 x0 x2 x3) = UB x0 x2 := by
  refine Mix.full (k := 64) (ord := fun y => (y 0).val) (J := View.canon []) ?_ idx0_lt64
  iterate 64 refine u_cons h1 h3 h4 x0 x2 x3 _ (by omega) _ _ _ (by rfl) ?_
  exact Mix.start rfl fun y => Nat.zero_le _

/-- The first products' right halves. -/
theorem A_W : View.canon (kernelRun0_A.sl.HS2_64 (F := Ideal) c arg1 h1 arg3 h3 arg4 h4 x0 x2 x3) = UB x0 x3 := by
  refine Mix.full (k := 64) (ord := fun y => (y 0).val) (J := View.canon []) ?_ idx0_lt64
  iterate 64 refine w_cons h1 h3 h4 x0 x2 x3 _ (by omega) _ _ _ (by rfl) ?_
  exact Mix.start rfl fun y => Nat.zero_le _

/-- The states before the first chunk. -/
theorem A_Z : View.canon (kernelRun0_A.sl.HS0_1 (F := Ideal)) = Z := by
  unfold kernelRun0_A.sl.HS0_1
  rw [View.canon_unit_zero off0]
  funext x
  obtain ⟨a, b, c, rfl⟩ : ∃ a b c, x = ix3 a b c := ⟨_, _, _, eq_ix3 x⟩
  unfold Z
  pointwise [k0_pay1]

/-- The states after the first chunk. -/
theorem A_S0 : View.canon (kernelRun0_A.sl.HS0_33 (F := Ideal) c arg1 h1 arg2 h2 arg3 h3 arg4 h4 arg5 h5 arg6 h6 arg9 arg10 arg11 x0 x1 x2 x3 x4 x5)
    = SN 0 (by omega) x0 x1 x2 x3 x5 Z := by
  have hU := A_U c arg1 h1 arg3 h3 arg4 h4 x0 x2 x3
  have hW := A_W c arg1 h1 arg3 h3 arg4 h4 x0 x2 x3
  refine Mix.full (k := 32) (ord := fun y => 32 * 0 + (y 0).val) (J := Z) ?_ fun y => ?_
  · iterate 32 refine s_next (v0 := arg9.view) (v1 := arg10.view) (v2 := arg11.view) h2 h5 h6 x0 x1 x2 x3 x4 x5 _ _ _ hU hW _ A_Z 0 (by omega) _ (by omega) (by omega) _ _ (by rfl) ?_
    exact Mix.start A_Z fun y => Nat.zero_le _
  · have := (show Fin 32 from y 0).isLt; show 32 * 0 + (show Fin 32 from y 0).val < 32; omega

variable (i : grid0.Coords) (arg7 : Memref sig .tc .vmem S4x128x1024 .f32) (h7 : arg7.IsWhole) (arg8 : Memref sig .tc .vmem S32x128x128 .f32) (h8 : arg8.IsWhole)
  (h10 : arg10.IsWhole) (h11 : arg11.IsWhole)

/-- What the point leaves in the carried states: both chunks' steps. -/
theorem A_S (hc0 hc1) : sout0_A_0 (F := Ideal) c i arg1 h1 arg2 h2 arg3 h3 arg4 h4 arg5 h5 arg6 h6 arg7 h7 arg8 h8 arg9 h9 arg10 h10 arg11 h11 hc0 hc1
    x0 x1 x2 x3 x4 x5 = SN 1 (by omega) x0 x1 x2 x3 x5 (SN 0 (by omega) x0 x1 x2 x3 x5 Z) := by
  have hU := A_U c arg1 h1 arg3 h3 arg4 h4 x0 x2 x3
  have hW := A_W c arg1 h1 arg3 h3 arg4 h4 x0 x2 x3
  have hS := A_S0 c arg1 h1 arg2 h2 arg3 h3 arg4 h4 arg5 h5 arg6 h6 arg9 arg10 arg11 x0 x1 x2 x3 x4 x5
  unfold sout0_A_0
  rw [View.read_writes_junk_eq_canon]
  unfold kernelRun0_A
  dsimp only
  refine Mix.full (k := 64) (ord := fun y => 32 * 1 + (y 0).val) (J := SN 0 (by omega) x0 x1 x2 x3 x5 Z) ?_ fun y => ?_
  · iterate 32 refine s_next (v0 := arg9.view) (v1 := arg10.view) (v2 := arg11.view) h2 h5 h6 x0 x1 x2 x3 x4 x5 _ _ _ hU hW _ hS 1 (by omega) _ (by omega) (by omega) _ _ (by rfl) ?_
    exact Mix.start hS fun y => by show 32 ≤ 32 * 1 + _; omega
  · have := (show Fin 32 from y 0).isLt; show 32 * 1 + (show Fin 32 from y 0).val < 64; omega

/-- What the point leaves in the output's block. -/
theorem A_O (hc0 hc1) : out0_A_6 (F := Ideal) c i arg1 h1 arg2 h2 arg3 h3 arg4 h4 arg5 h5 arg6 h6 arg7 h7 arg8 h8 arg9 h9 arg10 h10 arg11 h11 hc0 hc1
    x0 x1 x2 x3 x4 x5 = OB x0 x1 x2 x3 x4 x5 Z := by
  have hU := A_U c arg1 h1 arg3 h3 arg4 h4 x0 x2 x3
  have hW := A_W c arg1 h1 arg3 h3 arg4 h4 x0 x2 x3
  have hS := A_S0 c arg1 h1 arg2 h2 arg3 h3 arg4 h4 arg5 h5 arg6 h6 arg9 arg10 arg11 x0 x1 x2 x3 x4 x5
  unfold out0_A_6
  rw [View.read_writes_junk_eq_canon]
  unfold kernelRun0_A
  dsimp only
  refine Mix.full (k := 64) (ord := ordO) (J := View.canon []) ?_ ordO_lt
  iterate 32 refine o_next (v0 := arg9.view) (v1 := arg10.view) (v2 := arg11.view) h2 h5 x0 x1 x2 x3 x4 x5 Z _ _ hU hW _ hS _ (by omega) (by omega) _ _ _ (by rfl) ?_
  iterate 32 refine o_first' (v0 := arg9.view) (v1 := arg10.view) (v2 := arg11.view) h2 h5 x0 x1 x2 x3 x4 x5 Z _ _ hU hW _ A_Z _ (by omega) (by omega) _ _ _ (by rfl) ?_
  exact Mix.start rfl fun y => Nat.zero_le _

end Cert.ScanIdeal.Val
-- ==== Proof.ScanCaseB.lean ====
module

public import proofs.«01_k».proof.Proof.ScanStep

@[expose] public section

set_option maxRecDepth 16384

noncomputable section

open Idealize.ShloMosaic Idealize.ShloMosaic.TcCoe Idealize.SL.Sem

namespace Cert.ScanIdeal.Val

open Cert.Stores

open Cert.ScanIdeal Cert.ScanIdeal.Gen

/-! A point inside a sequence. -/

variable (c : Dev nD) (arg1 : Memref sig .tc .vmem S4x16x64x64 .bf16) (h1 : arg1.IsWhole) (arg2 : Memref sig .tc .vmem S4x16x192x64 .bf16) (h2 : arg2.IsWhole)
  (arg3 : Memref sig .tc .vmem S4x128x1024 .bf16) (h3 : arg3.IsWhole) (arg4 : Memref sig .tc .vmem S4x128x1024 .bf16) (h4 : arg4.IsWhole)
  (arg5 : Memref sig .tc .vmem S4x128x1024 .bf16) (h5 : arg5.IsWhole) (arg6 : Memref sig .tc .vmem S4x128x128 .f32) (h6 : arg6.IsWhole)
  (arg9 : Memref sig .tc .vmem S32x128x128 .f32) (h9 : arg9.IsWhole) (arg10 : Memref sig .tc .vmem S64x64x128 .f32) (arg11 : Memref sig .tc .vmem S64x64x128 .bf16)
  (x0 : Vec Ideal S4x16x64x64 .bf16) (x1 : Vec Ideal S4x16x192x64 .bf16) (x2 x3 x4 : Vec Ideal S4x128x1024 .bf16)
  (x5 : Vec Ideal S4x128x128 .f32) (s : Vec Ideal S32x128x128 .f32)

/-- The first products' left halves. -/
theorem B_U : View.canon (kernelRun0_B.sl.HS1_64 (F := Ideal) c arg1 h1 arg3 h3 arg4 h4 x0 x2 x3) = UB x0 x2 := by
  refine Mix.full (k := 64) (ord := fun y => (y 0).val) (J := View.canon []) ?_ idx0_lt64
  iterate 64 refine u_cons h1 h3 h4 x0 x2 x3 _ (by omega) _ _ _ (by rfl) ?_
  exact Mix.start rfl fun y => Nat.zero_le _

/-- The first products' right halves. -/
theorem B_W : View.canon (kernelRun0_B.sl.HS2_64 (F := Ideal) c arg1 h1 arg3 h3 arg4 h4 x0 x2 x3) = UB x0 x3 := by
  refine Mix.full (k := 64) (ord := fun y => (y 0).val) (J := View.canon []) ?_ idx0_lt64
  iterate 64 refine w_cons h1 h3 h4 x0 x2 x3 _ (by omega) _ _ _ (by rfl) ?_
  exact Mix.start rfl fun y => Nat.zero_le _

/-- The states after the first chunk. -/
theorem B_S0 : View.canon (kernelRun0_B.sl.HS0_32 (F := Ideal) c arg1 h1 arg2 h2 arg3 h3 arg4 h4 arg5 h5 arg6 h6 arg9 h9 arg10 arg11 x0 x1 x2 x3 x4 x5 s)
    = SN 0 (by omega) x0 x1 x2 x3 x5 s := by
  have hU := B_U c arg1 h1 arg3 h3 arg4 h4 x0 x2 x3
  have hW := B_W c arg1 h1 arg3 h3 arg4 h4 x0 x2 x3
  refine Mix.full (k := 32) (ord := fun y => 32 * 0 + (y 0).val) (J := View.canon []) ?_ fun y => ?_
  · iterate 32 refine s_first (v1 := arg10.view) (v2 := arg11.view) h2 h5 h6 x0 x1 x2 x3 x4 x5 s _ _ hU hW h9 0 (by omega) _ (by omega) (by omega) _ _ _ (by rfl) ?_
    exact Mix.start rfl fun y => Nat.zero_le _
  · have := (show Fin 32 from y 0).isLt; show 32 * 0 + (show Fin 32 from y 0).val < 32; omega

variable (i : grid0.Coords) (arg7 : Memref sig .tc .vmem S4x128x1024 .f32) (h7 : arg7.IsWhole) (arg8 : Memref sig .tc .vmem S32x128x128 .f32) (h8 : arg8.IsWhole)
  (h10 : arg10.IsWhole) (h11 : arg11.IsWhole)

/-- What the point leaves in the carried states: both chunks' steps. -/
theorem B_S (hc0 hc1) : sout0_B_0 (F := Ideal) c i arg1 h1 arg2 h2 arg3 h3 arg4 h4 arg5 h5 arg6 h6 arg7 h7 arg8 h8 arg9 h9 arg10 h10 arg11 h11 hc0 hc1
    x0 x1 x2 x3 x4 x5 s = SN 1 (by omega) x0 x1 x2 x3 x5 (SN 0 (by omega) x0 x1 x2 x3 x5 s) := by
  have hU := B_U c arg1 h1 arg3 h3 arg4 h4 x0 x2 x3
  have hW := B_W c arg1 h1 arg3 h3 arg4 h4 x0 x2 x3
  have hS := B_S0 c arg1 h1 arg2 h2 arg3 h3 arg4 h4 arg5 h5 arg6 h6 arg9 h9 arg10 arg11 x0 x1 x2 x3 x4 x5 s
  unfold sout0_B_0
  rw [View.read_writes_junk_eq_canon]
  unfold kernelRun0_B
  dsimp only
  refine Mix.full (k := 64) (ord := fun y => 32 * 1 + (y 0).val) (J := SN 0 (by omega) x0 x1 x2 x3 x5 s) ?_ fun y => ?_
  · iterate 32 refine s_next (v0 := arg9.view) (v1 := arg10.view) (v2 := arg11.view) h2 h5 h6 x0 x1 x2 x3 x4 x5 _ _ _ hU hW _ hS 1 (by omega) _ (by omega) (by omega) _ _ (by rfl) ?_
    exact Mix.start hS fun y => by show 32 ≤ 32 * 1 + _; omega
  · have := (show Fin 32 from y 0).isLt; show 32 * 1 + (show Fin 32 from y 0).val < 64; omega

/-- What the point leaves in the output's block. -/
theorem B_O (hc0 hc1) : out0_B_6 (F := Ideal) c i arg1 h1 arg2 h2 arg3 h3 arg4 h4 arg5 h5 arg6 h6 arg7 h7 arg8 h8 arg9 h9 arg10 h10 arg11 h11 hc0 hc1
    x0 x1 x2 x3 x4 x5 s = OB x0 x1 x2 x3 x4 x5 s := by
  have hU := B_U c arg1 h1 arg3 h3 arg4 h4 x0 x2 x3
  have hW := B_W c arg1 h1 arg3 h3 arg4 h4 x0 x2 x3
  have hS := B_S0 c arg1 h1 arg2 h2 arg3 h3 arg4 h4 arg5 h5 arg6 h6 arg9 h9 arg10 arg11 x0 x1 x2 x3 x4 x5 s
  unfold out0_B_6
  rw [View.read_writes_junk_eq_canon]
  unfold kernelRun0_B
  dsimp only
  refine Mix.full (k := 64) (ord := ordO) (J := View.canon []) ?_ ordO_lt
  iterate 32 refine o_next (v0 := arg9.view) (v1 := arg10.view) (v2 := arg11.view) h2 h5 x0 x1 x2 x3 x4 x5 s _ _ hU hW _ hS _ (by omega) (by omega) _ _ _ (by rfl) ?_
  iterate 32 refine o_first (v1 := arg10.view) (v2 := arg11.view) h2 h5 x0 x1 x2 x3 x4 x5 s _ _ hU hW h9 _ (by omega) (by omega) _ _ _ (by rfl) ?_
  exact Mix.start rfl fun y => Nat.zero_le _

end Cert.ScanIdeal.Val
-- ==== Proof.ScanCaseC.lean ====
module

public import proofs.«01_k».proof.Proof.ScanStep

@[expose] public section

set_option maxRecDepth 16384

noncomputable section

open Idealize.ShloMosaic Idealize.ShloMosaic.TcCoe Idealize.SL.Sem

namespace Cert.ScanIdeal.Val

open Cert.Stores

open Cert.ScanIdeal Cert.ScanIdeal.Gen

/-! The last point. -/

variable (c : Dev nD) (arg1 : Memref sig .tc .vmem S4x16x64x64 .bf16) (h1 : arg1.IsWhole) (arg2 : Memref sig .tc .vmem S4x16x192x64 .bf16) (h2 : arg2.IsWhole)
  (arg3 : Memref sig .tc .vmem S4x128x1024 .bf16) (h3 : arg3.IsWhole) (arg4 : Memref sig .tc .vmem S4x128x1024 .bf16) (h4 : arg4.IsWhole)
  (arg5 : Memref sig .tc .vmem S4x128x1024 .bf16) (h5 : arg5.IsWhole) (arg6 : Memref sig .tc .vmem S4x128x128 .f32) (h6 : arg6.IsWhole)
  (arg9 : Memref sig .tc .vmem S32x128x128 .f32) (h9 : arg9.IsWhole) (arg10 : Memref sig .tc .vmem S64x64x128 .f32) (arg11 : Memref sig .tc .vmem S64x64x128 .bf16)
  (x0 : Vec Ideal S4x16x64x64 .bf16) (x1 : Vec Ideal S4x16x192x64 .bf16) (x2 x3 x4 : Vec Ideal S4x128x1024 .bf16)
  (x5 : Vec Ideal S4x128x128 .f32) (s : Vec Ideal S32x128x128 .f32)

/-- The first products' left halves. -/
theorem C_U : View.canon (kernelRun0_C.sl.HS1_64 (F := Ideal) c arg1 h1 arg3 h3 arg4 h4 x0 x2 x3) = UB x0 x2 := by
  refine Mix.full (k := 64) (ord := fun y => (y 0).val) (J := View.canon []) ?_ idx0_lt64
  iterate 64 refine u_cons h1 h3 h4 x0 x2 x3 _ (by omega) _ _ _ (by rfl) ?_
  exact Mix.start rfl fun y => Nat.zero_le _

/-- The first products' right halves. -/
theorem C_W : View.canon (kernelRun0_C.sl.HS2_64 (F := Ideal) c arg1 h1 arg3 h3 arg4 h4 x0 x2 x3) = UB x0 x3 := by
  refine Mix.full (k := 64) (ord := fun y => (y 0).val) (J := View.canon []) ?_ idx0_lt64
  iterate 64 refine w_cons h1 h3 h4 x0 x2 x3 _ (by omega) _ _ _ (by rfl) ?_
  exact Mix.start rfl fun y => Nat.zero_le _

/-- The states after the first chunk. -/
theorem C_S0 : View.canon (kernelRun0_C.sl.HS0_32 (F := Ideal) c arg1 h1 arg2 h2 arg3 h3 arg4 h4 arg5 h5 arg6 h6 arg9 h9 arg10 arg11 x0 x1 x2 x3 x4 x5 s)
    = SN 0 (by omega) x0 x1 x2 x3 x5 s := by
  have hU := C_U c arg1 h1 arg3 h3 arg4 h4 x0 x2 x3
  have hW := C_W c arg1 h1 arg3 h3 arg4 h4 x0 x2 x3
  refine Mix.full (k := 32) (ord := fun y => 32 * 0 + (y 0).val) (J := View.canon []) ?_ fun y => ?_
  · iterate 32 refine s_first (v1 := arg10.view) (v2 := arg11.view) h2 h5 h6 x0 x1 x2 x3 x4 x5 s _ _ hU hW h9 0 (by omega) _ (by omega) (by omega) _ _ _ (by rfl) ?_
    exact Mix.start rfl fun y => Nat.zero_le _
  · have := (show Fin 32 from y 0).isLt; show 32 * 0 + (show Fin 32 from y 0).val < 32; omega

variable (i : grid0.Coords) (arg7 : Memref sig .tc .vmem S4x128x1024 .f32) (h7 : arg7.IsWhole) (arg8 : Memref sig .tc .vmem S32x128x128 .f32) (h8 : arg8.IsWhole)
  (h10 : arg10.IsWhole) (h11 : arg11.IsWhole)

/-- What the point leaves in the carried states: both chunks' steps. -/
theorem C_S (hc0 hc1) : sout0_C_0 (F := Ideal) c i arg1 h1 arg2 h2 arg3 h3 arg4 h4 arg5 h5 arg6 h6 arg7 h7 arg8 h8 arg9 h9 arg10 h10 arg11 h11 hc0 hc1
    x0 x1 x2 x3 x4 x5 s = SN 1 (by omega) x0 x1 x2 x3 x5 (SN 0 (by omega) x0 x1 x2 x3 x5 s) := by
  have hU := C_U c arg1 h1 arg3 h3 arg4 h4 x0 x2 x3
  have hW := C_W c arg1 h1 arg3 h3 arg4 h4 x0 x2 x3
  have hS := C_S0 c arg1 h1 arg2 h2 arg3 h3 arg4 h4 arg5 h5 arg6 h6 arg9 h9 arg10 arg11 x0 x1 x2 x3 x4 x5 s
  unfold sout0_C_0
  rw [View.read_writes_junk_eq_canon]
  unfold kernelRun0_C
  dsimp only
  refine Mix.full (k := 64) (ord := fun y => 32 * 1 + (y 0).val) (J := SN 0 (by omega) x0 x1 x2 x3 x5 s) ?_ fun y => ?_
  · iterate 32 refine s_next (v0 := arg9.view) (v1 := arg10.view) (v2 := arg11.view) h2 h5 h6 x0 x1 x2 x3 x4 x5 _ _ _ hU hW _ hS 1 (by omega) _ (by omega) (by omega) _ _ (by rfl) ?_
    exact Mix.start hS fun y => by show 32 ≤ 32 * 1 + _; omega
  · have := (show Fin 32 from y 0).isLt; show 32 * 1 + (show Fin 32 from y 0).val < 64; omega

/-- What the point leaves in the output's block. -/
theorem C_O (hc0 hc1) : out0_C_6 (F := Ideal) c i arg1 h1 arg2 h2 arg3 h3 arg4 h4 arg5 h5 arg6 h6 arg7 h7 arg8 h8 arg9 h9 arg10 h10 arg11 h11 hc0 hc1
    x0 x1 x2 x3 x4 x5 s = OB x0 x1 x2 x3 x4 x5 s := by
  have hU := C_U c arg1 h1 arg3 h3 arg4 h4 x0 x2 x3
  have hW := C_W c arg1 h1 arg3 h3 arg4 h4 x0 x2 x3
  have hS := C_S0 c arg1 h1 arg2 h2 arg3 h3 arg4 h4 arg5 h5 arg6 h6 arg9 h9 arg10 arg11 x0 x1 x2 x3 x4 x5 s
  unfold out0_C_6
  rw [View.read_writes_junk_eq_canon]
  unfold kernelRun0_C
  dsimp only
  refine Mix.full (k := 64) (ord := ordO) (J := View.canon []) ?_ ordO_lt
  iterate 32 refine o_next (v0 := arg9.view) (v1 := arg10.view) (v2 := arg11.view) h2 h5 x0 x1 x2 x3 x4 x5 s _ _ hU hW _ hS _ (by omega) (by omega) _ _ _ (by rfl) ?_
  iterate 32 refine o_first (v1 := arg10.view) (v2 := arg11.view) h2 h5 x0 x1 x2 x3 x4 x5 s _ _ hU hW h9 _ (by omega) (by omega) _ _ _ (by rfl) ?_
  exact Mix.start rfl fun y => Nat.zero_le _

/-- What the point leaves in the final states' block: the carried states. -/
theorem C_F (hc0 hc1) : out0_C_7 (F := Ideal) c i arg1 h1 arg2 h2 arg3 h3 arg4 h4 arg5 h5 arg6 h6 arg7 h7 arg8 h8 arg9 h9 arg10 h10 arg11 h11 hc0 hc1
    x0 x1 x2 x3 x4 x5 s = SN 1 (by omega) x0 x1 x2 x3 x5 (SN 0 (by omega) x0 x1 x2 x3 x5 s) := by
  have hS := C_S c arg1 h1 arg2 h2 arg3 h3 arg4 h4 arg5 h5 arg6 h6 arg9 h9 arg10 arg11 x0 x1 x2 x3 x4 x5 s i arg7 h7 arg8 h8 h10 h11 hc0 hc1
  unfold sout0_C_0 at hS
  rw [View.read_writes_junk_eq_canon] at hS
  unfold kernelRun0_C at hS
  dsimp only at hS
  unfold out0_C_7
  rw [View.read_writes_junk_eq_canon]
  unfold kernelRun0_C
  dsimp only
  rw [View.canon_unit_zero off0]
  exact (rd_cov _ _ _ hS _).trans (View.ld_unit_zero off0 _ _)

end Cert.ScanIdeal.Val
-- ==== Proof.ScanSpec.lean ====
module

public import proofs.«01_k».proof.Proof.ScanBlocks
public import proofs.«01_k».proof.Proof.ScanCaseA
public import proofs.«01_k».proof.Proof.ScanCaseB
public import proofs.«01_k».proof.Proof.ScanCaseC

@[expose] public section

set_option maxRecDepth 16384

noncomputable section

open Idealize.ShloMosaic Idealize.ShloMosaic.TcCoe Idealize.SL.Sem

namespace Cert.ScanIdeal.Val

open Cert.ScanIdeal Cert.ScanIdeal.Gen

/-! The recurrence, chunk by chunk, on the whole arrays: sequence `b`, chunk `n`, head `h`. -/

section Spec

variable (T QK : S4x32x8x64x64.Idx → EReal) (W K KT Q : S4x32x8x64x128.Idx → EReal) (CD : S4x32x8.Idx → EReal)

/-- The product of a chunk's triangular factor with its rows of `a`. -/
def bU (a : S4x32x8x64x128.Idx → EReal) (b : Fin 4) (n : Fin 32) (h : Fin 8) (r : Fin 64) (v : Fin 128) : EReal :=
  ∑ j : Fin 64, T (ix5 b n h r j) * a (ix5 b n h j v)

/-- A chunk's corrected values, from the states before it. -/
def uS (st : Fin 4 → Fin 8 → Fin 128 → Fin 128 → EReal) (b : Fin 4) (n : Fin 32) (h : Fin 8) (r : Fin 64) (v : Fin 128) : EReal :=
  bU T W b n h r v - ∑ d : Fin 128, bU T K b n h r d * st b h d v

/-- The states after a chunk. -/
def sS (st : Fin 4 → Fin 8 → Fin 128 → Fin 128 → EReal) (n : Fin 32) (b : Fin 4) (h : Fin 8) (d v : Fin 128) : EReal :=
  st b h d v * CD (ix3 b n h) + ∑ j : Fin 64, KT (ix5 b n h j d) * uS T W K st b n h j v

/-- A chunk's outputs. -/
def oS (st : Fin 4 → Fin 8 → Fin 128 → Fin 128 → EReal) (n : Fin 32) (b : Fin 4) (h : Fin 8) (r : Fin 64) (v : Fin 128) : EReal :=
  (∑ d : Fin 128, Q (ix5 b n h r d) * st b h d v) + ∑ j : Fin 64, QK (ix5 b n h r j) * uS T W K st b n h j v

/-- The states before chunk `n`: zero before the first. -/
def ST : ℕ → Fin 4 → Fin 8 → Fin 128 → Fin 128 → EReal
  | 0 => fun _ _ _ _ => 0
  | n + 1 => sS T W K KT CD (ST n) ⟨n % 32, by omega⟩

end Spec

/-- States laid out chain by chain. -/
def FL (st : Fin 4 → Fin 8 → Fin 128 → Fin 128 → EReal) : Vec Ideal S32x128x128 .f32 :=
  fun y => st ⟨(show Fin 32 from y 0).val / 8, by have := (show Fin 32 from y 0).isLt; omega⟩
    ⟨(show Fin 32 from y 0).val % 8, by omega⟩ (y 1) (y 2)

variable (m : (ℓ : Loc nD τ sig) → Buf (Elt Ideal) ℓ) (ρ : Dev nD → PrngReg)

section Point

variable (c : Dev nD) (t : Fin cfg0.N)

theorem n_lt (t : Fin cfg0.N) (k : Fin 64) : t.val * 2 + k.val / 32 < 32 := by have := N16 t; have := k.isLt; omega

theorem ub_pt (k : Fin 64) (i : Fin 64) (v : Fin 128) : ubAt (iblk m c 0 t) (iblk m c 2 t) k i v
    = bU (m ((c : Thread nD τ).loc main_arg0)) (m ((c : Thread nD τ).loc main_arg1)) ⟨k.val % 32 / 8, by omega⟩ ⟨t.val * 2 + k.val / 32, n_lt t k⟩
      ⟨k.val % 8, by omega⟩ i v := by
  have hk := k.isLt
  refine Finset.sum_congr rfl fun j _ => congrArg₂ (fun p q : EReal => p * q) ((blk0 m c t _ _ i j).trans ?_) ((blk2 m c t _ _ _).trans ?_)
  · exact ix5_arg _ rfl (by dsimp only; omega) (by dsimp only; omega) rfl rfl
  · exact ix5_arg _ rfl (by dsimp only; omega) (by dsimp only; omega) (by dsimp only; omega) (by dsimp only; omega)

theorem wd_pt (k : Fin 64) (i : Fin 64) (v : Fin 128) : ubAt (iblk m c 0 t) (iblk m c 3 t) k i v
    = bU (m ((c : Thread nD τ).loc main_arg0)) (m ((c : Thread nD τ).loc main_arg2)) ⟨k.val % 32 / 8, by omega⟩ ⟨t.val * 2 + k.val / 32, n_lt t k⟩
      ⟨k.val % 8, by omega⟩ i v := by
  have hk := k.isLt
  refine Finset.sum_congr rfl fun j _ => congrArg₂ (fun p q : EReal => p * q) ((blk0 m c t _ _ i j).trans ?_) ((blk3 m c t _ _ _).trans ?_)
  · exact ix5_arg _ rfl (by dsimp only; omega) (by dsimp only; omega) rfl rfl
  · exact ix5_arg _ rfl (by dsimp only; omega) (by dsimp only; omega) (by dsimp only; omega) (by dsimp only; omega)

variable (st : Fin 4 → Fin 8 → Fin 128 → Fin 128 → EReal)

theorem FL_at (k : Fin 64) (d v : Fin 128) : FL st (ix3 ⟨k.val % 32, by omega⟩ d v) = st ⟨k.val % 32 / 8, by omega⟩ ⟨k.val % 8, by omega⟩ d v := by
  show st ⟨k.val % 32 / 8, _⟩ ⟨k.val % 32 % 8, _⟩ d v = _
  have e : k.val % 32 % 8 = k.val % 8 := by omega
  simp only [e]

theorem u_pt (k : Fin 64) (i : Fin 64) (v : Fin 128) : uAt (iblk m c 0 t) (iblk m c 2 t) (iblk m c 3 t) (FL st) k i v
    = uS (m ((c : Thread nD τ).loc main_arg0)) (m ((c : Thread nD τ).loc main_arg1)) (m ((c : Thread nD τ).loc main_arg2)) st
      ⟨k.val % 32 / 8, by omega⟩ ⟨t.val * 2 + k.val / 32, n_lt t k⟩ ⟨k.val % 8, by omega⟩ i v :=
  congrArg₂ (fun p q : EReal => p - q) (ub_pt m c t k i v)
    (Finset.sum_congr rfl fun d _ => congrArg₂ (fun p q : EReal => p * q) (wd_pt m c t k i d) (FL_at st k d v))

theorem s_pt (k : Fin 64) (d v : Fin 128) :
    sAt (iblk m c 0 t) (iblk m c 1 t) (iblk m c 2 t) (iblk m c 3 t) (iblk m c 5 t) (FL st) k d v
    = sS (m ((c : Thread nD τ).loc main_arg0)) (m ((c : Thread nD τ).loc main_arg1)) (m ((c : Thread nD τ).loc main_arg2))
        (m ((c : Thread nD τ).loc main_arg4)) (m ((c : Thread nD τ).loc main_arg6)) st
      ⟨t.val * 2 + k.val / 32, n_lt t k⟩ ⟨k.val % 32 / 8, by omega⟩ ⟨k.val % 8, by omega⟩ d v := by
  have hk := k.isLt
  refine congrArg₂ (fun p q : EReal => p + q) (congrArg₂ (fun p q : EReal => p * q) (FL_at st k d v) ((blk5 m c t _ _ ⟨k.val % 8, by omega⟩).trans ?_))
    (Finset.sum_congr rfl fun j _ => congrArg₂ (fun p q : EReal => p * q) ((blk1_hi m c t _ _ d j).trans ?_) (u_pt m c t st k j v))
  · refine congrArg (fun n => m ((c : Thread nD τ).loc main_arg6) (ix3 _ n _)) (Fin.ext ?_)
    dsimp only; omega
  · exact ix5_arg _ rfl (by dsimp only; omega) (by dsimp only; omega) rfl rfl

theorem o_pt (k : Fin 64) (i : Fin 64) (v : Fin 128) :
    oAt (iblk m c 0 t) (iblk m c 1 t) (iblk m c 2 t) (iblk m c 3 t) (iblk m c 4 t) (FL st) k i v
    = oS (m ((c : Thread nD τ).loc main_arg0)) (m ((c : Thread nD τ).loc main_arg3)) (m ((c : Thread nD τ).loc main_arg1)) (m ((c : Thread nD τ).loc main_arg2))
        (m ((c : Thread nD τ).loc main_arg5)) st
      ⟨t.val * 2 + k.val / 32, n_lt t k⟩ ⟨k.val % 32 / 8, by omega⟩ ⟨k.val % 8, by omega⟩ i v := by
  have hk := k.isLt
  refine congrArg₂ (fun p q : EReal => p + q)
    (Finset.sum_congr rfl fun d _ => congrArg₂ (fun p q : EReal => p * q) ((blk4 m c t _ _ _).trans ?_) (FL_at st k d v))
    (Finset.sum_congr rfl fun j _ => congrArg₂ (fun p q : EReal => p * q) ((blk1_lo m c t _ _ i j).trans ?_) (u_pt m c t st k j v))
  · exact ix5_arg _ rfl (by dsimp only; omega) (by dsimp only; omega) (by dsimp only; omega) (by dsimp only; omega)
  · exact ix5_arg _ rfl (by dsimp only; omega) (by dsimp only; omega) rfl rfl

end Point

/-- The states before chunk `n`, of the launch's arguments. -/
abbrev STm (c : Dev nD) : ℕ → Fin 4 → Fin 8 → Fin 128 → Fin 128 → EReal :=
  ST (m ((c : Thread nD τ).loc main_arg0)) (m ((c : Thread nD τ).loc main_arg1)) (m ((c : Thread nD τ).loc main_arg2))
        (m ((c : Thread nD τ).loc main_arg4)) (m ((c : Thread nD τ).loc main_arg6))

/-- A chunk's step on the point's blocks is the recurrence's. -/
theorem SN_ST (c : Dev nD) (t : Fin cfg0.N) (ck : ℕ) (hck : ck < 2) :
    SN ck hck (iblk m c 0 t) (iblk m c 1 t) (iblk m c 2 t) (iblk m c 3 t) (iblk m c 5 t) (FL (STm m c (t.val * 2 + ck)))
      = FL (STm m c (t.val * 2 + ck + 1)) := by
  have hN := N16 t
  funext y
  obtain ⟨a, d, v, rfl⟩ : ∃ a b c, y = ix3 a b c := ⟨_, _, _, eq_ix3 y⟩
  have ha := a.isLt
  refine (s_pt m c t _ ⟨32 * ck + a.val, by omega⟩ d v).trans ?_
  show sS _ _ _ _ _ _ ⟨t.val * 2 + (32 * ck + a.val) / 32, _⟩ ⟨(32 * ck + a.val) % 32 / 8, _⟩ ⟨(32 * ck + a.val) % 8, _⟩ d v
    = sS _ _ _ _ _ _ ⟨(t.val * 2 + ck) % 32, _⟩ ⟨a.val / 8, _⟩ ⟨a.val % 8, _⟩ d v
  have e1 : t.val * 2 + (32 * ck + a.val) / 32 = (t.val * 2 + ck) % 32 := by omega
  have e2 : (32 * ck + a.val) % 32 / 8 = a.val / 8 := by omega
  have e3 : (32 * ck + a.val) % 8 = a.val % 8 := by omega
  simp only [e1, e2, e3]

theorem Z_ST (c : Dev nD) : Z = FL (STm m c 0) := rfl

/-- The two chunks of a point. -/
theorem two (c : Dev nD) (t : Fin cfg0.N) (k k' : ℕ) (hk : k = t.val * 2) (hk' : k' = t.val * 2 + 2) :
    SN 1 (by omega) (iblk m c 0 t) (iblk m c 1 t) (iblk m c 2 t) (iblk m c 3 t) (iblk m c 5 t)
      (SN 0 (by omega) (iblk m c 0 t) (iblk m c 1 t) (iblk m c 2 t) (iblk m c 3 t) (iblk m c 5 t) (FL (STm m c k))) = FL (STm m c k') := by
  subst hk hk'
  exact (congrArg (SN 1 (by omega) (iblk m c 0 t) (iblk m c 1 t) (iblk m c 2 t) (iblk m c 3 t) (iblk m c 5 t)) (SN_ST m c t 0 (by omega))).trans
    (SN_ST m c t 1 (by omega))

/-- After every point the carried states are those after the point's two chunks. -/
theorem scratch (c : Dev nD) : ∀ (n : ℕ) (h : n < cfg0.N), (outsAt0 m c n h).2.2 = FL (STm m c (n * 2 + 2))
  | 0, h => by
    rw [outsAt0_A m c ⟨0, h⟩ rfl (by show ¬ 0 % 16 = 15; omega)]
    dsimp only
    rw [A_S, Z_ST m c]
    exact two m c ⟨0, h⟩ 0 _ rfl rfl
  | n + 1, h => by
    have hn : n + 1 < 16 := lt_of_lt_of_eq h N_0
    have h0 : ¬(n + 1) % 16 = 0 := by omega
    have ih := scratch c n (Nat.lt_of_succ_lt h)
    by_cases h1 : (n + 1) % 16 = 15
    · rw [outsAt0_C m c ⟨n + 1, h⟩ h0 h1]
      dsimp only
      rw [C_S]
      simp only [Nat.add_sub_cancel]
      rw [ih]
      exact two m c ⟨n + 1, h⟩ _ _ (by dsimp only; omega) (by dsimp only)
    · rw [outsAt0_B m c ⟨n + 1, h⟩ h0 h1]
      dsimp only
      rw [B_S]
      simp only [Nat.add_sub_cancel]
      rw [ih]
      exact two m c ⟨n + 1, h⟩ _ _ (by dsimp only; omega) (by dsimp only)

/-- The last point copies the carried states out. -/
theorem last (c : Dev nD) (t : Fin cfg0.N) (h1 : t.val % 16 = 15) : (outsAt0 m c t.val t.isLt).2.1 = FL (STm m c 32) := by
  have ht := N16 t
  obtain ⟨n, h⟩ := t
  obtain _ | n := n
  · exact absurd h1 (by show ¬ 0 % 16 = 15; omega)
  · rw [outsAt0_C m c ⟨n + 1, h⟩ (by dsimp only at h1 ⊢; omega) h1]
    dsimp only
    rw [C_F]
    simp only [Nat.add_sub_cancel]
    rw [scratch m c n]
    exact two m c ⟨n + 1, h⟩ _ _ (by dsimp only; omega) (by dsimp only at h1 ht ⊢; omega)

/-- What every point leaves in the output's block. -/
theorem out (c : Dev nD) : ∀ (n : ℕ) (h : n < cfg0.N), (outsAt0 m c n h).1
    = OB (iblk m c 0 ⟨n, h⟩) (iblk m c 1 ⟨n, h⟩) (iblk m c 2 ⟨n, h⟩) (iblk m c 3 ⟨n, h⟩) (iblk m c 4 ⟨n, h⟩) (iblk m c 5 ⟨n, h⟩) (FL (STm m c (n * 2)))
  | 0, h => by
    rw [outsAt0_A m c ⟨0, h⟩ rfl (by show ¬ 0 % 16 = 15; omega)]
    dsimp only
    rw [A_O]
    rfl
  | n + 1, h => by
    have hn : n + 1 < 16 := lt_of_lt_of_eq h N_0
    have h0 : ¬(n + 1) % 16 = 0 := by omega
    have ih := scratch m c n (Nat.lt_of_succ_lt h)
    have e : (n + 1) * 2 = n * 2 + 2 := by omega
    by_cases h1 : (n + 1) % 16 = 15
    · rw [outsAt0_C m c ⟨n + 1, h⟩ h0 h1]
      dsimp only
      rw [C_O]
      simp only [Nat.add_sub_cancel]
      rw [ih, e]
    · rw [outsAt0_B m c ⟨n + 1, h⟩ h0 h1]
      dsimp only
      rw [B_O]
      simp only [Nat.add_sub_cancel]
      rw [ih, e]

/-- The whole output, of the launch's arguments. -/
def OUT (c : Dev nD) : S4x2048x1024.Idx → EReal := fun y =>
  oS (m ((c : Thread nD τ).loc main_arg0)) (m ((c : Thread nD τ).loc main_arg3)) (m ((c : Thread nD τ).loc main_arg1)) (m ((c : Thread nD τ).loc main_arg2))
    (m ((c : Thread nD τ).loc main_arg5)) (STm m c ((show Fin 2048 from y 1).val / 64))
    ⟨(show Fin 2048 from y 1).val / 64, by have := (show Fin 2048 from y 1).isLt; omega⟩ (y 0)
    ⟨(show Fin 1024 from y 2).val / 128, by have := (show Fin 1024 from y 2).isLt; omega⟩
    ⟨(show Fin 2048 from y 1).val % 64, by omega⟩ ⟨(show Fin 1024 from y 2).val % 128, by omega⟩

/-- A point's output block is the whole output's. -/
theorem OB_OUT (c : Dev nD) (t : Fin cfg0.N) (a : Fin 4) (r : Fin 128) (q : Fin 1024) :
    OB (iblk m c 0 t) (iblk m c 1 t) (iblk m c 2 t) (iblk m c 3 t) (iblk m c 4 t) (iblk m c 5 t) (FL (STm m c (t.val * 2))) (ix3 a r q)
      = OUT m c (ix3 a ⟨t.val * 128 + r.val, by have := N16 t; omega⟩ q) := by
  have hN := N16 t
  have ha := a.isLt
  have hr := r.isLt
  have hq := q.isLt
  have hst : (if r.val / 64 * 32 + a.val * 8 + q.val / 128 < 32 then FL (STm m c (t.val * 2))
      else SN 0 (by omega) (iblk m c 0 t) (iblk m c 1 t) (iblk m c 2 t) (iblk m c 3 t) (iblk m c 5 t) (FL (STm m c (t.val * 2))) : Vec Ideal S32x128x128 .f32)
      = FL (STm m c (t.val * 2 + r.val / 64)) := by
    split
    · have e : r.val / 64 = 0 := by omega
      rw [e]; rfl
    · have e : r.val / 64 = 1 := by omega
      rw [e]; exact SN_ST m c t 0 (by omega)
  show oAt _ _ _ _ _ (if r.val / 64 * 32 + a.val * 8 + q.val / 128 < 32 then FL (STm m c (t.val * 2)) else SN 0 _ _ _ _ _ _ _)
    ⟨r.val / 64 * 32 + a.val * 8 + q.val / 128, _⟩ ⟨r.val % 64, _⟩ ⟨q.val % 128, _⟩ = _
  refine (congrArg (fun s => oAt (iblk m c 0 t) (iblk m c 1 t) (iblk m c 2 t) (iblk m c 3 t) (iblk m c 4 t) s _ _ _) hst).trans ((o_pt m c t _ _ _ _).trans ?_)
  show oS _ _ _ _ _ _ ⟨t.val * 2 + (r.val / 64 * 32 + a.val * 8 + q.val / 128) / 32, _⟩ ⟨(r.val / 64 * 32 + a.val * 8 + q.val / 128) % 32 / 8, _⟩
      ⟨(r.val / 64 * 32 + a.val * 8 + q.val / 128) % 8, _⟩ ⟨r.val % 64, _⟩ ⟨q.val % 128, _⟩
    = oS _ _ _ _ _ (STm m c ((t.val * 128 + r.val) / 64)) ⟨(t.val * 128 + r.val) / 64, _⟩ a ⟨q.val / 128, _⟩ ⟨(t.val * 128 + r.val) % 64, _⟩ ⟨q.val % 128, _⟩
  have e1 : t.val * 2 + (r.val / 64 * 32 + a.val * 8 + q.val / 128) / 32 = t.val * 2 + r.val / 64 := by omega
  have e2 : (r.val / 64 * 32 + a.val * 8 + q.val / 128) % 32 / 8 = a.val := by omega
  have e3 : (r.val / 64 * 32 + a.val * 8 + q.val / 128) % 8 = q.val / 128 := by omega
  have e4 : (t.val * 128 + r.val) / 64 = t.val * 2 + r.val / 64 := by omega
  have e5 : (t.val * 128 + r.val) % 64 = r.val % 64 := by omega
  simp only [e1, e2, e3, e4, e5]

/-- The output array after the run. -/
theorem final_o (c : Dev nD) : (dats m 0 c).arrAt 6 (cfgs 0).N = OUT m c := by
  refine (dats m 0 c).arrAt_eq_of_covers 6 _ (by decide +kernel) fun t _ y => ?_
  blk_simp
  rw [after0_6, out]
  obtain ⟨a, r, q, rfl⟩ : ∃ a b c, y = ix3 a b c := ⟨_, _, _, eq_ix3 y⟩
  refine (OB_OUT m c t a r q).trans (congrArg (OUT m c) ?_)
  blk_ext [idx t]

/-- The final states' array after the run. -/
theorem final_s (c : Dev nD) : (dats m 0 c).arrAt 7 (cfgs 0).N = FL (STm m c 32) := by
  refine (dats m 0 c).arrAt_eq_of_covers 7 _ (by decide +kernel) fun t ht y => ?_
  have h1 : t.val % 16 = 15 := (flush0_7 t).mp ht
  blk_simp
  rw [after0_7, last m c t h1]
  obtain ⟨a, r, q, rfl⟩ : ∃ a b c, y = ix3 a b c := ⟨_, _, _, eq_ix3 y⟩
  refine congrArg (FL _) ?_
  blk_ext [idx t]

end Cert.ScanIdeal.Val
-- ==== Proof.ScanRefValue.lean ====
module

public import proofs.«01_k».proof.Proof.ScanSpec
public import proofs.«01_k».proof.Proof.Gen.ScanRefIdeal.Run
public import Idealize.ShloMosaic.Lib.DynamicIndex

@[expose] public section

set_option maxRecDepth 16384

noncomputable section

open Idealize.ShloMosaic Idealize.ShloMosaic.TcCoe Idealize.SL.Sem Idealize.ShloMosaic.StableHlo

namespace Cert.ScanRefIdeal.Val

open Cert.ScanRefIdeal Cert.ScanRefIdeal.Gen Cert.ScanRefIdeal.Value Cert.ScanIdeal.Val

/-- A trip's starts: its number on the chunks' axis, zero elsewhere. -/
theorem st5 (n : Fin 32) (a : Fin 5) : (((![fun _ => BitVec.ofNat 32 n.val, constantI S_ 32 0#32, constantI S_ 32 0#32, constantI S_ 32 0#32, constantI S_ 32 0#32]
      : Fin 5 → (⟨S_, .i32⟩ : BufTy).Contents (Elt Ideal))) a (Shape.Idx.first h_S_)).toInt = (((![n.val, 0, 0, 0, 0] : Fin 5 → ℕ) a : ℕ) : Int) := by
  have hn := n.isLt
  fin_cases a <;> first | exact toInt_ofNat_of_lt (by omega) | rfl

theorem st3 (n : Fin 32) (a : Fin 3) : (((![fun _ => BitVec.ofNat 32 n.val, constantI S_ 32 0#32, constantI S_ 32 0#32]
      : Fin 3 → (⟨S_, .i32⟩ : BufTy).Contents (Elt Ideal))) a (Shape.Idx.first h_S_)).toInt = (((![n.val, 0, 0] : Fin 3 → ℕ) a : ℕ) : Int) := by
  have hn := n.isLt
  fin_cases a <;> first | exact toInt_ofNat_of_lt (by omega) | rfl

/-- One chunk's rows fit in an array of all chunks. -/
theorem fit128 (n : Fin 32) : S32x4x8x64x128.Slices ![n.val, 0, 0, 0, 0] S1x4x8x64x128 := by
  have hn := n.isLt
  refine ⟨rfl, fun a => ?_⟩
  fin_cases a <;> dsimp <;> omega

theorem fit64 (n : Fin 32) : S32x4x8x64x64.Slices ![n.val, 0, 0, 0, 0] S1x4x8x64x64 := by
  have hn := n.isLt
  refine ⟨rfl, fun a => ?_⟩
  fin_cases a <;> dsimp <;> omega

theorem fit3 (n : Fin 32) : S32x4x8.Slices ![n.val, 0, 0] S1x4x8 := by
  have hn := n.isLt
  refine ⟨rfl, fun a => ?_⟩
  fin_cases a <;> dsimp <;> omega

section Cut

variable (st : Fin 5 → Int) (n : Fin 32) (hs : ∀ a, st a = (((![n.val, 0, 0, 0, 0] : Fin 5 → ℕ) a : ℕ) : Int))
include hs

/-- A chunk of an array of all chunks. -/
theorem cut128 (x : S32x4x8x64x128.Idx → EReal) (b : Fin 4) (h : Fin 8) (r : Fin 64) (v : Fin 128) :
    shapeCast S4x8x64x128 (Host.dynamicSlice S1x4x8x64x128 x st sliceFits_S32x4x8x64x128_S1x4x8x64x128) shapeCasts_S1x4x8x64x128_S4x8x64x128 (ix4 b h r v)
    = x (ix5 n b h r v) := by
  rw [Host.dynamicSlice_eq_extractStridedSlice _ x st ![n.val, 0, 0, 0, 0] _ (fit128 n) hs]
  pointwise

theorem cut64 (x : S32x4x8x64x64.Idx → EReal) (b : Fin 4) (h : Fin 8) (r : Fin 64) (v : Fin 64) :
    shapeCast S4x8x64x64 (Host.dynamicSlice S1x4x8x64x64 x st sliceFits_S32x4x8x64x64_S1x4x8x64x64) shapeCasts_S1x4x8x64x64_S4x8x64x64 (ix4 b h r v)
    = x (ix5 n b h r v) := by
  rw [Host.dynamicSlice_eq_extractStridedSlice _ x st ![n.val, 0, 0, 0, 0] _ (fit64 n) hs]
  pointwise

/-- The outputs with one chunk written. -/
theorem put128 (x : S32x4x8x64x128.Idx → EReal) (y : S4x8x64x128.Idx → EReal) (j : Fin 32) (b : Fin 4) (h : Fin 8) (r : Fin 64) (v : Fin 128) :
    Host.dynamicUpdateSlice x (broadcastInDim S1x4x8x64x128 ![1, 2, 3, 4] bcast_S4x8x64x128_S1x4x8x64x128_1_2_3_4 y) st
      updateFits_S32x4x8x64x128_S1x4x8x64x128 (ix5 j b h r v) = if j = n then y (ix4 b h r v) else x (ix5 j b h r v) := by
  have hn := n.isLt
  have hc := fun a => Host.clampedStart_of_le (s := S32x4x8x64x128) (t := S1x4x8x64x128) rfl st a _ (hs a) ((fit128 n).2 a)
  rw [Host.dynamicUpdateSlice_apply]
  simp only [hc]
  by_cases e : j = n
  · subst e
    rw [if_pos rfl, dif_pos (by
      have hb := b.isLt; have hh := h.isLt; have hr := r.isLt; have hv := v.isLt
      intro a; fin_cases a <;> dsimp [ix5] <;> omega)]
    pointwise
  · rw [if_neg e, dif_neg (by
      intro hall
      have := hall 0
      apply e; apply Fin.ext
      dsimp [ix5] at this
      omega)]

end Cut

theorem cut3 (st : Fin 3 → Int) (n : Fin 32) (hs : ∀ a, st a = (((![n.val, 0, 0] : Fin 3 → ℕ) a : ℕ) : Int))
    (x : S32x4x8.Idx → EReal) (b : Fin 4) (h : Fin 8) :
    shapeCast S4x8 (Host.dynamicSlice S1x4x8 x st sliceFits_S32x4x8_S1x4x8) shapeCasts_S1x4x8_S4x8 (ix2 b h)
    = x (ix3 n b h) := by
  rw [Host.dynamicSlice_eq_extractStridedSlice _ x st ![n.val, 0, 0] _ (fit3 n) hs]
  pointwise

/-! ## The loop's arithmetic on arrays -/

theorem dot_wd (w : S4x8x64x128.Idx → EReal) (s : S4x8x128x128.Idx → EReal) (b : Fin 4) (h : Fin 8) (r : Fin 64) (v : Fin 128) :
    Host.dotGeneral (F := Ideal) (φ₁ := .f32) (φ₂ := .f32) dot_S4x8x64x128_S4x8x128x128_S4x8x64x128_3_2_2_3_01_01 none w s (ix4 b h r v)
    = ∑ d : Fin 128, w (ix4 b h r d) * s (ix4 b h d v) := by
  pointwise

theorem dot_qk (w : S4x8x64x64.Idx → EReal) (s : S4x8x64x128.Idx → EReal) (b : Fin 4) (h : Fin 8) (r : Fin 64) (v : Fin 128) :
    Host.dotGeneral (F := Ideal) (φ₁ := .f32) (φ₂ := .f32) dot_S4x8x64x64_S4x8x64x128_S4x8x64x128_3_2_2_3_01_01 none w s (ix4 b h r v)
    = ∑ d : Fin 64, w (ix4 b h r d) * s (ix4 b h d v) := by
  pointwise

theorem dot_kt (w : S4x8x64x128.Idx → EReal) (s : S4x8x64x128.Idx → EReal) (b : Fin 4) (h : Fin 8) (r v : Fin 128) :
    Host.dotGeneral (F := Ideal) (φ₁ := .f32) (φ₂ := .f32) dot_S4x8x64x128_S4x8x64x128_S4x8x128x128_2_2_3_3_01_01 none w s (ix4 b h r v)
    = ∑ d : Fin 64, w (ix4 b h d r) * s (ix4 b h d v) := by
  pointwise

/-! ## One trip, from any contents -/

section Trip

variable (T QK : S4x32x8x64x64.Idx → EReal) (W K KT Q : S4x32x8x64x128.Idx → EReal) (CD : S4x32x8.Idx → EReal)

/-- Before trip `k` the arrays of all chunks are as at entry, the counter is `k`, the state is the recurrence's before chunk `k`, and
    the outputs of the chunks before `k` are written. -/
structure Inv (k : ℕ) (V : Valuation τ sig (Elt Ideal)) : Prop where
  e0 : ∃ A : S32x4x8x64x128.Idx → EReal, V (Proc.devRef .tc main_v10_0) = A ∧ ∀ n b h r v, A (ix5 n b h r v) = bU T W b n h r v
  e1 : ∃ A : S32x4x8x64x128.Idx → EReal, V (Proc.devRef .tc main_v10_1) = A ∧ ∀ n b h r v, A (ix5 n b h r v) = bU T K b n h r v
  e2 : ∃ A : S32x4x8x64x64.Idx → EReal, V (Proc.devRef .tc main_v10_2) = A ∧ ∀ n b h r v, A (ix5 n b h r v) = QK (ix5 b n h r v)
  e3 : ∃ A : S32x4x8x64x128.Idx → EReal, V (Proc.devRef .tc main_v10_3) = A ∧ ∀ n b h r v, A (ix5 n b h r v) = KT (ix5 b n h r v)
  e4 : ∃ A : S32x4x8x64x128.Idx → EReal, V (Proc.devRef .tc main_v10_4) = A ∧ ∀ n b h r v, A (ix5 n b h r v) = Q (ix5 b n h r v)
  e5 : ∃ A : S32x4x8.Idx → EReal, V (Proc.devRef .tc main_v10_5) = A ∧ ∀ n b h, A (ix3 n b h) = CD (ix3 b n h)
  e6 : V (Proc.devRef .tc main_v10_6) = fun _ => BitVec.ofNat 32 k
  e7 : ∃ A : S4x8x128x128.Idx → EReal, V (Proc.devRef .tc main_v10_7) = A ∧ ∀ b h d v, A (ix4 b h d v) = ST T W K KT CD k b h d v
  e8 : ∃ A : S32x4x8x64x128.Idx → EReal, V (Proc.devRef .tc main_v10_8) = A
    ∧ ∀ (j : Fin 32) b h r v, j.val < k → A (ix5 j b h r v) = oS T QK W K Q (ST T W K KT CD j.val) j b h r v

variable {T QK W K KT Q CD}
variable {V : Valuation τ sig (Elt Ideal)} {n : Fin 32} (I : Inv T QK W K KT Q CD n.val V)
include I

/-- A trip's corrected values. -/
theorem res_at (b : Fin 4) (h : Fin 8) (r : Fin 64) (v : Fin 128) :
    res_main_while0b_v21 V (ix4 b h r v) = uS T W K (ST T W K KT CD n.val) b n h r v := by
  obtain ⟨A0, h0, a0⟩ := I.e0
  obtain ⟨A1, h1, a1⟩ := I.e1
  obtain ⟨S, h7, s7⟩ := I.e7
  unfold res_main_while0b_v21
  rw [I.e6, h0, h1, h7]
  exact congrArg₂ (fun p q : EReal => p - q) ((cut128 _ n (st5 n) A0 b h r v).trans (a0 n b h r v))
    ((dot_wd _ _ b h r v).trans (Finset.sum_congr rfl fun d _ => congrArg₂ (fun p q : EReal => p * q)
      ((cut128 _ n (st5 n) A1 b h r d).trans (a1 n b h r d)) (s7 b h d v)))

/-- The state after a trip. -/
theorem step7 (b : Fin 4) (h : Fin 8) (d v : Fin 128) :
    step_main_v10_7 V (ix4 b h d v) = ST T W K KT CD (n.val + 1) b h d v := by
  obtain ⟨A3, h3, a3⟩ := I.e3
  obtain ⟨A5, h5, a5⟩ := I.e5
  obtain ⟨S, h7, s7⟩ := I.e7
  have hr := res_at I
  have hn : (⟨n.val % 32, by omega⟩ : Fin 32) = n := Fin.ext (Nat.mod_eq_of_lt n.isLt)
  unfold step_main_v10_7
  generalize res_main_while0b_v21 V = R at hr ⊢
  rw [I.e6, h3, h5, h7]
  show _ = sS T W K KT CD (ST T W K KT CD n.val) ⟨n.val % 32, _⟩ b h d v
  rw [hn]
  refine congrArg₂ (fun p q : EReal => p + q) (congrArg₂ (fun p q : EReal => p * q) (s7 b h d v)
      (Eq.trans ?_ ((cut3 _ n (st3 n) A5 b h).trans (a5 n b h))))
    ((dot_kt _ _ b h d v).trans (Finset.sum_congr rfl fun j _ => congrArg₂ (fun p q : EReal => p * q)
      ((cut128 _ n (st5 n) A3 b h j d).trans (a3 n b h j d)) (hr b h j v)))
  generalize shapeCast S4x8 (Host.dynamicSlice S1x4x8 A5 _ sliceFits_S32x4x8_S1x4x8) shapeCasts_S1x4x8_S4x8 = B
  pointwise

/-- The outputs after a trip. -/
theorem step8 (j : Fin 32) (b : Fin 4) (h : Fin 8) (r : Fin 64) (v : Fin 128) (hj : j.val < n.val + 1) :
    step_main_v10_8 V (ix5 j b h r v) = oS T QK W K Q (ST T W K KT CD j.val) j b h r v := by
  obtain ⟨A2, h2, a2⟩ := I.e2
  obtain ⟨A4, h4, a4⟩ := I.e4
  obtain ⟨S, h7, s7⟩ := I.e7
  obtain ⟨O, h8, o8⟩ := I.e8
  have hr := res_at I
  unfold step_main_v10_8
  generalize res_main_while0b_v21 V = R at hr ⊢
  rw [I.e6, h2, h4, h7, h8]
  refine (put128 _ n (st5 n) O _ j b h r v).trans ?_
  by_cases e : j = n
  · subst e
    rw [if_pos rfl]
    exact congrArg₂ (fun p q : EReal => p + q)
      ((dot_wd _ _ b h r v).trans (Finset.sum_congr rfl fun d _ => congrArg₂ (fun p q : EReal => p * q)
        ((cut128 _ j (st5 j) A4 b h r d).trans (a4 j b h r d)) (s7 b h d v)))
      ((dot_qk _ _ b h r v).trans (Finset.sum_congr rfl fun d _ => congrArg₂ (fun p q : EReal => p * q)
        ((cut64 _ j (st5 j) A2 b h r d).trans (a2 j b h r d)) (hr b h d v)))
  · rw [if_neg e]
    exact o8 j b h r v (by have : j.val ≠ n.val := fun h => e (Fin.ext h); omega)

theorem inv_step : Inv T QK W K KT Q CD (n.val + 1) (STEP V) where
  e0 := by rw [STEP_main_v10_0]; exact I.e0
  e1 := by rw [STEP_main_v10_1]; exact I.e1
  e2 := by rw [STEP_main_v10_2]; exact I.e2
  e3 := by rw [STEP_main_v10_3]; exact I.e3
  e4 := by rw [STEP_main_v10_4]; exact I.e4
  e5 := by rw [STEP_main_v10_5]; exact I.e5
  e6 := by
    rw [STEP_main_v10_6]; unfold step_main_v10_6; rw [I.e6]
    exact funext fun _ => BitVec.ofNat_add_ofNat n.val 1
  e7 := ⟨_, STEP_main_v10_7 V, step7 I⟩
  e8 := ⟨_, STEP_main_v10_8 V, step8 I⟩

end Trip

/-- Every trip keeps it. -/
theorem inv_iter {T QK : S4x32x8x64x64.Idx → EReal} {W K KT Q : S4x32x8x64x128.Idx → EReal} {CD : S4x32x8.Idx → EReal}
    {V : Valuation τ sig (Elt Ideal)} (I : Inv T QK W K KT Q CD 0 V) : ∀ k : ℕ, k ≤ 32 → Inv T QK W K KT Q CD k (STEP^[k] V)
  | 0, _ => I
  | k + 1, hk => by
    rw [Function.iterate_succ_apply']
    exact inv_step (n := ⟨k, hk⟩) (inv_iter I k (by omega))

/-! ## The contents at the loop's entry, and the results -/

variable (m : (ℓ : Loc nD τ sig) → Buf (Elt Ideal) ℓ)

theorem inv_entry (c : Dev nD) : Inv (m ((c : Thread nD τ).loc main_arg0)) (m ((c : Thread nD τ).loc main_arg3)) (m ((c : Thread nD τ).loc main_arg1))
    (m ((c : Thread nD τ).loc main_arg2)) (m ((c : Thread nD τ).loc main_arg4)) (m ((c : Thread nD τ).loc main_arg5)) (m ((c : Thread nD τ).loc main_arg6))
    0 (entryContents preI m c) where
  e0 := by
    refine ⟨_, rfl, fun n b h r v => ?_⟩
    unfold entryContents
    simp only [preI, afterL_cons, afterL_nil]
    after_results
    simp only [id]
    pointwise [bU]
  e1 := by
    refine ⟨_, rfl, fun n b h r v => ?_⟩
    unfold entryContents
    simp only [preI, afterL_cons, afterL_nil]
    after_results
    simp only [id]
    pointwise [bU]
  e2 := by
    refine ⟨_, rfl, fun n b h r v => ?_⟩
    unfold entryContents
    simp only [preI, afterL_cons, afterL_nil]
    after_results
    simp only [id]
    pointwise
  e3 := by
    refine ⟨_, rfl, fun n b h r v => ?_⟩
    unfold entryContents
    simp only [preI, afterL_cons, afterL_nil]
    after_results
    simp only [id]
    pointwise
  e4 := by
    refine ⟨_, rfl, fun n b h r v => ?_⟩
    unfold entryContents
    simp only [preI, afterL_cons, afterL_nil]
    after_results
    simp only [id]
    pointwise
  e5 := by
    refine ⟨_, rfl, fun n b h => ?_⟩
    unfold entryContents
    simp only [preI, afterL_cons, afterL_nil]
    after_results
    simp only [id]
    pointwise
  e6 := ctr_entry m c
  e7 := by
    refine ⟨_, rfl, fun b h d v => ?_⟩
    unfold entryContents
    simp only [preI, afterL_cons, afterL_nil]
    after_results
    simp only [id]
    pointwise
    rfl
  e8 := ⟨_, rfl, fun j b h r v hj => absurd hj (Nat.not_lt_zero _)⟩

/-- The outputs of all the chunks, flattened: row `64 n + r` of sequence `b`, column `128 h + v`. -/
def OUTv (T QK : S4x32x8x64x64.Idx → EReal) (W K KT Q : S4x32x8x64x128.Idx → EReal) (CD : S4x32x8.Idx → EReal) : S4x2048x1024.Idx → EReal := fun y =>
  oS T QK W K Q (ST T W K KT CD ((show Fin 2048 from y 1).val / 64))
    ⟨(show Fin 2048 from y 1).val / 64, by have := (show Fin 2048 from y 1).isLt; omega⟩ (y 0)
    ⟨(show Fin 1024 from y 2).val / 128, by have := (show Fin 1024 from y 2).isLt; omega⟩
    ⟨(show Fin 2048 from y 1).val % 64, by omega⟩ ⟨(show Fin 1024 from y 2).val % 128, by omega⟩

/-- The reference's outputs. -/
theorem out12 (c : Dev nD) : out_main_v12 (STEP^[32] (entryContents preI m c))
    = OUTv (m ((c : Thread nD τ).loc main_arg0)) (m ((c : Thread nD τ).loc main_arg3)) (m ((c : Thread nD τ).loc main_arg1))
        (m ((c : Thread nD τ).loc main_arg2)) (m ((c : Thread nD τ).loc main_arg4)) (m ((c : Thread nD τ).loc main_arg5))
        (m ((c : Thread nD τ).loc main_arg6)) := by
  obtain ⟨A, hA, a8⟩ := (inv_iter (inv_entry m c) 32 le_rfl).e8
  unfold out_main_v12
  rw [hA]
  funext y
  obtain ⟨b, q, w, rfl⟩ : ∃ (b : Fin 4) (q : Fin 2048) (w : Fin 1024), y = ix3 b q w := ⟨y 0, y 1, y 2, (by funext a; fin_cases a <;> rfl)⟩
  refine Eq.trans ?_ (a8 ⟨q.val / 64, by omega⟩ b ⟨w.val / 128, by omega⟩ ⟨q.val % 64, by omega⟩ ⟨w.val % 128, by omega⟩ (by dsimp only; omega))
  pointwise

/-- The final states, chain by chain. -/
theorem out13 (c : Dev nD) : out_main_v13 (STEP^[32] (entryContents preI m c))
    = FL (ST (m ((c : Thread nD τ).loc main_arg0)) (m ((c : Thread nD τ).loc main_arg1)) (m ((c : Thread nD τ).loc main_arg2))
        (m ((c : Thread nD τ).loc main_arg4)) (m ((c : Thread nD τ).loc main_arg6)) 32) := by
  obtain ⟨A, hA, a7⟩ := (inv_iter (inv_entry m c) 32 le_rfl).e7
  unfold out_main_v13
  rw [hA]
  funext y
  obtain ⟨k, d, v, rfl⟩ : ∃ (k : Fin 32) (d v : Fin 128), y = ix3 k d v := ⟨y 0, y 1, y 2, (by funext a; fin_cases a <;> rfl)⟩
  refine Eq.trans ?_ (a7 ⟨k.val / 8, by omega⟩ ⟨k.val % 8, by omega⟩ d v)
  pointwise

end Cert.ScanRefIdeal.Val
-- ==== Proof.Ffn2Run.lean ====
module

public import proofs.«01_k».proof.Proof.Gen.Ffn2Ideal.Frame
public import proofs.«01_k».proof.Proof.Gen.Ffn2Ideal.Skeleton

/-! The down projection's body at a grid point, run symbolically: what it leaves in each output's staging buffer. The
first 32 points write the prompt's block, the last two the sample's; the other output's buffer is left alone. -/

@[expose] public section

set_option maxRecDepth 16384

noncomputable section

namespace Cert.Ffn2Ideal.Value

open Cert.Ffn2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 32 — decided over the grid. -/
theorem hcond0_0 : ∀ t : Fin cfg0.N, cond0_0 (grid0.coords t) ↔ t.val < 32 :=
  (by decide +kernel : ∀ t : Fin grid0.N, cond0_0 (grid0.coords t) ↔ t.val < 32)

/-- The condition of the body's `scf.if` 1 (`k0_h2`), from the grid coordinates (the skeleton's scalar
    chain substituted). -/
abbrev cond0_1 (i : grid0.Coords) : Prop := k0_cond2 i = 1#1
/-- It holds at the points from point 32 on — decided over the grid. -/
theorem hcond0_1 : ∀ t : Fin cfg0.N, cond0_1 (grid0.coords t) ↔ 32 ≤ t.val :=
  (by decide +kernel : ∀ t : Fin grid0.N, cond0_1 (grid0.coords t) ↔ 32 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x5632 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5632x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x2048 .f32 := win0_7.stage (cfg0.slots t 7)
abbrev hs0_7 (t : Fin cfg0.N) : (ms0_7 t).IsWhole := hstage0_7 ((cfg0.slots t 7).cast nbuf0_7)

/-! ## Which output a point writes -/

/-- The first 32 points write the prompt's output. -/
theorem live6 : ∀ t : Fin cfg0.N, cond0_0 (grid0.coords t) → cfg0.idle 6 (grid0.coords t) = false := by decide +kernel
/-- The last two points leave the prompt's output alone. -/
theorem idle6 : ∀ t : Fin cfg0.N, ¬cond0_0 (grid0.coords t) → cfg0.idle 6 (grid0.coords t) = true := by decide +kernel
/-- The first 32 points leave the sample's output alone, -/
theorem idle7 : ∀ t : Fin cfg0.N, ¬cond0_1 (grid0.coords t) → cfg0.idle 7 (grid0.coords t) = true := by decide +kernel
/-- and do not write it back. -/
theorem noFlush7 : ∀ t : Fin cfg0.N, ¬cond0_1 (grid0.coords t) → (cfg0.win 7).flush t = false := by decide +kernel
/-- The last two points write the sample's output. -/
theorem live7 : ∀ t : Fin cfg0.N, cond0_1 (grid0.coords t) → cfg0.idle 7 (grid0.coords t) = false := by decide +kernel
/-- The prompt's output is written back after each of the first 31 points and after the last. -/
theorem flush6 : ∀ t : Fin cfg0.N, (cfg0.win 6).flush t = true ↔ t.val < 31 ∨ t.val = 33 := by decide +kernel

/-- A buffer of the prompt output, and one of the sample output, to read contents in. -/
abbrev VO6 : View sig .tc .vmem S256x2048 .f32 := (Memref.whole cc0_stg6_0 : Memref sig .tc .vmem S256x2048 .f32).view
abbrev VO7 : View sig .tc .vmem S256x2048 .f32 := (Memref.whole cc0_stg7_0 : Memref sig .tc .vmem S256x2048 .f32).view

set_option maxHeartbeats 4000000 in
/-- The body at one of the first 32 points: the pieces it stores into the prompt's staging buffer, with the run
    that stores them; the inputs' buffers and the other output's are handed back as they were. -/
noncomputable def runA (c : Dev nD) (i : grid0.Coords) (arg1 : Memref sig .tc .vmem S256x5632 .bf16) (harg1 : arg1.IsWhole) (arg2 : Memref sig .tc .vmem S5632x2048 .bf16) (harg2 : arg2.IsWhole) (arg3 : Memref sig .tc .vmem S256x2048 .f32) (harg3 : arg3.IsWhole) (arg4 : Memref sig .tc .vmem S1x1x2048 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole) (hc0 : cond0_0 i) (hc1 : ¬cond0_1 i)
    (x0 : Vec F S256x5632 .bf16) (x1 : Vec F S5632x2048 .bf16) (x2 : Vec F S256x2048 .f32) (x3 : Vec F S1x1x2048 .f32) (x4 : Vec F S128x2048 .f32) (x5 : Vec F S1x2048 .f32) :
    { L : List (View.Piece (Elt F) S256x2048 .f32) //
      ∀ (xi : Vec F S256x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L) ∗ owns (c : Thread nD τ) arg8 fullShare xi) -∗ K ⟨⟩))
          ⊢ wp frame (wpE (defs₀ (F := F)) Variants.none c none) E (cc0_ffn_down_final i arg1 harg1 arg2 harg2 arg3 harg3 arg4 harg4 arg5 harg5 arg6 harg6 arg7 harg7 arg8 harg8) K } := by
  refine ⟨?_, fun xi E K => ?run⟩
  case run =>
    simp only [cc0_ffn_down_final_eq_skeleton]; unfold cc0_ffn_down_final_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%eo, %fo, -, Ho⟩, ⟨%fi, %hfi, Hi⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfi
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [Ho]; · iexists _; iexact Ho
    iexists _; isplitr; · ipureintro; exact harg8.read_unread _
    iexact Hi

set_option maxHeartbeats 4000000 in
/-- The body at one of the last two points: the pieces it stores into the sample's staging buffer, with the run
    that stores them; the inputs' buffers and the other output's are handed back as they were. -/
noncomputable def runB (c : Dev nD) (i : grid0.Coords) (arg1 : Memref sig .tc .vmem S256x5632 .bf16) (harg1 : arg1.IsWhole) (arg2 : Memref sig .tc .vmem S5632x2048 .bf16) (harg2 : arg2.IsWhole) (arg3 : Memref sig .tc .vmem S256x2048 .f32) (harg3 : arg3.IsWhole) (arg4 : Memref sig .tc .vmem S1x1x2048 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole) (hc0 : ¬cond0_0 i) (hc1 : cond0_1 i)
    (x0 : Vec F S256x5632 .bf16) (x1 : Vec F S5632x2048 .bf16) (x2 : Vec F S256x2048 .f32) (x3 : Vec F S1x1x2048 .f32) (x4 : Vec F S128x2048 .f32) (x5 : Vec F S1x2048 .f32) :
    { L : List (View.Piece (Elt F) S256x2048 .f32) //
      ∀ (xi : Vec F S256x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi ∗ (∃ f, arg8.view.loc (c : Thread nD τ) ↦[arg8.view.set]{fullShare} arg8.view.writes (Elt F) f L)) -∗ K ⟨⟩))
          ⊢ wp frame (wpE (defs₀ (F := F)) Variants.none c none) E (cc0_ffn_down_final i arg1 harg1 arg2 harg2 arg3 harg3 arg4 harg4 arg5 harg5 arg6 harg6 arg7 harg7 arg8 harg8) K } := by
  refine ⟨?_, fun xi E K => ?run⟩
  case run =>
    simp only [cc0_ffn_down_final_eq_skeleton]; unfold cc0_ffn_down_final_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fi, %hfi, Hi⟩, ⟨%eo, %fo, -, Ho⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfi
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [Hi]
    · iexists _; isplitr; · ipureintro; exact harg7.read_unread _
      iexact Hi
    iexists _; iexact Ho

end Cert.Ffn2Ideal.Value

end
-- ==== Proof.Ffn2Frame.lean ====
module

public import proofs.«01_k».proof.Proof.Ffn2Run
public import Idealize.ShloMosaic.Lib.Claim

/-! The down projection's launch: what every grid point leaves in the staging buffers, the run of the whole grid, and the
frame. The prompt's output is written at the first 32 points and left alone at the last two, at the second of which its
block is written back: the buffer holds what point 31 left there. -/

@[expose] public section

set_option maxRecDepth 16384

noncomputable section

namespace Cert.Ffn2Ideal.Value

open Cert.Ffn2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces one of the first 32 points stores into the prompt's buffer, -/
abbrev piecesP (c : Dev nD) (t : Fin cfg0.N) (h : t.val < 32) : List (View.Piece (Elt F) S256x2048 .f32) :=
  (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h) (fun h' => absurd ((hcond0_1 t).mp h') (by omega)) (iblk m c 0 t) (iblk m c 1 t) (iblk m c 2 t) (iblk m c 3 t) (iblk m c 4 t) (iblk m c 5 t)).1

/-- and those one of the last two stores into the sample's. -/
abbrev piecesS (c : Dev nD) (t : Fin cfg0.N) (h : 32 ≤ t.val) : List (View.Piece (Elt F) S256x2048 .f32) :=
  (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h' => absurd ((hcond0_0 t).mp h') (by omega)) ((hcond0_1 t).mpr h) (iblk m c 0 t) (iblk m c 1 t) (iblk m c 2 t) (iblk m c 3 t) (iblk m c 4 t) (iblk m c 5 t)).1

/-- The last store of a point covers the buffer. -/
theorem coverP (c : Dev nD) (t : Fin cfg0.N) (h : t.val < 32) (y : S256x2048.Idx) : ∃ pc ∈ piecesP m c t h, y ∈ pc.1.set :=
  View.cover_of_wholeMem (piecesP m c t h) (by sl_whole_mem) y
theorem coverS (c : Dev nD) (t : Fin cfg0.N) (h : 32 ≤ t.val) (y : S256x2048.Idx) : ∃ pc ∈ piecesS m c t h, y ∈ pc.1.set :=
  View.cover_of_wholeMem (piecesS m c t h) (by sl_whole_mem) y

/-- The prompt's block as a point leaves it, and the sample's. -/
def blockP (c : Dev nD) (t : Fin cfg0.N) (h : t.val < 32) : Vec F S256x2048 .f32 :=
  VO6.read (Elt F) (VO6.writes (Elt F) VO6.junk (piecesP m c t h))
def blockS (c : Dev nD) (t : Fin cfg0.N) (h : 32 ≤ t.val) : Vec F S256x2048 .f32 :=
  VO7.read (Elt F) (VO7.writes (Elt F) VO7.junk (piecesS m c t h))

/-- The last point that writes the prompt's output up to point `n`, and the first that writes the sample's from it on. -/
abbrev lastP (t : Fin cfg0.N) : Fin cfg0.N := ⟨min t.val 31, lt_of_le_of_lt (Nat.min_le_left _ _) t.isLt⟩
abbrev firstS (t : Fin cfg0.N) : Fin cfg0.N := ⟨max t.val 32, by have h : cfg0.N = 34 := N_0; have := t.isLt; omega⟩

/-- What each output's buffer holds after point `t`. -/
def leftP (c : Dev nD) (t : Fin cfg0.N) : Vec F S256x2048 .f32 := blockP m c (lastP t) (by show min t.val 31 < 32; omega)
def leftS (c : Dev nD) (t : Fin cfg0.N) : Vec F S256x2048 .f32 := blockS m c (firstS t) (by show 32 ≤ max t.val 32; omega)

/-- The blocks depend on the point alone. -/
theorem blockP_congr (c : Dev nD) {t t' : Fin cfg0.N} (e : t = t') (h : t.val < 32) (h' : t'.val < 32) :
    blockP m c t h = blockP m c t' h' := by subst e; rfl
theorem blockS_congr (c : Dev nD) {t t' : Fin cfg0.N} (e : t = t') (h : 32 ≤ t.val) (h' : 32 ≤ t'.val) :
    blockS m c t h = blockS m c t' h' := by subst e; rfl

/-- At a point that writes it, the buffer holds that point's block. -/
theorem leftP_eq (c : Dev nD) (t : Fin cfg0.N) (h : t.val < 32) : leftP m c t = blockP m c t h :=
  blockP_congr m c (Fin.ext (by show min t.val 31 = t.val; omega)) _ h
theorem leftS_eq (c : Dev nD) (t : Fin cfg0.N) (h : 32 ≤ t.val) : leftS m c t = blockS m c t h :=
  blockS_congr m c (Fin.ext (by show max t.val 32 = t.val; omega)) _ h

/-- The launch's proof data: the arrays as the region finds them, every input's block left in place, the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => leftP m c t
    | ⟨7, _⟩ => leftS m c t
  Φ _ := Pipeline.ΦA spec0 c
  q _ := fullShare
  owed _ := 0

/-- The arrays are those the region finds. -/
theorem A_eq (c : Dev nD) (w : Fin cfg0.W) : (dats m 0 c).A w = V m c (Pipeline.arrRef spec0 w) := by dsimp only [dats]

/-- What the body leaves in each window's buffer, and what it finds in the inputs'. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = leftP m c t := by dsimp only [dats]
theorem after7 (c : Dev nD) (t : Fin cfg0.N) : (dats m 0 c).after 7 t = leftS m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At the last two points the prompt's buffer holds what point 31 left. -/
theorem before6 (c : Dev nD) (t : Fin cfg0.N) (h : 32 ≤ t.val) (d) : (dats m 0 c).before 6 t d = leftP m c t := by
  have key : ∀ t : Fin cfg0.N, t.val = 32 → (dats m 0 c).before 6 t d = leftP m c t := by
    intro t ht
    have hfl : (cfg0.win 6).flush ⟨t.val - 1, Nat.lt_of_le_of_lt (Nat.sub_le _ _) t.isLt⟩ = false := by
      rw [Bool.eq_false_iff]; intro h'; rw [flush6] at h'; simp only at h'; omega
    rw [Dat.before_of_pos _ 6 t (by omega) ((cfg0.win 6).fetch_out rfl t), hfl, if_neg Bool.false_ne_true]
    unfold Dat.left
    rw [live6 _ ((hcond0_0 _).mpr (by simp only; omega))]
    unfold Dat.kept
    rw [Pipeline.fill_of_clip_none 6 _ (fun _ => rfl) d ((dats m 0 c).after 6 _), Window.fill_cut, after6]
    exact blockP_congr m c (Fin.ext (by show min (t.val - 1) 31 = min t.val 31; omega)) _ _
  have hN : t.val < 34 := lt_of_lt_of_eq t.isLt (show cfg0.N = 34 from N_0)
  by_cases ht : t.val = 32
  · exact key t ht
  · have hfl : (cfg0.win 6).flush ⟨t.val - 1, Nat.lt_of_le_of_lt (Nat.sub_le _ _) t.isLt⟩ = false := by
      rw [Bool.eq_false_iff]; intro h'; rw [flush6] at h'; simp only at h'; omega
    rw [Dat.before_of_pos _ 6 t (by omega) ((cfg0.win 6).fetch_out rfl t), hfl, if_neg Bool.false_ne_true]
    unfold Dat.left
    rw [idle6 _ (fun h' => absurd ((hcond0_0 _).mp h') (by simp only; omega))]
    dsimp only
    rw [key _ (by simp only; omega)]
    exact blockP_congr m c (Fin.ext (by show min (t.val - 1) 31 = min t.val 31; omega)) _ _

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The inputs are left as found. -/
theorem leavesIn (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- At the last two points the prompt's buffer is handed back as it was. -/
theorem leaves6 (c : Dev nD) (t : Fin cfg0.N) (h : 32 ≤ t.val) :
    owns (c : Thread nD τ) (ms0_6 t) fullShare (leftP m c t) ⊢ (dats m 0 c).leavesExact 6 t := by
  have hi := idle6 t (fun h' => absurd ((hcond0_0 _).mp h') (by omega))
  by_cases hf : (cfg0.win 6).flush t = true
  · unfold Dat.leavesExact; rw [hi, hf, after6]
  · rw [Dat.leavesExact_idle _ 6 t hi (by simpa using hf)]
    iintro H; iexists (leftP m c t); rw [before6 m c t h]; iexact H

set_option maxHeartbeats 8000000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0 m c t, before1 m c t, before2 m c t, before3 m c t, before4 m c t, before5 m c t]
  rw [show (dats m 0 c).owesAt () t.succ = (dats m 0 c).owesAt () t.castSucc from rfl,
    show (dats m 0 c).Φ t.succ = (dats m 0 c).Φ t.castSucc from rfl]
  rw [leavesIn m c t 0 rfl, leavesIn m c t 1 rfl, leavesIn m c t 2 rfl, leavesIn m c t 3 rfl, leavesIn m c t 4 rfl,
    leavesIn m c t 5 rfl, after0, after1, after2, after3, after4, after5]
  by_cases h : t.val < 32
  · rw [leavesIn m c t 6 (live6 t ((hcond0_0 t).mpr h)), after6, leftP_eq m c t h,
      Dat.leavesExact_idle _ 7 t (idle7 t (fun h' => absurd ((hcond0_1 t).mp h') (by omega)))
        (noFlush7 t (fun h' => absurd ((hcond0_1 t).mp h') (by omega)))]
    unfold blockP
    iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) _ _ _ _ _ _ _ _ _ _ _ _ _ _ _ _ ((hcond0_0 t).mpr h) (fun h' => absurd ((hcond0_1 t).mp h') (by omega)) (iblk m c 0 t) (iblk m c 1 t) (iblk m c 2 t) (iblk m c 3 t) (iblk m c 4 t) (iblk m c 5 t)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, H7⟩
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverP m c t h)
    iexists _; iexact H7
  · replace h : 32 ≤ t.val := by omega
    rw [leavesIn m c t 7 (live7 t ((hcond0_1 t).mpr h)), after7, leftS_eq m c t h]
    simp only [before6 m c t h]
    unfold blockS
    iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (grid0.coords t) _ _ _ _ _ _ _ _ _ _ _ _ _ _ _ _ (fun h' => absurd ((hcond0_0 t).mp h') (by omega)) ((hcond0_1 t).mpr h) (iblk m c 0 t) (iblk m c 1 t) (iblk m c 2 t) (iblk m c 3 t) (iblk m c 4 t) (iblk m c 5 t)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iapply (leaves6 m c t h); iexact H6
    unfold owns; iexists _; isplitr
    swap; · iexact H7
    ipureintro; exact View.read_writes_of_cover _ _ _ _ _ (coverS m c t h)

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every run terminates, every array holds what the points wrote back, and the counters are zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they began and the counters are zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Ffn2Ideal.Value

end
-- ==== Proof.Ffn2RefValue.lean ====
module

public import proofs.«01_k».proof.Proof.Gen.Ffn2RefIdeal.Run
public import Idealize.ShloMosaic.Lib.Pipeline.ValueKit

@[expose] public section

set_option maxRecDepth 16384

noncomputable section

open Idealize.ShloMosaic Idealize.ShloMosaic.TcCoe Idealize.SL.Sem

namespace Cert.Ffn2RefIdeal.Val

open Cert.Ffn2RefIdeal Cert.Ffn2RefIdeal.Gen

/-- A row, divided by the root of its mean square plus the stabiliser, times the gain. -/
def NRM (T g : Fin 2048 → EReal) (n : Fin 2048) : EReal :=
  T n * Ideal.rsqrt ((∑ k : Fin 2048, T k * T k) * Ideal.ofBits .f32 0x3A000000#32 + Ideal.ofBits .f32 0x358637BD#32) * g n

/-- The literal the reference divides by is 2048, -/
theorem lit2048 : Ideal.ofBits .f32 0x45000000#32 = ((2048 : ℝ) : EReal) := by
  simp [Ideal.ofBits, Ideal.ieee, -EReal.coe_mul]; norm_num

/-- the one the kernel multiplies by is its inverse, -/
theorem litInv2048 : Ideal.ofBits .f32 0x3A000000#32 = ((1 / 2048 : ℝ) : EReal) := by
  simp [Ideal.ofBits, Ideal.ieee, -EReal.coe_mul]; norm_num

/-- and the division is the product, at the infinities too. -/
theorem div2048 (x : EReal) : Ideal.div x (Ideal.ofBits .f32 0x45000000#32) = x * Ideal.ofBits .f32 0x3A000000#32 := by
  rw [lit2048, litInv2048, Ideal.div_coe (by norm_num)]

/-- The reference's residual rows of the prompt, -/
abbrev resP (A : FVec Ideal S8704x5632 .f32) (X : FVec Ideal S8704x2048 .f32) (MP : FVec Ideal S4x12288 .f32) (W : FVec Ideal S1x5632x2048 .f32) : FVec Ideal S4x2048x2048 .f32 :=
  addf (shapeCast _ (extractStridedSlice S8192x2048 ![0, 0] X slices_S8704x2048_S8192x2048_0_0) shapeCasts_S8192x2048_S4x2048x2048) (mulf (broadcastInDim S4x2048x2048 ![0, 1, 2] bcast_S4x1x2048_S4x2048x2048_0_1_2 (broadcastInDim S4x1x2048 ![0, 2] bcast_S4x2048_S4x1x2048_0_2 (extractStridedSlice S4x2048 ![0, 10240] MP slices_S4x12288_S4x2048_0_10240))) (shapeCast _ (extractStridedSlice S8192x2048 ![0, 0] (Host.dotGeneral dot_S8704x5632_S5632x2048_S8704x2048_1_0_0_1_n_n none A (shapeCast _ W shapeCasts_S1x5632x2048_S5632x2048)) slices_S8704x2048_S8192x2048_0_0) shapeCasts_S8192x2048_S4x2048x2048))

/-- and of the sample. -/
abbrev resS (A : FVec Ideal S8704x5632 .f32) (X : FVec Ideal S8704x2048 .f32) (MS : FVec Ideal S128x12288 .f32) (W : FVec Ideal S1x5632x2048 .f32) : FVec Ideal S128x4x2048 .f32 :=
  addf (transpose S128x4x2048 [1, 0, 2] (shapeCast _ (extractStridedSlice S512x2048 ![8192, 0] X slices_S8704x2048_S512x2048_8192_0) shapeCasts_S512x2048_S4x128x2048) transposes_S4x128x2048_S128x4x2048_1_0_2) (mulf (broadcastInDim S128x4x2048 ![0, 1, 2] bcast_S128x1x2048_S128x4x2048_0_1_2 (broadcastInDim S128x1x2048 ![0, 2] bcast_S128x2048_S128x1x2048_0_2 (extractStridedSlice S128x2048 ![0, 10240] MS slices_S128x12288_S128x2048_0_10240))) (transpose S128x4x2048 [1, 0, 2] (shapeCast _ (extractStridedSlice S512x2048 ![8192, 0] (Host.dotGeneral dot_S8704x5632_S5632x2048_S8704x2048_1_0_0_1_n_n none A (shapeCast _ W shapeCasts_S1x5632x2048_S5632x2048)) slices_S8704x2048_S512x2048_8192_0) shapeCasts_S512x2048_S4x128x2048) transposes_S4x128x2048_S128x4x2048_1_0_2))

/-- The reference's first result, as a function of its arguments, -/
abbrev REFP (A : FVec Ideal S8704x5632 .f32) (X : FVec Ideal S8704x2048 .f32) (MP : FVec Ideal S4x12288 .f32) (W : FVec Ideal S1x5632x2048 .f32) (g : FVec Ideal S2048 .f32) : FVec Ideal S8192x2048 .f32 :=
  shapeCast _ (mulf (mulf (resP A X MP W) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (resP A X MP W) (resP A X MP W)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 g))) shapeCasts_S4x2048x2048_S8192x2048

/-- and its second. -/
abbrev REFS (A : FVec Ideal S8704x5632 .f32) (X : FVec Ideal S8704x2048 .f32) (MS : FVec Ideal S128x12288 .f32) (W : FVec Ideal S1x5632x2048 .f32) (g : FVec Ideal S2048 .f32) : FVec Ideal S512x2048 .f32 :=
  shapeCast _ (transpose S4x128x2048 [1, 0, 2] (mulf (mulf (resS A X MS W) (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf (resS A X MS W) (resS A X MS W)) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32)))))) (broadcastInDim S128x4x2048 ![0, 1, 2] bcast_S1x1x2048_S128x4x2048_0_1_2 (broadcastInDim S1x1x2048 ![2] bcast_S2048_S1x1x2048_2 g))) transposes_S128x4x2048_S4x128x2048_1_0_2) shapeCasts_S4x128x2048_S512x2048

/-- The reference's first result at an index: the residual row, normalised, times the gain. -/
theorem REFP_at (A : FVec Ideal S8704x5632 .f32) (X : FVec Ideal S8704x2048 .f32) (MP : FVec Ideal S4x12288 .f32) (W : FVec Ideal S1x5632x2048 .f32) (g : FVec Ideal S2048 .f32) (r : Fin 8192) (n : Fin 2048) :
    REFP A X MP W g (ix2 r n) = NRM (fun n => X (ix2 ⟨r.val, by omega⟩ n) + MP (ix2 ⟨r.val / 2048, by omega⟩ ⟨10240 + n.val, by omega⟩)
      * ∑ k : Fin 5632, A (ix2 ⟨r.val, by omega⟩ k) * W (ix3 0 k n)) (fun n => g (ix1 n)) n := by
  pointwise [REFP, resP, NRM]
  rw [div2048]

/-- The same for the second, whose gate row is the row modulo 128. -/
theorem REFS_at (A : FVec Ideal S8704x5632 .f32) (X : FVec Ideal S8704x2048 .f32) (MS : FVec Ideal S128x12288 .f32) (W : FVec Ideal S1x5632x2048 .f32) (g : FVec Ideal S2048 .f32) (r : Fin 512) (n : Fin 2048) :
    REFS A X MS W g (ix2 r n) = NRM (fun n => X (ix2 ⟨8192 + r.val, by omega⟩ n) + MS (ix2 ⟨r.val % 128, by omega⟩ ⟨10240 + n.val, by omega⟩)
      * ∑ k : Fin 5632, A (ix2 ⟨8192 + r.val, by omega⟩ k) * W (ix3 0 k n)) (fun n => g (ix1 n)) n := by
  pointwise [REFS, resS, NRM]
  rw [div2048]

end Cert.Ffn2RefIdeal.Val
end
-- ==== Proof.Ffn2Value.lean ====
module

public import proofs.«01_k».proof.Proof.Ffn2Frame
public import proofs.«01_k».proof.Proof.Ffn2RefValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn2Ideal.Value

open Cert.Ffn2Ideal Cert.Ffn2Ideal.Gen Cert.Ffn2RefIdeal.Val

variable (m : (ℓ : Loc nD τ sig) → Buf (Elt Ideal) ℓ) (ρ : Dev nD → PrngReg)

/-- The block each window reads or writes at a grid point: the prompt's gate row is the point divided by 8, the outputs' row blocks stop at the last prompt block and start at point 32. -/
theorem idx : ∀ t : Fin cfg0.N, win0_0.index t = ![t.val, 0] ∧ win0_1.index t = ![0, 0] ∧ win0_2.index t = ![t.val, 0]
    ∧ win0_3.index t = ![min (t.val / 8) 3, 0, 5] ∧ win0_4.index t = ![0, 5] ∧ win0_5.index t = ![0, 0]
    ∧ win0_6.index t = ![min t.val 31, 0] ∧ win0_7.index t = ![t.val - 32, 0] :=
  (by decide +kernel : ∀ t : Fin grid0.N, _)

/-- A residual row's entry: the row of `X` plus the gate times the product. -/
def RES {R : ℕ} (X : (⟨2, ![R, 2048]⟩ : Shape).Idx → EReal) (g : Fin 2048 → EReal) (A : (⟨2, ![R, 5632]⟩ : Shape).Idx → EReal)
    (W : (⟨2, ![5632, 2048]⟩ : Shape).Idx → EReal) (r : Fin R) (n : Fin 2048) : EReal :=
  X (ix2 r n) + g n * ∑ k : Fin 5632, A (ix2 r k) * W (ix2 k n)

/-- A sum over 2048 columns, by its four tiles of 512. -/
theorem sum4 {M : Type} [AddCommMonoid M] (f : Fin 2048 → M) : ∑ n : Fin 2048, f n
    = ((∑ j : Fin 512, f ⟨0 + j.val, by omega⟩ + ∑ j : Fin 512, f ⟨512 + j.val, by omega⟩) + ∑ j : Fin 512, f ⟨1024 + j.val, by omega⟩)
      + ∑ j : Fin 512, f ⟨1536 + j.val, by omega⟩ := by
  rw [show ∑ n : Fin 2048, f n = ∑ n : Fin (1536 + 512), f n from rfl, Fin.sum_univ_add,
    show ∑ n : Fin 1536, f (Fin.castAdd 512 n) = ∑ n : Fin (1024 + 512), f (Fin.castAdd 512 n) from rfl, Fin.sum_univ_add,
    show ∑ n : Fin 1024, f (Fin.castAdd 512 (Fin.castAdd 512 n)) = ∑ n : Fin (512 + 512), f (Fin.castAdd 512 (Fin.castAdd 512 n)) from rfl, Fin.sum_univ_add]
  congr 3

section blocks

variable (X : Vec Ideal S256x2048 .f32) (A : Vec Ideal S256x5632 .bf16) (W : Vec Ideal S5632x2048 .bf16) (G : Vec Ideal S1x1x2048 .f32)
  (S : Vec Ideal S128x2048 .f32) (gain : Vec Ideal S1x2048 .f32)

/-- The prompt's gate, of the column, -/
abbrev GP (n : Fin 2048) : EReal := G (ix3 0 0 n)
/-- and the sample's, of the row and the column. -/
abbrev GS (r : Fin 256) (n : Fin 2048) : EReal := S (ix2 ⟨r.val % 128, Nat.mod_lt _ (by decide)⟩ n)

/-- The prompt's first column tile holds the residual rows' columns 0 to 511, -/
theorem pay4_at (h h') (r : Fin 256) (j : Fin 512) :
    k0_pay4 G (View.ld X (Rect.unit ![0, 0] ![256, 512] h)) A (View.ld W (Rect.unit ![0, 0] ![5632, 512] h')) (ix2 r j)
      = RES X (GP G) A W r ⟨0 + j.val, by omega⟩ := by
  pointwise [k0_pay4, k0_pay3, RES, GP]

/-- the second the next 512, -/
theorem pay5_at (h h') (r : Fin 256) (j : Fin 512) :
    k0_pay5 G (View.ld X (Rect.unit ![0, 512] ![256, 512] h)) A (View.ld W (Rect.unit ![0, 512] ![5632, 512] h')) (ix2 r j)
      = RES X (GP G) A W r ⟨512 + j.val, by omega⟩ := by
  pointwise [k0_pay5, k0_pay3, RES, GP]

/-- the third the next, -/
theorem pay7_at (h h') (r : Fin 256) (j : Fin 512) :
    k0_pay7 (k0_pay3 G) (View.ld X (Rect.unit ![0, 1024] ![256, 512] h)) A (View.ld W (Rect.unit ![0, 1024] ![5632, 512] h')) (ix2 r j)
      = RES X (GP G) A W r ⟨1024 + j.val, by omega⟩ := by
  pointwise [k0_pay7, k0_pay3, RES, GP]

/-- and the fourth the last. -/
theorem pay8_at (h h') (r : Fin 256) (j : Fin 512) :
    k0_pay8 (k0_pay3 G) (View.ld X (Rect.unit ![0, 1536] ![256, 512] h)) A (View.ld W (Rect.unit ![0, 1536] ![5632, 512] h')) (ix2 r j)
      = RES X (GP G) A W r ⟨1536 + j.val, by omega⟩ := by
  pointwise [k0_pay8, k0_pay3, RES, GP]

/-- The same for the sample, whose gate row is the row modulo 128: the first tile, -/
theorem pay13_at (h h') (r : Fin 256) (j : Fin 512) :
    k0_pay13 S (View.ld X (Rect.unit ![0, 0] ![256, 512] h)) A (View.ld W (Rect.unit ![0, 0] ![5632, 512] h')) (ix2 r j)
      = RES X (GS S r) A W r ⟨0 + j.val, by omega⟩ := by
  pointwise [k0_pay13, k0_pay12, RES, GS]
  split <;> blk_point []

/-- the second, -/
theorem pay14_at (h h') (r : Fin 256) (j : Fin 512) :
    k0_pay14 S (View.ld X (Rect.unit ![0, 512] ![256, 512] h)) A (View.ld W (Rect.unit ![0, 512] ![5632, 512] h')) (ix2 r j)
      = RES X (GS S r) A W r ⟨512 + j.val, by omega⟩ := by
  pointwise [k0_pay14, k0_pay12, RES, GS]
  split <;> blk_point []

/-- the third, -/
theorem pay17_at (h h') (r : Fin 256) (j : Fin 512) :
    k0_pay17 (View.ld X (Rect.unit ![0, 1024] ![256, 512] h)) (k0_pay16 S) A (View.ld W (Rect.unit ![0, 1024] ![5632, 512] h')) (ix2 r j)
      = RES X (GS S r) A W r ⟨1024 + j.val, by omega⟩ := by
  pointwise [k0_pay17, k0_pay16, k0_pay12, RES, GS]
  split <;> blk_point []

/-- the fourth. -/
theorem pay18_at (h h') (r : Fin 256) (j : Fin 512) :
    k0_pay18 (k0_pay12 S) (View.ld X (Rect.unit ![0, 1536] ![256, 512] h)) A (View.ld W (Rect.unit ![0, 1536] ![5632, 512] h')) (ix2 r j)
      = RES X (GS S r) A W r ⟨1536 + j.val, by omega⟩ := by
  pointwise [k0_pay18, k0_pay12, RES, GS]
  split <;> blk_point []

/-- The prompt's block, given that the rows read back are the residual rows: every entry is the row normalised. -/
theorem normP (h0 h0' h1 h1' h2 h2' h3 h3') (T : Vec Ideal S256x2048 .f32)
    (hT : ∀ r n, T (ix2 r n) = RES X (GP G) A W r n) (r : Fin 256) (n : Fin 2048) :
    k0_pay1 (k0_pay9 T) (k0_pay10 (k0_pay3 G)
        (k0_pay6 G (View.ld X (Rect.unit ![0, 0] ![256, 512] h0)) A (View.ld W (Rect.unit ![0, 0] ![5632, 512] h0'))
          (View.ld X (Rect.unit ![0, 512] ![256, 512] h1)) A (View.ld W (Rect.unit ![0, 512] ![5632, 512] h1')))
        (View.ld X (Rect.unit ![0, 1024] ![256, 512] h2)) A (View.ld W (Rect.unit ![0, 1024] ![5632, 512] h2'))
        (View.ld X (Rect.unit ![0, 1536] ![256, 512] h3)) A (View.ld W (Rect.unit ![0, 1536] ![5632, 512] h3')))
      k0_pay11 gain (ix2 r n) = NRM (RES X (GP G) A W r) (fun n => gain (ix2 0 n)) n := by
  pointwise [k0_pay1, k0_pay9, k0_pay10, k0_pay6, k0_pay11, NRM]
  rw [hT, sum4]
  simp only [pay4_at, pay5_at, pay7_at, pay8_at]

/-- The same for the sample. -/
theorem normS (h0 h0' h1 h1' h2 h2' h3 h3') (T : Vec Ideal S256x2048 .f32)
    (hT : ∀ r n, T (ix2 r n) = RES X (GS S r) A W r n) (r : Fin 256) (n : Fin 2048) :
    k0_pay2 (k0_pay19 (k0_pay12 S)
        (k0_pay15 S (View.ld X (Rect.unit ![0, 0] ![256, 512] h0)) A (View.ld W (Rect.unit ![0, 0] ![5632, 512] h0'))
          (View.ld X (Rect.unit ![0, 512] ![256, 512] h1)) A (View.ld W (Rect.unit ![0, 512] ![5632, 512] h1')))
        (View.ld X (Rect.unit ![0, 1024] ![256, 512] h2)) (k0_pay16 S) A (View.ld W (Rect.unit ![0, 1024] ![5632, 512] h2'))
        (View.ld X (Rect.unit ![0, 1536] ![256, 512] h3)) A (View.ld W (Rect.unit ![0, 1536] ![5632, 512] h3')) T)
      gain (ix2 r n) = NRM (RES X (GS S r) A W r) (fun n => gain (ix2 0 n)) n := by
  pointwise [k0_pay2, k0_pay19, k0_pay15, NRM]
  rw [hT, sum4]
  simp only [pay13_at, pay14_at, pay17_at, pay18_at]

end blocks

/-- A load of the whole block reads every entry in place. -/
theorem whole_idx (h) (r : Fin 256) (n : Fin 2048) :
    (Rect.unit (s := S256x2048) ![0, 0] ![256, 2048] h).toLoadRect.idx (ix2 r n) = (ix2 r n : S256x2048.Idx) := by
  funext a
  fin_cases a
  · exact Fin.ext (show 0 + 1 * r.val = r.val by omega)
  · exact Fin.ext (show 0 + 1 * n.val = n.val by omega)

/-- What a prompt point leaves in its block, at an index: the four stored tiles, read back, are the residual rows, and the entry is the row normalised. -/
theorem blockP_at (c : Dev nD) (t : Fin cfg0.N) (h : t.val < 32) (r : Fin 256) (n : Fin 2048) :
    blockP m c t h (ix2 r n)
      = NRM (RES (iblk m c 2 t) (GP (iblk m c 3 t)) (iblk m c 0 t) (iblk m c 1 t) r) (fun n => iblk m c 5 t (ix2 0 n)) n := by
  unfold blockP piecesP runA
  dsimp only
  frame_out
  refine normP (iblk m c 2 t) (iblk m c 0 t) (iblk m c 1 t) (iblk m c 3 t) (iblk m c 5 t) _ _ _ _ _ _ _ _ _ (fun r n => ?_) r n
  rw [View.readCov_eq_canon']
  refine (congrArg (View.canon _) (whole_idx _ r n)).trans ?_
  canon_tiles x hx
  · exact (congrArg _ (eq_ix2 x)).trans ((pay8_at _ _ _ _ _ _ (x 0) (x 1)).trans (congrArg₂ (RES _ _ _ _) (Fin.ext hx0.symm) (Fin.ext hx1.symm)))
  · exact (congrArg _ (eq_ix2 x)).trans ((pay7_at _ _ _ _ _ _ (x 0) (x 1)).trans (congrArg₂ (RES _ _ _ _) (Fin.ext hx0.symm) (Fin.ext hx1.symm)))
  · exact (congrArg _ (eq_ix2 x)).trans ((pay5_at _ _ _ _ _ _ (x 0) (x 1)).trans (congrArg₂ (RES _ _ _ _) (Fin.ext hx0.symm) (Fin.ext hx1.symm)))
  · exact (congrArg _ (eq_ix2 x)).trans ((pay4_at _ _ _ _ _ _ (x 0) (x 1)).trans (congrArg₂ (RES _ _ _ _) (Fin.ext hx0.symm) (Fin.ext ((Nat.zero_add _).trans hx1.symm))))

/-- The same for a sample point. -/
theorem blockS_at (c : Dev nD) (t : Fin cfg0.N) (h : 32 ≤ t.val) (r : Fin 256) (n : Fin 2048) :
    blockS m c t h (ix2 r n)
      = NRM (RES (iblk m c 2 t) (GS (iblk m c 4 t) r) (iblk m c 0 t) (iblk m c 1 t) r) (fun n => iblk m c 5 t (ix2 0 n)) n := by
  unfold blockS piecesS runB
  dsimp only
  frame_out
  refine normS (iblk m c 2 t) (iblk m c 0 t) (iblk m c 1 t) (iblk m c 4 t) (iblk m c 5 t) _ _ _ _ _ _ _ _ _ (fun r n => ?_) r n
  rw [View.readCov_eq_canon']
  refine (congrArg (View.canon _) (whole_idx _ r n)).trans ?_
  canon_tiles x hx
  all_goals obtain rfl : x 0 = r := Fin.ext hx0.symm
  · exact (congrArg _ (eq_ix2 x)).trans ((pay18_at _ _ _ _ _ _ (x 0) (x 1)).trans (congrArg (RES _ _ _ _ _) (Fin.ext hx1.symm)))
  · exact (congrArg _ (eq_ix2 x)).trans ((pay17_at _ _ _ _ _ _ (x 0) (x 1)).trans (congrArg (RES _ _ _ _ _) (Fin.ext hx1.symm)))
  · exact (congrArg _ (eq_ix2 x)).trans ((pay14_at _ _ _ _ _ _ (x 0) (x 1)).trans (congrArg (RES _ _ _ _ _) (Fin.ext hx1.symm)))
  · exact (congrArg _ (eq_ix2 x)).trans ((pay13_at _ _ _ _ _ _ (x 0) (x 1)).trans (congrArg (RES _ _ _ _ _) (Fin.ext ((Nat.zero_add _).trans hx1.symm))))

/-! The arguments, as arrays of extended reals. -/

abbrev x1A (c : Dev nD) : FVec Ideal S8704x2048 .f32 := m ((c : Thread nD τ).loc main_arg1)
abbrev actA (c : Dev nD) : FVec Ideal S8704x5632 .f32 := m ((c : Thread nD τ).loc main_arg0)
abbrev mpA (c : Dev nD) : FVec Ideal S4x12288 .f32 := m ((c : Thread nD τ).loc main_arg2)
abbrev msA (c : Dev nD) : FVec Ideal S128x12288 .f32 := m ((c : Thread nD τ).loc main_arg3)
abbrev wA (c : Dev nD) : FVec Ideal S1x5632x2048 .f32 := m ((c : Thread nD τ).loc main_arg4)
abbrev gA (c : Dev nD) : FVec Ideal S2048 .f32 := m ((c : Thread nD τ).loc main_arg5)

/-- The windows' blocks at a point, in terms of the arguments: the activation's rows, -/
theorem in0 (c : Dev nD) (t : Fin cfg0.N) (r : Fin 256) (k : Fin 5632) (h : 256 * t.val + r.val < 8704) :
    iblk m c 0 t (ix2 r k) = actA m c (ix2 ⟨256 * t.val + r.val, h⟩ k) := by
  blk_point [iblk, V, idx t]
/-- the weights, -/
theorem in1 (c : Dev nD) (t : Fin cfg0.N) (k : Fin 5632) (n : Fin 2048) :
    iblk m c 1 t (ix2 k n) = wA m c (ix3 0 k n) := by
  blk_point [iblk, V, idx t]
/-- the residual's rows, -/
theorem in2 (c : Dev nD) (t : Fin cfg0.N) (r : Fin 256) (n : Fin 2048) (h : 256 * t.val + r.val < 8704) :
    iblk m c 2 t (ix2 r n) = x1A m c (ix2 ⟨256 * t.val + r.val, h⟩ n) := by
  blk_point [iblk, V, idx t]
/-- the prompt's gate row, -/
theorem in3 (c : Dev nD) (t : Fin cfg0.N) (n : Fin 2048) (h : t.val < 32) :
    iblk m c 3 t (ix3 0 0 n) = mpA m c (ix2 ⟨t.val / 8, by omega⟩ ⟨10240 + n.val, by omega⟩) := by
  blk_point [iblk, V, idx t]
/-- the sample's gate rows, -/
theorem in4 (c : Dev nD) (t : Fin cfg0.N) (r : Fin 128) (n : Fin 2048) :
    iblk m c 4 t (ix2 r n) = msA m c (ix2 r ⟨10240 + n.val, by omega⟩) := by
  blk_point [iblk, V, idx t]
/-- and the gain. -/
theorem in5 (c : Dev nD) (t : Fin cfg0.N) (n : Fin 2048) :
    iblk m c 5 t (ix2 0 n) = gA m c (ix1 n) := by
  blk_point [iblk, V, idx t]

/-- A prompt point's block is the reference's first result where the block lies. -/
theorem pointP (c : Dev nD) (t : Fin cfg0.N) (h : t.val < 32) (r : Fin 256) (n : Fin 2048) (R : Fin 8192) (hR : R.val = 256 * t.val + r.val) :
    blockP m c t h (ix2 r n) = REFP (actA m c) (x1A m c) (mpA m c) (wA m c) (gA m c) (ix2 R n) := by
  rw [blockP_at, REFP_at]
  have e : (⟨t.val / 8, by omega⟩ : Fin 4) = ⟨R.val / 2048, by omega⟩ := Fin.ext (show t.val / 8 = R.val / 2048 by omega)
  have e' : (⟨256 * t.val + r.val, by omega⟩ : Fin 8704) = ⟨R.val, by omega⟩ := Fin.ext hR.symm
  refine congrArg₂ (fun T g => NRM T g n) (funext fun n => ?_) (funext fun n => in5 m c t n)
  unfold RES
  refine congrArg₂ (fun p q : EReal => p + q) ((in2 m c t r n (by omega)).trans (congrArg (fun i => x1A m c (ix2 i n)) e'))
    (congrArg₂ (fun p q : EReal => p * q) ((in3 m c t n h).trans (congrArg (fun i => mpA m c (ix2 i _)) e)) (Fin.sum_fin_congr fun k => ?_))
  exact congrArg₂ (fun p q : EReal => p * q) ((in0 m c t r k (by omega)).trans (congrArg (fun i => actA m c (ix2 i k)) e')) (in1 m c t k n)

/-- A sample point's block is the reference's second result where the block lies. -/
theorem pointS (c : Dev nD) (t : Fin cfg0.N) (h : 32 ≤ t.val) (r : Fin 256) (n : Fin 2048) (R : Fin 512) (hR : R.val = 256 * (t.val - 32) + r.val) :
    blockS m c t h (ix2 r n) = REFS (actA m c) (x1A m c) (msA m c) (wA m c) (gA m c) (ix2 R n) := by
  rw [blockS_at, REFS_at]
  have hN : t.val < 34 := lt_of_lt_of_eq t.isLt N_0
  have e : (⟨r.val % 128, by omega⟩ : Fin 128) = ⟨R.val % 128, by omega⟩ := Fin.ext (show r.val % 128 = R.val % 128 by omega)
  have e' : (⟨256 * t.val + r.val, by omega⟩ : Fin 8704) = ⟨8192 + R.val, by omega⟩ := Fin.ext (show 256 * t.val + r.val = 8192 + R.val by omega)
  refine congrArg₂ (fun T g => NRM T g n) (funext fun n => ?_) (funext fun n => in5 m c t n)
  unfold RES
  refine congrArg₂ (fun p q : EReal => p + q) ((in2 m c t r n (by omega)).trans (congrArg (fun i => x1A m c (ix2 i n)) e'))
    (congrArg₂ (fun p q : EReal => p * q) ((in4 m c t _ n).trans (congrArg (fun i => msA m c (ix2 i _)) e)) (Fin.sum_fin_congr fun k => ?_))
  exact congrArg₂ (fun p q : EReal => p * q) ((in0 m c t r k (by omega)).trans (congrArg (fun i => actA m c (ix2 i k)) e')) (in1 m c t k n)

/-- The prompt's result array after the run is the reference's, -/
theorem finalP (c : Dev nD) : (dats m 0 c).arrAt 6 (cfgs 0).N
    = REFP (actA m c) (x1A m c) (mpA m c) (wA m c) (gA m c) := by
  refine (dats m 0 c).arrAt_eq_of_covers 6 _ (by decide +kernel) fun t _ y => ?_
  blk_simp
  rw [after6]
  have h0 : (((cfg0.win 6).blk t).view.emb y 0).val = min t.val 31 * 256 + (y 0).val := by blk_simp [idx t]
  have h1 : (((cfg0.win 6).blk t).view.emb y 1).val = (y 1).val := by blk_simp [idx t]
  refine (congrArg (leftP m c t) (eq_ix2 (n0 := 256) (n1 := 2048) y)).trans (Eq.trans ?_ (congrArg (REFP _ _ _ _ _)
    ((congrArg (ix2 _) (Fin.ext h1.symm)).trans (eq_ix2 (n0 := 8192) (n1 := 2048) (((cfg0.win 6).blk t).view.emb y)).symm)))
  exact pointP m c (lastP t) (by show min t.val 31 < 32; omega) (y 0) (y 1) (((cfg0.win 6).blk t).view.emb y 0) (by rw [h0]; show _ = 256 * min t.val 31 + _; omega)

/-- and the sample's is the reference's. -/
theorem finalS (c : Dev nD) : (dats m 0 c).arrAt 7 (cfgs 0).N
    = REFS (actA m c) (x1A m c) (msA m c) (wA m c) (gA m c) := by
  refine (dats m 0 c).arrAt_eq_of_covers 7 _ (by decide +kernel) fun t _ y => ?_
  blk_simp
  rw [after7]
  have h0 : (((cfg0.win 7).blk t).view.emb y 0).val = (t.val - 32) * 256 + (y 0).val := by blk_simp [idx t]
  have h1 : (((cfg0.win 7).blk t).view.emb y 1).val = (y 1).val := by blk_simp [idx t]
  refine (congrArg (leftS m c t) (eq_ix2 (n0 := 256) (n1 := 2048) y)).trans (Eq.trans ?_ (congrArg (REFS _ _ _ _ _)
    ((congrArg (ix2 _) (Fin.ext h1.symm)).trans (eq_ix2 (n0 := 512) (n1 := 2048) (((cfg0.win 7).blk t).view.emb y)).symm)))
  exact pointS m c (firstS t) (by show 32 ≤ max t.val 32; omega) (y 0) (y 1) (((cfg0.win 7).blk t).view.emb y 0) (by rw [h0]; show _ = 256 * (max t.val 32 - 32) + _; omega)

end Cert.Ffn2Ideal.Value
end
-- ==== Proof.ScanSampleStep.lean ====
module

public import proofs.«01_k».proof.Proof.Gen.ScanSampleIdeal.Frame
public import Idealize.ShloMosaic.Lib.Pipeline.ValueKit

@[expose] public section

set_option maxRecDepth 65536

noncomputable section

open Idealize.ShloMosaic Idealize.ShloMosaic.TcCoe Idealize.SL.Sem

namespace Cert.ScanSampleIdeal.Val

open Cert.ScanSampleIdeal Cert.ScanSampleIdeal.Gen

/-! A grid point works on eight heads of sixteen sequences. Here its two results are restated with one term per head and
    per sequence, as lists of stores that a recursion writes. -/

/-! The boxes head `h` and sequence `b` read and write. -/

/-- The columns of head `h` in a token array. -/
abbrev rC (h : ℕ) : Rect S128x1024 := Rect.unit ![0, 128 * (h % 8)] S128x128.size
  (by simp only [Fin.forall_fin_succ]; refine ⟨?_, ?_, fun i => i.elim0⟩ <;> simp <;> omega)

/-- Its triangular block. -/
abbrev rT (h : ℕ) : Rect S8x128x128 := Rect.unit ![h % 8, 0, 0] S1x128x128.size
  (by simp only [Fin.forall_fin_succ]; refine ⟨?_, ?_, ?_, fun i => i.elim0⟩ <;> simp <;> omega)

/-- Its two stacked factors: the upper … -/
abbrev rL (h : ℕ) : Rect S8x256x128 := Rect.unit ![h % 8, 0, 0] S1x128x128.size
  (by simp only [Fin.forall_fin_succ]; refine ⟨?_, ?_, ?_, fun i => i.elim0⟩ <;> simp <;> omega)

/-- … and the lower. -/
abbrev rK (h : ℕ) : Rect S8x256x128 := Rect.unit ![h % 8, 128, 0] S1x128x128.size
  (by simp only [Fin.forall_fin_succ]; refine ⟨?_, ?_, ?_, fun i => i.elim0⟩ <;> simp <;> omega)

/-- The decay of sequence `b` in head `h`. -/
abbrev rD (b h : ℕ) : Rect S128x128 := Rect.unit ![8 * (b % 16), h % 8] S1x1.size
  (by simp only [Fin.forall_fin_succ]; refine ⟨?_, ?_, fun i => i.elim0⟩ <;> simp <;> omega)

/-- The state of sequence `b` in head `h`. -/
abbrev rS (b h : ℕ) : Rect S16x8x128x128 := Rect.unit ![b % 16, h % 8, 0, 0] S1x1x128x128.size
  (by simp only [Fin.forall_fin_succ]; refine ⟨?_, ?_, ?_, ?_, fun i => i.elim0⟩ <;> simp <;> omega)

section Terms
variable {F : FTy → Type} [FloatOps F]

/-- The products of the corrected keys (top) and of the queries (bottom) of sequence `b` with its state. -/
def pq (R : FVec F S128x256 .f32) (Q : FVec F S128x128 .f32) (s : Vec F S1x1x128x128 .f32) (b : ℕ) : FVec F S16x128 .f32 :=
  matmul dot_S16x128_S128x128_S16x128_1_0_0_1_n_n none
    (truncf .bf16 (concatenate S16x128 0 [⟨S8x128, extractStridedSlice S8x128 ![8 * (b % 16), 128] R
        ⟨rfl, by simp only [Fin.forall_fin_succ]; refine ⟨?_, ?_, fun i => i.elim0⟩ <;> simp <;> omega⟩⟩,
      ⟨S8x128, extractStridedSlice S8x128 ![8 * (b % 16), 0] Q
        ⟨rfl, by simp only [Fin.forall_fin_succ]; refine ⟨?_, ?_, fun i => i.elim0⟩ <;> simp <;> omega⟩⟩]
      concatenates_S8x128_S8x128_S16x128_d0) bitsLt_bf16_f32)
    (truncf .bf16 (shapeCast S128x128 s shapeCasts_S1x1x128x128_S128x128) bitsLt_bf16_f32) (constant S16x128 .f32 0x00000000#32)

/-- The corrected values of sequence `b`. -/
def up (R : FVec F S128x256 .f32) (Q : FVec F S128x128 .f32) (s : Vec F S1x1x128x128 .f32) (b : ℕ) : FVec F S8x128 .f32 :=
  subf (extractStridedSlice S8x128 ![8 * (b % 16), 0] R
      ⟨rfl, by simp only [Fin.forall_fin_succ]; refine ⟨?_, ?_, fun i => i.elim0⟩ <;> simp <;> omega⟩)
    (extractStridedSlice S8x128 ![0, 0] (pq R Q s b) slices_S16x128_o0_0_S8x128)

/-- What sequence `b` reads from its state. -/
def qp (R : FVec F S128x256 .f32) (Q : FVec F S128x128 .f32) (s : Vec F S1x1x128x128 .f32) (b : ℕ) : FVec F S8x128 .f32 :=
  extractStridedSlice S8x128 ![8, 0] (pq R Q s b) slices_S16x128_o8_0_S8x128

/-- Sixteen sequences' rows, one under another. -/
def cat (u : ℕ → FVec F S8x128 .f32) : FVec F S128x128 .f32 :=
  concatenate S128x128 0 [⟨S8x128, u 0⟩, ⟨S8x128, u 1⟩, ⟨S8x128, u 2⟩, ⟨S8x128, u 3⟩, ⟨S8x128, u 4⟩, ⟨S8x128, u 5⟩, ⟨S8x128, u 6⟩, ⟨S8x128, u 7⟩,
    ⟨S8x128, u 8⟩, ⟨S8x128, u 9⟩, ⟨S8x128, u 10⟩, ⟨S8x128, u 11⟩, ⟨S8x128, u 12⟩, ⟨S8x128, u 13⟩, ⟨S8x128, u 14⟩, ⟨S8x128, u 15⟩]
    concatenates_S8x128_S8x128_S8x128_S8x128_S8x128_S8x128_S8x128_S8x128_S8x128_S8x128_S8x128_S8x128_S8x128_S8x128_S8x128_S8x128_S128x128_d0

variable (x0 : Vec F S8x128x128 .bf16) (x1 : Vec F S8x256x128 .bf16) (x2 x3 x4 : Vec F S128x1024 .bf16) (x5 : Vec F S128x128 .f32)
  (x6 : Vec F S16x8x128x128 .f32)

/-- Head `h`'s first products. -/
def R1 (h : ℕ) : FVec F S128x256 .f32 := k0_pay3 (View.ld x2 (rC h)) (View.ld x3 (rC h)) (View.ld x0 (rT h))

/-- Head `h`'s queries. -/
def Q1 (h : ℕ) : FVec F S128x128 .f32 := k0_pay4 (View.ld x4 (rC h))

/-- Head `h`'s corrected values, all sequences. -/
def U1 (h : ℕ) : FVec F S128x128 .f32 := cat fun b => up (R1 x0 x2 x3 h) (Q1 x4 h) (View.ld x6 (rS b h)) b

/-- Head `h`'s output, all sequences. -/
def O1 (h : ℕ) : FVec F S128x128 .f32 :=
  k0_pay51 (U1 x0 x2 x3 x4 x6 h) (cat fun b => qp (R1 x0 x2 x3 h) (Q1 x4 h) (View.ld x6 (rS b h)) b) (View.ld x1 (rL h))

/-- The state of sequence `b` after its chunk, from the corrected values of all sixteen. -/
def hs (U : FVec F S128x128 .f32) (K : Vec F S1x128x128 .bf16) (d : Vec F S1x1 .f32) (s : Vec F S1x1x128x128 .f32) (b : ℕ) : FVec F S1x1x128x128 .f32 :=
  shapeCast S1x1x128x128
    (addf (mulf (shapeCast S128x128 s shapeCasts_S1x1x128x128_S128x128)
        (broadcastTo S128x128 (shapeCast S1x1 d shapeCasts_S1x1_S1x1) broadcasts_S1x1_S128x128))
      (matmul dot_S128x128_S128x128_S128x128_1_0_0_1_n_n none (shapeCast S128x128 K shapeCasts_S1x128x128_S128x128)
        (truncf .bf16 (select (broadcastTo S128x128 (shapeCast S128x1 (cmpi .eq k0_pay2 (broadcast S128x1 (BitVec.ofNat 32 (b % 16)))) shapeCasts_S128x1_S128x1)
          broadcasts_S128x1_S128x128) U (broadcast S128x128 (Scalar.ofBits .f32 0x00000000#32))) bitsLt_bf16_f32)
        (constant S128x128 .f32 0x00000000#32)))
    shapeCasts_S128x128_S1x1x128x128

/-- The first `n` stores of the output, the last one first. -/
def L7 : ℕ → List (View.Piece (Elt F) S128x1024 .f32)
  | 0 => []
  | n + 1 => ⟨rC n, O1 x0 x1 x2 x3 x4 x6 n⟩ :: L7 n

/-- The first `n` stores of the states, the last one first. -/
def L8 : ℕ → List (View.Piece (Elt F) S16x8x128x128 .f32)
  | 0 => []
  | n + 1 => ⟨rS (n % 16) (n / 16), hs (U1 x0 x2 x3 x4 x6 (n / 16)) (View.ld x1 (rK (n / 16))) (View.ld x5 (rD (n % 16) (n / 16)))
      (View.ld x6 (rS (n % 16) (n / 16))) (n % 16)⟩ :: L8 n

/-- The corrected values as the program spells them, head by head. -/
theorem u0 : k0_pay655 x0 x1 x2 x3 x4 x5 x6 = U1 x0 x2 x3 x4 x6 0 := rfl
theorem u1 : k0_pay675 x0 x1 x2 x3 x4 x5 x6 = U1 x0 x2 x3 x4 x6 1 := rfl
theorem u2 : k0_pay698 x0 x1 x2 x3 x4 x5 x6 = U1 x0 x2 x3 x4 x6 2 := rfl
theorem u3 : k0_pay726 x0 x1 x2 x3 x4 x5 x6 = U1 x0 x2 x3 x4 x6 3 := rfl
theorem u4 : k0_pay734 x0 x1 x2 x3 x4 x5 x6 = U1 x0 x2 x3 x4 x6 4 := rfl
theorem u5 : k0_pay754 x0 x1 x2 x3 x4 x5 x6 = U1 x0 x2 x3 x4 x6 5 := rfl
theorem u6 : k0_pay777 x0 x1 x2 x3 x4 x5 x6 = U1 x0 x2 x3 x4 x6 6 := rfl
theorem u7 : k0_pay805 x0 x1 x2 x3 x4 x5 x6 = U1 x0 x2 x3 x4 x6 7 := rfl

/-- The output window's contents are those eight stores … -/
theorem out7_eq : out0_7 x0 x1 x2 x3 x4 x5 x6 = View.canon (L7 x0 x1 x2 x3 x4 x6 8) := rfl

/-- … and the state window's the 128. -/
theorem out8_eq : out0_8 x0 x1 x2 x3 x4 x5 x6 = View.canon (L8 x0 x1 x2 x3 x4 x5 x6 128) := by
  unfold out0_8
  simp only [u0, u1, u2, u3, u4, u5, u6, u7]
  rfl

end Terms

end Cert.ScanSampleIdeal.Val
-- ==== Proof.ScanSampleVal.lean ====
module

public import proofs.«01_k».proof.Proof.ScanSampleStep
public import proofs.«01_k».proof.Proof.Stores

@[expose] public section

set_option maxRecDepth 16384

noncomputable section

open Idealize.ShloMosaic Idealize.ShloMosaic.TcCoe Idealize.SL.Sem

namespace Cert.ScanSampleIdeal.Val

open Cert.ScanSampleIdeal Cert.ScanSampleIdeal.Gen

/-! The two results of a grid point, entry by entry. -/

/-- The first products, entry by entry: their left half … -/
theorem r1_lo (A B : Vec Ideal S128x128 .bf16) (T : Vec Ideal S1x128x128 .bf16) (r c : Fin 128) :
    k0_pay3 (F := Ideal) A B T (ix2 r ⟨c.val, by omega⟩) = ∑ s : Fin 128, T (ix3 0 r s) * A (ix2 s c) := by
  pointwise [k0_pay3]

/-- … and their right half. -/
theorem r1_hi (A B : Vec Ideal S128x128 .bf16) (T : Vec Ideal S1x128x128 .bf16) (r c : Fin 128) :
    k0_pay3 (F := Ideal) A B T (ix2 r ⟨128 + c.val, by omega⟩) = ∑ s : Fin 128, T (ix3 0 r s) * B (ix2 s c) := by
  pointwise [k0_pay3]

/-- The corrected values of a sequence, entry by entry. -/
theorem up_apply (R : FVec Ideal S128x256 .f32) (Q : FVec Ideal S128x128 .f32) (s : Vec Ideal S1x1x128x128 .f32) (b : ℕ) (i : Fin 8) (v : Fin 128) :
    up R Q s b (ix2 i v) = R (ix2 ⟨8 * (b % 16) + i.val, by omega⟩ ⟨v.val, by omega⟩)
      - ∑ d : Fin 128, R (ix2 ⟨8 * (b % 16) + i.val, by omega⟩ ⟨128 + d.val, by omega⟩) * s (ix4 0 0 d v) := by
  pointwise [up, pq]

/-- What a sequence reads from its state, entry by entry. -/
theorem qp_apply (R : FVec Ideal S128x256 .f32) (Q : FVec Ideal S128x128 .f32) (s : Vec Ideal S1x1x128x128 .f32) (b : ℕ) (i : Fin 8) (v : Fin 128) :
    qp R Q s b (ix2 i v) = ∑ d : Fin 128, Q (ix2 ⟨8 * (b % 16) + i.val, by omega⟩ d) * s (ix4 0 0 d v) := by
  pointwise [qp, pq]

/-- Row `r` of the sixteen sequences' rows is row `r % 8` of sequence `r / 8`. -/
theorem cat_apply (u : ℕ → FVec Ideal S8x128 .f32) (r v : Fin 128) : cat u (ix2 r v) = u (r.val / 8) (ix2 ⟨r.val % 8, by omega⟩ v) := by
  show concatenate S128x128 0 (List.ofFn fun n : Fin 16 => (⟨S8x128, u n.val⟩ : (s : Shape) × (s.Idx → EReal))) _ (ix2 r v) = _
  refine concatenate_ofFn_apply (t := S128x128) (s₁ := S8x128) 0 (fun n : Fin 16 => u n.val) _ rfl 8 rfl (ix2 r v) ⟨r.val / 8, by omega⟩ rfl _ rfl ?_
  intro b hb
  fin_cases b
  · exact absurd rfl hb
  · rfl

/-- A choice by the equality of two small words. -/
theorem sel_eq (a b : ℕ) (ha : a < 2 ^ 32) (hb : b < 2 ^ 32) (x y : EReal) :
    Scalar.select (IntOp.cmpi .eq (BitVec.ofNat 32 a) (BitVec.ofNat 32 b)) x y = if a = b then x else y := by
  unfold Scalar.select
  exact if_congr (WordCmp.cmpi_eq_ofNat_eq_one_iff ha hb) rfl rfl

/-- The sequence a row belongs to. -/
theorem seq_apply : ∀ r : Fin 128, k0_pay2 (ix2 r 0) = BitVec.ofNat 32 (r.val / 8) := by
  decide +kernel

/-- A sequence's state after its chunk, entry by entry. -/
theorem hs_apply (U : FVec Ideal S128x128 .f32) (K : Vec Ideal S1x128x128 .bf16) (d : Vec Ideal S1x1 .f32) (s : Vec Ideal S1x1x128x128 .f32) (b : ℕ)
    (e v : Fin 128) :
    hs U K d s b (ix4 0 0 e v) = s (ix4 0 0 e v) * d (ix2 0 0)
      + ∑ r : Fin 128, (if r.val / 8 = b % 16 then K (ix3 0 e r) * U (ix2 r v) else 0) := by
  pointwise [hs]
  refine congrArg (fun p : EReal => _ + p) (Finset.sum_congr rfl fun r _ => ?_)
  rw [seq_apply, sel_eq _ _ (by omega) (by omega)]

/-- A head's output, entry by entry. -/
theorem o_apply (U Q : FVec Ideal S128x128 .f32) (L : Vec Ideal S1x128x128 .bf16) (r v : Fin 128) :
    k0_pay51 (F := Ideal) U Q L (ix2 r v) = Q (ix2 r v) + ∑ s : Fin 128, L (ix3 0 r s) * U (ix2 s v) := by
  pointwise [k0_pay51]

theorem q_apply (A : Vec Ideal S128x128 .bf16) (r c : Fin 128) : k0_pay4 (F := Ideal) A (ix2 r c) = A (ix2 r c) := by
  pointwise [k0_pay4]

/-! Where an index of a box lies in its array, and so what a load through the box reads. -/

theorem embC (h : Fin 8) (r c : Fin 128) : (rC h.val).emb (ix2 r c) = ix2 r ⟨128 * h.val + c.val, by omega⟩ := by
  funext a; refine Fin.ext ?_; rw [Rect.emb_apply]; fin_cases a <;> simp [Nat.mod_eq_of_lt h.isLt]

theorem embT (h : Fin 8) (r c : Fin 128) : (rT h.val).emb (ix3 0 r c) = ix3 h r c := by
  funext a; refine Fin.ext ?_; rw [Rect.emb_apply]; fin_cases a <;> simp [Nat.mod_eq_of_lt h.isLt]

theorem embL (h : Fin 8) (r c : Fin 128) : (rL h.val).emb (ix3 0 r c) = ix3 h ⟨r.val, by omega⟩ c := by
  funext a; refine Fin.ext ?_; rw [Rect.emb_apply]; fin_cases a <;> simp [Nat.mod_eq_of_lt h.isLt]

theorem embK (h : Fin 8) (r c : Fin 128) : (rK h.val).emb (ix3 0 r c) = ix3 h ⟨128 + r.val, by omega⟩ c := by
  funext a; refine Fin.ext ?_; rw [Rect.emb_apply]; fin_cases a <;> simp [Nat.mod_eq_of_lt h.isLt]

theorem embD (b : Fin 16) (h : Fin 8) : (rD b.val h.val).emb (ix2 0 0) = ix2 ⟨8 * b.val, by omega⟩ ⟨h.val, by omega⟩ := by
  funext a; refine Fin.ext ?_; rw [Rect.emb_apply]; fin_cases a <;> simp [Nat.mod_eq_of_lt h.isLt, Nat.mod_eq_of_lt b.isLt]

theorem embS (b : Fin 16) (h : Fin 8) (d v : Fin 128) : (rS b.val h.val).emb (ix4 0 0 d v) = ix4 b h d v := by
  funext a; refine Fin.ext ?_; rw [Rect.emb_apply]; fin_cases a <;> simp [Nat.mod_eq_of_lt h.isLt, Nat.mod_eq_of_lt b.isLt]

theorem ldC (X : Vec Ideal S128x1024 .bf16) (h : Fin 8) (r c : Fin 128) :
    View.ld X (rC h.val) (ix2 r c) = X (ix2 r ⟨128 * h.val + c.val, by omega⟩) := congrArg X (embC h r c)

theorem ldT (X : Vec Ideal S8x128x128 .bf16) (h : Fin 8) (r c : Fin 128) : View.ld X (rT h.val) (ix3 0 r c) = X (ix3 h r c) := congrArg X (embT h r c)

theorem ldL (X : Vec Ideal S8x256x128 .bf16) (h : Fin 8) (r c : Fin 128) :
    View.ld X (rL h.val) (ix3 0 r c) = X (ix3 h ⟨r.val, by omega⟩ c) := congrArg X (embL h r c)

theorem ldK (X : Vec Ideal S8x256x128 .bf16) (h : Fin 8) (r c : Fin 128) :
    View.ld X (rK h.val) (ix3 0 r c) = X (ix3 h ⟨128 + r.val, by omega⟩ c) := congrArg X (embK h r c)

theorem ldD (X : Vec Ideal S128x128 .f32) (b : Fin 16) (h : Fin 8) :
    View.ld X (rD b.val h.val) (ix2 0 0) = X (ix2 ⟨8 * b.val, by omega⟩ ⟨h.val, by omega⟩) := congrArg X (embD b h)

theorem ldS (X : Vec Ideal S16x8x128x128 .f32) (b : Fin 16) (h : Fin 8) (d v : Fin 128) :
    View.ld X (rS b.val h.val) (ix4 0 0 d v) = X (ix4 b h d v) := congrArg X (embS b h d v)

section Point

variable (x0 : Vec Ideal S8x128x128 .bf16) (x1 : Vec Ideal S8x256x128 .bf16) (x2 x3 x4 : Vec Ideal S128x1024 .bf16) (x5 : Vec Ideal S128x128 .f32)
  (x6 : Vec Ideal S16x8x128x128 .f32)

/-- Entry `(r, c)` of the product of head `h`'s triangular block with its columns of `a`. -/
def r1At (a : Vec Ideal S128x1024 .bf16) (h : Fin 8) (r c : Fin 128) : EReal :=
  ∑ s : Fin 128, x0 (ix3 h r s) * a (ix2 s ⟨128 * h.val + c.val, by omega⟩)

/-- Entry `(r, v)` of head `h`'s corrected values. -/
def uAt (h : Fin 8) (r v : Fin 128) : EReal :=
  r1At x0 x2 h r v - ∑ d : Fin 128, r1At x0 x3 h r d * x6 (ix4 ⟨r.val / 8, by omega⟩ h d v)

/-- Entry `(r, v)` of head `h`'s output. -/
def oAt (h : Fin 8) (r v : Fin 128) : EReal :=
  (∑ d : Fin 128, x4 (ix2 r ⟨128 * h.val + d.val, by omega⟩) * x6 (ix4 ⟨r.val / 8, by omega⟩ h d v))
    + ∑ s : Fin 128, x1 (ix3 h ⟨r.val, by omega⟩ s) * uAt x0 x2 x3 x6 h s v

/-- Entry `(d, v)` of the state of sequence `b` in head `h` after the chunk. -/
def sAt (b : Fin 16) (h : Fin 8) (d v : Fin 128) : EReal :=
  x6 (ix4 b h d v) * x5 (ix2 ⟨8 * b.val, by omega⟩ ⟨h.val, by omega⟩)
    + ∑ r : Fin 128, (if r.val / 8 = b.val then x1 (ix3 h ⟨128 + d.val, by omega⟩ r) * uAt x0 x2 x3 x6 h r v else 0)

theorem row_eq (r : Fin 128) : (⟨8 * (r.val / 8 % 16) + r.val % 8, by omega⟩ : Fin 128) = r := Fin.ext (by dsimp only; omega)

theorem R1_lo (h : Fin 8) (r c : Fin 128) : R1 x0 x2 x3 h.val (ix2 r ⟨c.val, by omega⟩) = r1At x0 x2 h r c := by
  unfold R1
  exact (r1_lo _ _ _ r c).trans (Finset.sum_congr rfl fun s _ => congrArg₂ (fun p q : EReal => p * q) (ldT x0 h r s) (ldC x2 h s c))

theorem R1_hi (h : Fin 8) (r c : Fin 128) : R1 x0 x2 x3 h.val (ix2 r ⟨128 + c.val, by omega⟩) = r1At x0 x3 h r c := by
  unfold R1
  exact (r1_hi _ _ _ r c).trans (Finset.sum_congr rfl fun s _ => congrArg₂ (fun p q : EReal => p * q) (ldT x0 h r s) (ldC x3 h s c))

theorem U1_apply (h : Fin 8) (r v : Fin 128) : U1 x0 x2 x3 x4 x6 h.val (ix2 r v) = uAt x0 x2 x3 x6 h r v := by
  unfold U1
  rw [cat_apply, up_apply, row_eq, R1_lo]
  refine congrArg (fun p : EReal => _ - p) (Finset.sum_congr rfl fun d _ => ?_)
  exact congrArg₂ (fun p q : EReal => p * q) (R1_hi x0 x2 x3 h r d) (ldS x6 ⟨r.val / 8, by omega⟩ h d v)

theorem O1_apply (h : Fin 8) (r v : Fin 128) : O1 x0 x1 x2 x3 x4 x6 h.val (ix2 r v) = oAt x0 x1 x2 x3 x4 x6 h r v := by
  unfold O1
  rw [o_apply, cat_apply, qp_apply, row_eq]
  refine congrArg₂ (fun p q : EReal => p + q) (Finset.sum_congr rfl fun d _ => ?_) (Finset.sum_congr rfl fun s _ => ?_)
  · exact congrArg₂ (fun p q : EReal => p * q) ((q_apply _ r d).trans (ldC x4 h r d)) (ldS x6 ⟨r.val / 8, by omega⟩ h d v)
  · exact congrArg₂ (fun p q : EReal => p * q) (ldL x1 h r s) (U1_apply x0 x2 x3 x4 x6 h s v)

theorem H1_apply (b : Fin 16) (h : Fin 8) (d v : Fin 128) :
    hs (U1 x0 x2 x3 x4 x6 h.val) (View.ld x1 (rK h.val)) (View.ld x5 (rD b.val h.val)) (View.ld x6 (rS b.val h.val)) b.val (ix4 0 0 d v)
      = sAt x0 x1 x2 x3 x5 x6 b h d v := by
  rw [hs_apply, Nat.mod_eq_of_lt b.isLt]
  refine congrArg₂ (fun p q : EReal => p + q) (congrArg₂ (fun p q : EReal => p * q) (ldS x6 b h d v) (ldD x5 b h)) (Finset.sum_congr rfl fun r _ => ?_)
  refine if_congr Iff.rfl ?_ rfl
  exact congrArg₂ (fun p q : EReal => p * q) (ldK x1 h d r) (U1_apply x0 x2 x3 x4 x6 h r v)

/-- What a point leaves in the output's block. -/
def OB : S128x1024.Idx → EReal := fun y =>
  oAt x0 x1 x2 x3 x4 x6 ⟨(show Fin 1024 from y 1).val / 128, by have := (show Fin 1024 from y 1).isLt; omega⟩ (y 0)
    ⟨(show Fin 1024 from y 1).val % 128, by omega⟩

/-- What a point leaves in the states' block. -/
def SB : S16x8x128x128.Idx → EReal := fun y => sAt x0 x1 x2 x3 x5 x6 (y 0) (y 1) (y 2) (y 3)

open Cert.Stores

theorem L7_mix : ∀ n : ℕ, n ≤ 8 → Mix n (fun y => (y 1).val / 128) (OB x0 x1 x2 x3 x4 x6) (View.canon []) (L7 x0 x1 x2 x3 x4 x6 n)
  | 0, _ => Mix.start rfl fun y => Nat.zero_le _
  | n + 1, hn => by
    have ih := L7_mix n (by omega)
    refine mix_cons (fun y => (y 1).val / 128) n _ _ _ _ _ ih ?_ ?_ ?_ <;> intro x <;>
      obtain ⟨a, b, rfl⟩ : ∃ a b, x = ix2 a b := ⟨_, _, eq_ix2 x⟩
    · rw [embC ⟨n, by omega⟩]
      have := b.isLt
      show (128 * n + b.val) / 128 = n
      omega
    · intro hy
      have hy : b.val / 128 = n := hy
      have := a.isLt; have := b.isLt
      rw [Rect.mem_set_unit]
      simp only [Fin.forall_fin_succ]
      refine ⟨?_, ?_, fun i => i.elim0⟩ <;> simp <;> omega
    · rw [embC ⟨n, by omega⟩]
      refine (O1_apply x0 x1 x2 x3 x4 x6 ⟨n, by omega⟩ a b).trans ?_
      have hb := b.isLt
      show _ = oAt x0 x1 x2 x3 x4 x6 ⟨(128 * n + b.val) / 128, _⟩ a ⟨(128 * n + b.val) % 128, _⟩
      have e1 : (128 * n + b.val) / 128 = n := by omega
      have e2 : (128 * n + b.val) % 128 = b.val := by omega
      simp only [e1, e2]

theorem L8_mix : ∀ n : ℕ, n ≤ 128 →
    Mix n (fun y => (y 1).val * 16 + (y 0).val) (SB x0 x1 x2 x3 x5 x6) (View.canon []) (L8 x0 x1 x2 x3 x4 x5 x6 n)
  | 0, _ => Mix.start rfl fun y => Nat.zero_le _
  | n + 1, hn => by
    have ih := L8_mix n (by omega)
    refine mix_cons (fun y => (y 1).val * 16 + (y 0).val) n _ _ _ _ _ ih ?_ ?_ ?_ <;> intro x <;>
      obtain ⟨a, b, d, v, rfl⟩ : ∃ a b d v, x = ix4 a b d v := ⟨_, _, _, _, eq_ix4 x⟩
    · obtain rfl : a = 0 := Subsingleton.elim _ _
      obtain rfl : b = 0 := Subsingleton.elim _ _
      rw [embS ⟨n % 16, by omega⟩ ⟨n / 16, by omega⟩]
      show n / 16 * 16 + n % 16 = n
      omega
    · intro hy
      have hy : b.val * 16 + a.val = n := hy
      have := a.isLt; have := b.isLt
      rw [Rect.mem_set_unit]
      simp only [Fin.forall_fin_succ]
      refine ⟨?_, ?_, ?_, ?_, fun i => i.elim0⟩ <;> simp <;> omega
    · obtain rfl : a = 0 := Subsingleton.elim _ _
      obtain rfl : b = 0 := Subsingleton.elim _ _
      rw [embS ⟨n % 16, by omega⟩ ⟨n / 16, by omega⟩]
      exact H1_apply x0 x1 x2 x3 x4 x5 x6 ⟨n % 16, by omega⟩ ⟨n / 16, by omega⟩ d v

/-- The output's block after the point. -/
theorem out7_val : out0_7 (F := Ideal) x0 x1 x2 x3 x4 x5 x6 = OB x0 x1 x2 x3 x4 x6 :=
  (out7_eq x0 x1 x2 x3 x4 x5 x6).trans ((L7_mix x0 x1 x2 x3 x4 x6 8 le_rfl).full fun y => by
    have := (show Fin 1024 from y 1).isLt
    show (show Fin 1024 from y 1).val / 128 < 8
    omega)

/-- The states' block after the point. -/
theorem out8_val : out0_8 (F := Ideal) x0 x1 x2 x3 x4 x5 x6 = SB x0 x1 x2 x3 x5 x6 :=
  (out8_eq x0 x1 x2 x3 x4 x5 x6).trans ((L8_mix x0 x1 x2 x3 x4 x5 x6 128 le_rfl).full fun y => by
    have := (show Fin 8 from y 1).isLt
    have := (show Fin 16 from y 0).isLt
    show (show Fin 8 from y 1).val * 16 + (show Fin 16 from y 0).val < 128
    omega)

end Point

end Cert.ScanSampleIdeal.Val
-- ==== Proof.ScanSampleBlocks.lean ====
module

public import proofs.«01_k».proof.Proof.ScanSampleVal
public import Idealize.ShloMosaic.Lib.KernelVsHost

@[expose] public section

set_option maxRecDepth 16384

noncomputable section

open Idealize.ShloMosaic Idealize.ShloMosaic.TcCoe Idealize.SL.Sem

namespace Cert.ScanSampleIdeal.Val

open Cert.ScanSampleIdeal Cert.ScanSampleIdeal.Gen

variable (m : (ℓ : Loc nD τ sig) → Buf (Elt Ideal) ℓ) (ρ : Dev nD → PrngReg)

/-- The block each window reads or writes at a grid point. -/
theorem idx : ∀ t : Fin cfg0.N, win0_0.index t = ![t.val, 0, 0] ∧ win0_1.index t = ![t.val, 0, 0]
    ∧ win0_2.index t = ![t.val, 0] ∧ win0_3.index t = ![t.val, 0] ∧ win0_4.index t = ![t.val, 0] ∧ win0_5.index t = ![t.val, 0]
    ∧ win0_6.index t = ![t.val, 0, 0, 0] ∧ win0_7.index t = ![t.val, 0] ∧ win0_8.index t = ![t.val, 0, 0, 0] :=
  (by decide +kernel : ∀ t : Fin grid0.N, _)

theorem N8 (t : Fin cfg0.N) : t.val < 8 := lt_of_lt_of_eq t.isLt N_0

/-- Row `i` of a sequence's head in a token array padded to eight rows. -/
def tokP (a : S128x1x8x4x128.Idx → EReal) (b : Fin 128) (h : Fin 8) (i : ℕ) (d : Fin 128) : EReal :=
  if hi : i < 4 then a (ix5 b 0 h ⟨i, hi⟩ d) else 0

/-- Entry `(i, j)` of a sequence's head in an array of square blocks padded to eight rows and columns. -/
def matP (a : S128x1x8x4x4.Idx → EReal) (b : Fin 128) (h : Fin 8) (i j : ℕ) : EReal :=
  if hij : i < 4 ∧ j < 4 then a (ix5 b 0 h ⟨i, hij.1⟩ ⟨j, hij.2⟩) else 0

/-- A padded entry is the array's inside and zero outside, however "inside" is put. -/
theorem pick {P Q : Prop} [Decidable P] [Decidable Q] (f : P → EReal) (g : Q → EReal) (z : EReal) (h : P ↔ Q) (hz : z = 0) (hf : ∀ p q, f p = g q) :
    (if p : P then f p else z) = if q : Q then g q else 0 := by
  by_cases p : P
  · rw [dif_pos p, dif_pos (h.mp p)]; exact hf _ _
  · rw [dif_neg p, dif_neg fun q => p (h.mpr q)]; exact hz

/-- The values by token. -/
theorem V36 (c : Dev nD) (r q : Fin 1024) :
    V m c main_v36 (ix2 r q) = tokP (m ((c : Thread nD τ).loc main_arg1)) ⟨r.val / 8, by omega⟩ ⟨q.val / 128, by omega⟩ (r.val % 8) ⟨q.val % 128, by omega⟩ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.cons_append, List.nil_append, List.append_nil]
  after_results
  pointwise
  simp only [StableHlo.TRef.toBuf, StableHlo.TRef.ofBuf, cast_eq]
  pointwise
  exact pick _ _ _ (by omega) (sitofp_zero (φ := .f32)) fun _ _ => rfl

/-- The keys by token. -/
theorem V41 (c : Dev nD) (r q : Fin 1024) :
    V m c main_v41 (ix2 r q) = tokP (m ((c : Thread nD τ).loc main_arg2)) ⟨r.val / 8, by omega⟩ ⟨q.val / 128, by omega⟩ (r.val % 8) ⟨q.val % 128, by omega⟩ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.cons_append, List.nil_append, List.append_nil]
  after_results
  pointwise
  simp only [StableHlo.TRef.toBuf, StableHlo.TRef.ofBuf, cast_eq]
  pointwise
  exact pick _ _ _ (by omega) (sitofp_zero (φ := .f32)) fun _ _ => rfl

/-- The queries by token. -/
theorem V46 (c : Dev nD) (r q : Fin 1024) :
    V m c main_v46 (ix2 r q) = tokP (m ((c : Thread nD τ).loc main_arg5)) ⟨r.val / 8, by omega⟩ ⟨q.val / 128, by omega⟩ (r.val % 8) ⟨q.val % 128, by omega⟩ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.cons_append, List.nil_append, List.append_nil]
  after_results
  pointwise
  simp only [StableHlo.TRef.toBuf, StableHlo.TRef.ofBuf, cast_eq]
  pointwise
  exact pick _ _ _ (by omega) (sitofp_zero (φ := .f32)) fun _ _ => rfl

/-- The decays by token. -/
theorem V20 (c : Dev nD) (r : Fin 1024) (h : Fin 8) :
    V m c main_v20 (ix2 r ⟨h.val, by omega⟩) = m ((c : Thread nD τ).loc main_arg6) (ix3 ⟨r.val / 8, by omega⟩ 0 h) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.cons_append, List.nil_append, List.append_nil]
  after_results
  pointwise
  simp only [StableHlo.TRef.toBuf, StableHlo.TRef.ofBuf, cast_eq]
  pointwise

/-- The triangular factors as the region finds them. -/
theorem V31 (c : Dev nD) (n : Fin 64) (r s : Fin 128) :
    V m c main_v31 (ix3 n r s) = if r.val / 8 = s.val / 8 then matP (m ((c : Thread nD τ).loc main_arg0)) ⟨n.val / 8 * 16 + r.val / 8, by omega⟩ ⟨n.val % 8, by omega⟩ (r.val % 8) (s.val % 8) else 0 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.cons_append, List.nil_append, List.append_nil]
  after_results
  pointwise
  simp only [StableHlo.TRef.toBuf, StableHlo.TRef.ofBuf, cast_eq]
  pointwise
  rw [sel_eq _ _ (by omega) (by omega)]
  refine if_congr Iff.rfl ?_ (by pointwise [id])
  exact pick _ _ _ (by omega) (sitofp_zero (φ := .f32)) fun _ _ => rfl

/-- The stacked factors: the upper 128 rows … -/
theorem V17_lo (c : Dev nD) (n : Fin 64) (r s : Fin 128) :
    V m c main_v17 (ix3 n ⟨r.val, by omega⟩ s) = if r.val / 8 = s.val / 8 then matP (m ((c : Thread nD τ).loc main_arg3)) ⟨n.val / 8 * 16 + r.val / 8, by omega⟩ ⟨n.val % 8, by omega⟩ (r.val % 8) (s.val % 8) else 0 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.cons_append, List.nil_append, List.append_nil]
  after_results
  pointwise
  simp only [StableHlo.TRef.toBuf, StableHlo.TRef.ofBuf, cast_eq]
  pointwise
  rw [sel_eq _ _ (by omega) (by omega)]
  refine if_congr Iff.rfl ?_ (by pointwise [id])
  exact pick _ _ _ (by omega) (sitofp_zero (φ := .f32)) fun _ _ => rfl

/-- … and the lower 128. -/
theorem V17_hi (c : Dev nD) (n : Fin 64) (d r : Fin 128) :
    V m c main_v17 (ix3 n ⟨128 + d.val, by omega⟩ r) = tokP (m ((c : Thread nD τ).loc main_arg4)) ⟨n.val / 8 * 16 + r.val / 8, by omega⟩ ⟨n.val % 8, by omega⟩ (r.val % 8) d := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.cons_append, List.nil_append, List.append_nil]
  after_results
  pointwise
  simp only [StableHlo.TRef.toBuf, StableHlo.TRef.ofBuf, cast_eq]
  pointwise
  exact pick _ _ _ (by omega) (sitofp_zero (φ := .f32)) fun _ _ => rfl

/-! The blocks of a grid point, in the launch's arguments. -/

theorem blk0 (c : Dev nD) (t : Fin cfg0.N) (h : Fin 8) (r s : Fin 128) :
    iblk m c 0 t (ix3 h r s) = if r.val / 8 = s.val / 8 then
      matP (m ((c : Thread nD τ).loc main_arg0)) ⟨t.val * 16 + r.val / 8, by have := N8 t; omega⟩ h (r.val % 8) (s.val % 8) else 0 := by
  have hN := N8 t
  have e : iblk m c 0 t (ix3 h r s) = V m c main_v31 (ix3 ⟨t.val * 8 + h.val, by omega⟩ r s) := by blk_ext [iblk, idx t]
  refine e.trans ((V31 m c _ r s).trans (if_congr Iff.rfl ?_ rfl))
  exact congrArg₂ (fun B H => matP _ B H _ _) (Fin.ext (by dsimp only; omega)) (Fin.ext (by dsimp only; omega))

theorem emb1 (t : Fin cfg0.N) (h : Fin 8) (a : Fin 256) (s : Fin 128) :
    ((cfg0.win 1).blk t).view.emb (ix3 h a s) = ix3 ⟨t.val * 8 + h.val, by have := N8 t; omega⟩ a s := by
  blk_ext [idx t]

theorem blk1 (c : Dev nD) (t : Fin cfg0.N) (h : Fin 8) (a : Fin 256) (s : Fin 128) :
    iblk m c 1 t (ix3 h a s) = V m c main_v17 (ix3 ⟨t.val * 8 + h.val, by have := N8 t; omega⟩ a s) :=
  congrArg (V m c main_v17) (emb1 t h a s)

theorem blk1_lo (c : Dev nD) (t : Fin cfg0.N) (h : Fin 8) (r s : Fin 128) :
    iblk m c 1 t (ix3 h ⟨r.val, by omega⟩ s) = if r.val / 8 = s.val / 8 then
      matP (m ((c : Thread nD τ).loc main_arg3)) ⟨t.val * 16 + r.val / 8, by have := N8 t; omega⟩ h (r.val % 8) (s.val % 8) else 0 := by
  have hN := N8 t
  refine (blk1 m c t h _ s).trans ((V17_lo m c _ r s).trans (if_congr Iff.rfl ?_ rfl))
  exact congrArg₂ (fun B H => matP _ B H _ _) (Fin.ext (by dsimp only; omega)) (Fin.ext (by dsimp only; omega))

theorem blk1_hi (c : Dev nD) (t : Fin cfg0.N) (h : Fin 8) (d r : Fin 128) :
    iblk m c 1 t (ix3 h ⟨128 + d.val, by omega⟩ r)
      = tokP (m ((c : Thread nD τ).loc main_arg4)) ⟨t.val * 16 + r.val / 8, by have := N8 t; omega⟩ h (r.val % 8) d := by
  have hN := N8 t
  refine (blk1 m c t h _ r).trans ((V17_hi m c _ d r).trans ?_)
  exact congrArg₂ (fun B H => tokP _ B H _ _) (Fin.ext (by dsimp only; omega)) (Fin.ext (by dsimp only; omega))

/-- A row of a point, in the padded rows of all the points. -/
theorem tok_pt (a : S128x1x8x4x128.Idx → EReal) (t : Fin cfg0.N) (h : Fin 8) (r d : Fin 128) {p q : ℕ} (hp : p < 1024) (hq : q < 1024)
    (ep : p = t.val * 128 + r.val) (eq : q = 128 * h.val + d.val) :
    tokP a ⟨p / 8, by omega⟩ ⟨q / 128, by omega⟩ (p % 8) ⟨q % 128, by omega⟩
      = tokP a ⟨t.val * 16 + r.val / 8, by have := N8 t; omega⟩ h (r.val % 8) d := by
  have e1 : p / 8 = t.val * 16 + r.val / 8 := by omega
  have e2 : q / 128 = h.val := by omega
  have e3 : p % 8 = r.val % 8 := by omega
  have e4 : q % 128 = d.val := by omega
  simp only [e1, e2, e3, e4]

theorem blk2 (c : Dev nD) (t : Fin cfg0.N) (h : Fin 8) (r d : Fin 128) :
    iblk m c 2 t (ix2 r ⟨128 * h.val + d.val, by omega⟩)
      = tokP (m ((c : Thread nD τ).loc main_arg1)) ⟨t.val * 16 + r.val / 8, by have := N8 t; omega⟩ h (r.val % 8) d := by
  have hN := N8 t
  have e : ∀ q : Fin 1024, iblk m c 2 t (ix2 r q) = V m c main_v36 (ix2 ⟨t.val * 128 + r.val, by omega⟩ q) := fun q => by blk_ext [iblk, idx t]
  exact (e _).trans ((V36 m c _ _).trans (tok_pt _ t h r d (by omega) (by omega) rfl rfl))

theorem blk3 (c : Dev nD) (t : Fin cfg0.N) (h : Fin 8) (r d : Fin 128) :
    iblk m c 3 t (ix2 r ⟨128 * h.val + d.val, by omega⟩)
      = tokP (m ((c : Thread nD τ).loc main_arg2)) ⟨t.val * 16 + r.val / 8, by have := N8 t; omega⟩ h (r.val % 8) d := by
  have hN := N8 t
  have e : ∀ q : Fin 1024, iblk m c 3 t (ix2 r q) = V m c main_v41 (ix2 ⟨t.val * 128 + r.val, by omega⟩ q) := fun q => by blk_ext [iblk, idx t]
  exact (e _).trans ((V41 m c _ _).trans (tok_pt _ t h r d (by omega) (by omega) rfl rfl))

theorem blk4 (c : Dev nD) (t : Fin cfg0.N) (h : Fin 8) (r d : Fin 128) :
    iblk m c 4 t (ix2 r ⟨128 * h.val + d.val, by omega⟩)
      = tokP (m ((c : Thread nD τ).loc main_arg5)) ⟨t.val * 16 + r.val / 8, by have := N8 t; omega⟩ h (r.val % 8) d := by
  have hN := N8 t
  have e : ∀ q : Fin 1024, iblk m c 4 t (ix2 r q) = V m c main_v46 (ix2 ⟨t.val * 128 + r.val, by omega⟩ q) := fun q => by blk_ext [iblk, idx t]
  exact (e _).trans ((V46 m c _ _).trans (tok_pt _ t h r d (by omega) (by omega) rfl rfl))

theorem blk5 (c : Dev nD) (t : Fin cfg0.N) (b : Fin 16) (h : Fin 8) :
    iblk m c 5 t (ix2 ⟨8 * b.val, by omega⟩ ⟨h.val, by omega⟩)
      = m ((c : Thread nD τ).loc main_arg6) (ix3 ⟨t.val * 16 + b.val, by have := N8 t; omega⟩ 0 h) := by
  have hN := N8 t
  have e : ∀ r q : Fin 128, iblk m c 5 t (ix2 r q) = V m c main_v20 (ix2 ⟨t.val * 128 + r.val, by omega⟩ q) := fun r q => by blk_ext [iblk, idx t]
  refine (e _ _).trans ((V20 m c _ h).trans ?_)
  exact congrArg (fun B => m ((c : Thread nD τ).loc main_arg6) (ix3 B 0 h)) (Fin.ext (by dsimp only; omega))

theorem blk6 (c : Dev nD) (t : Fin cfg0.N) (b : Fin 16) (h : Fin 8) (d v : Fin 128) :
    iblk m c 6 t (ix4 b h d v) = m ((c : Thread nD τ).loc main_arg7) (ix4 ⟨t.val * 16 + b.val, by have := N8 t; omega⟩ h d v) := by
  have e : iblk m c 6 t (ix4 b h d v) = V m c main_arg7 (ix4 ⟨t.val * 16 + b.val, by have := N8 t; omega⟩ h d v) := by blk_ext [iblk, idx t]
  rw [e, V_main_arg7]

end Cert.ScanSampleIdeal.Val
-- ==== Proof.ScanSampleSpec.lean ====
module

public import proofs.«01_k».proof.Proof.ScanSampleBlocks

@[expose] public section

set_option maxRecDepth 16384

noncomputable section

open Idealize.ShloMosaic Idealize.ShloMosaic.TcCoe Idealize.SL.Sem

namespace Cert.ScanSampleIdeal.Val

open Cert.ScanSampleIdeal Cert.ScanSampleIdeal.Gen

/-! One chunk of the recurrence on the whole arrays: sequence `b`, head `h`, four tokens. -/

section Spec

variable (T QK : S128x1x8x4x4.Idx → EReal) (W K KT Q : S128x1x8x4x128.Idx → EReal) (CD : S128x1x8.Idx → EReal) (S : S128x8x128x128.Idx → EReal)

/-- The product of a sequence's triangular factor with its rows of `a`. -/
def bU (a : S128x1x8x4x128.Idx → EReal) (b : Fin 128) (h : Fin 8) (i : Fin 4) (v : Fin 128) : EReal :=
  ∑ j : Fin 4, T (ix5 b 0 h i j) * a (ix5 b 0 h j v)

/-- A sequence's corrected values. -/
def uS (b : Fin 128) (h : Fin 8) (i : Fin 4) (v : Fin 128) : EReal :=
  bU T W b h i v - ∑ d : Fin 128, bU T K b h i d * S (ix4 b h d v)

/-- A sequence's outputs. -/
def oS (b : Fin 128) (h : Fin 8) (i : Fin 4) (v : Fin 128) : EReal :=
  (∑ d : Fin 128, Q (ix5 b 0 h i d) * S (ix4 b h d v)) + ∑ j : Fin 4, QK (ix5 b 0 h i j) * uS T W K S b h j v

/-- A sequence's state after the chunk. -/
def sS (b : Fin 128) (h : Fin 8) (d v : Fin 128) : EReal :=
  S (ix4 b h d v) * CD (ix3 b 0 h) + ∑ j : Fin 4, KT (ix5 b 0 h j d) * uS T W K S b h j v

/-- The outputs by token, each sequence's four rows followed by four zero rows. -/
def OUTf : S1024x1024.Idx → EReal := fun y =>
  if hi : (show Fin 1024 from y 0).val % 8 < 4 then
    oS T QK W K Q S ⟨(show Fin 1024 from y 0).val / 8, by have := (show Fin 1024 from y 0).isLt; omega⟩
      ⟨(show Fin 1024 from y 1).val / 128, by have := (show Fin 1024 from y 1).isLt; omega⟩ ⟨(show Fin 1024 from y 0).val % 8, hi⟩
      ⟨(show Fin 1024 from y 1).val % 128, by omega⟩
  else 0

/-- The states after the chunk. -/
def STf : S128x8x128x128.Idx → EReal := fun y => sS T W K KT CD S (y 0) (y 1) (y 2) (y 3)

end Spec

/-- A sum over the rows of a point that is zero off the four tokens of one sequence is the sum over those tokens. -/
theorem sum_block (b : Fin 16) (f : Fin 128 → EReal) (g : Fin 4 → EReal) (h1 : ∀ j : Fin 4, f ⟨8 * b.val + j.val, by omega⟩ = g j)
    (h2 : ∀ s : Fin 128, s.val / 8 ≠ b.val ∨ ¬ s.val % 8 < 4 → f s = 0) : ∑ s, f s = ∑ j, g j := by
  refine (Finset.sum_of_injOn (fun j : Fin 4 => (⟨8 * b.val + j.val, by omega⟩ : Fin 128)) ?_ ?_ ?_ ?_).symm
  · intro x _ y _ e
    have := congrArg Fin.val e
    exact Fin.ext (by dsimp only at this; omega)
  · intro _ _; simp
  · intro s _ hs
    refine h2 s ?_
    by_contra hc
    have hc : s.val / 8 = b.val ∧ s.val % 8 < 4 := by omega
    exact hs ⟨⟨s.val % 8, hc.2⟩, by simp, Fin.ext (by dsimp only; omega)⟩
  · intro j _; exact (h1 j).symm

theorem tokP_pos (a : S128x1x8x4x128.Idx → EReal) {B B' : Fin 128} (h : Fin 8) {n : ℕ} (i : Fin 4) (d : Fin 128) (eB : B.val = B'.val) (e : n = i.val) :
    tokP a B h n d = a (ix5 B' 0 h i d) := by
  obtain rfl : B = B' := Fin.ext eB
  subst e
  exact dif_pos i.isLt

theorem tokP_neg (a : S128x1x8x4x128.Idx → EReal) (B : Fin 128) (h : Fin 8) {n : ℕ} (d : Fin 128) (e : ¬ n < 4) : tokP a B h n d = 0 := dif_neg e

theorem matP_pos (a : S128x1x8x4x4.Idx → EReal) {B B' : Fin 128} (h : Fin 8) {n k : ℕ} (i j : Fin 4) (eB : B.val = B'.val) (e : n = i.val) (e' : k = j.val) :
    matP a B h n k = a (ix5 B' 0 h i j) := by
  obtain rfl : B = B' := Fin.ext eB
  subst e e'
  exact dif_pos ⟨i.isLt, j.isLt⟩

theorem matP_neg (a : S128x1x8x4x4.Idx → EReal) (B : Fin 128) (h : Fin 8) {n k : ℕ} (e : ¬ n < 4) : matP a B h n k = 0 := dif_neg fun p => e p.1

variable (m : (ℓ : Loc nD τ sig) → Buf (Elt Ideal) ℓ) (ρ : Dev nD → PrngReg)

section Point

variable (c : Dev nD) (t : Fin cfg0.N) (b : Fin 16) (h : Fin 8)

/-- A sequence of a point, among all sequences. -/
abbrev sq (t : Fin cfg0.N) (b : Fin 16) : Fin 128 := ⟨t.val * 16 + b.val, by have := N8 t; omega⟩

/-- A token of a sequence, among the rows of a point. -/
abbrev row (b : Fin 16) (i : Fin 4) : Fin 128 := ⟨8 * b.val + i.val, by omega⟩

/-- The four tokens' product with a triangular factor, whatever fills the columns. -/
theorem r1_pt (X : Vec Ideal S128x1024 .bf16) (a : S128x1x8x4x128.Idx → EReal)
    (hX : ∀ r d : Fin 128, X (ix2 r ⟨128 * h.val + d.val, by omega⟩) = tokP a ⟨t.val * 16 + r.val / 8, by have := N8 t; omega⟩ h (r.val % 8) d)
    (i : Fin 4) (v : Fin 128) :
    r1At (iblk m c 0 t) X h (row b i) v = bU (m ((c : Thread nD τ).loc main_arg0)) a (sq t b) h i v := by
  refine sum_block b _ _ (fun j => ?_) (fun s hs => ?_)
  · rw [blk0, hX, if_pos (by dsimp only; omega), matP_pos (B' := sq t b) _ h i j (by dsimp only; omega) (by dsimp only; omega) (by dsimp only; omega),
      tokP_pos (B' := sq t b) _ h j v (by dsimp only; omega) (by dsimp only; omega)]
  · rw [blk0, hX]
    rcases hs with hs | hs
    · rw [if_neg (by dsimp only; omega), zero_mul]
    · rw [tokP_neg _ _ _ _ hs, mul_zero]

theorem u_pt (i : Fin 4) (v : Fin 128) : uAt (iblk m c 0 t) (iblk m c 2 t) (iblk m c 3 t) (iblk m c 6 t) h (row b i) v
    = uS (m ((c : Thread nD τ).loc main_arg0)) (m ((c : Thread nD τ).loc main_arg1)) (m ((c : Thread nD τ).loc main_arg2))
        (m ((c : Thread nD τ).loc main_arg7)) (sq t b) h i v := by
  refine congrArg₂ (fun p q : EReal => p - q) (r1_pt m c t b h _ _ (blk2 m c t h) i v)
    (Finset.sum_congr rfl fun d _ => congrArg₂ (fun p q : EReal => p * q) (r1_pt m c t b h _ _ (blk3 m c t h) i d) ((blk6 m c t _ h d v).trans ?_))
  exact congrArg (fun B => m ((c : Thread nD τ).loc main_arg7) (ix4 B h d v)) (Fin.ext (by dsimp only; omega))

theorem o_pt (i : Fin 4) (v : Fin 128) :
    oAt (iblk m c 0 t) (iblk m c 1 t) (iblk m c 2 t) (iblk m c 3 t) (iblk m c 4 t) (iblk m c 6 t) h (row b i) v
    = oS (m ((c : Thread nD τ).loc main_arg0)) (m ((c : Thread nD τ).loc main_arg3)) (m ((c : Thread nD τ).loc main_arg1))
        (m ((c : Thread nD τ).loc main_arg2)) (m ((c : Thread nD τ).loc main_arg5)) (m ((c : Thread nD τ).loc main_arg7)) (sq t b) h i v := by
  refine congrArg₂ (fun p q : EReal => p + q)
    (Finset.sum_congr rfl fun d _ => congrArg₂ (fun p q : EReal => p * q) ?_ ((blk6 m c t _ h d v).trans ?_)) ?_
  · exact (blk4 m c t h _ d).trans (tokP_pos (B' := sq t b) _ h i d (by dsimp only; omega) (by dsimp only; omega))
  · exact congrArg (fun B => m ((c : Thread nD τ).loc main_arg7) (ix4 B h d v)) (Fin.ext (by dsimp only; omega))
  · refine sum_block b _ _ (fun j => ?_) (fun s hs => ?_)
    · rw [blk1_lo, u_pt, if_pos (by dsimp only; omega),
        matP_pos (B' := sq t b) _ h i j (by dsimp only; omega) (by dsimp only; omega) (by dsimp only; omega)]
    · rw [blk1_lo]
      by_cases e : (row b i).val / 8 = s.val / 8
      · have hs : ¬ s.val % 8 < 4 := by dsimp only at e; omega
        rw [if_pos e]
        refine (congrArg (fun p : EReal => p * _) (dif_neg fun p => hs p.2)).trans (zero_mul _)
      · rw [if_neg e, zero_mul]

/-- The rows past a sequence's tokens are zero. -/
theorem o_pad (r v : Fin 128) (hr : ¬ r.val % 8 < 4) :
    oAt (iblk m c 0 t) (iblk m c 1 t) (iblk m c 2 t) (iblk m c 3 t) (iblk m c 4 t) (iblk m c 6 t) h r v = 0 := by
  refine (congrArg₂ (fun p q : EReal => p + q) (Finset.sum_eq_zero fun d _ => ?_) (Finset.sum_eq_zero fun s _ => ?_)).trans (add_zero 0)
  · rw [blk4, tokP_neg _ _ _ _ hr, zero_mul]
  · rw [blk1_lo, matP_neg _ _ _ hr, ite_self, zero_mul]

theorem s_pt (d v : Fin 128) :
    sAt (iblk m c 0 t) (iblk m c 1 t) (iblk m c 2 t) (iblk m c 3 t) (iblk m c 5 t) (iblk m c 6 t) b h d v
    = sS (m ((c : Thread nD τ).loc main_arg0)) (m ((c : Thread nD τ).loc main_arg1)) (m ((c : Thread nD τ).loc main_arg2))
        (m ((c : Thread nD τ).loc main_arg4)) (m ((c : Thread nD τ).loc main_arg6)) (m ((c : Thread nD τ).loc main_arg7)) (sq t b) h d v := by
  refine congrArg₂ (fun p q : EReal => p + q) (congrArg₂ (fun p q : EReal => p * q) (blk6 m c t b h d v) (blk5 m c t b h)) ?_
  refine sum_block b _ _ (fun j => ?_) (fun s hs => ?_)
  · rw [if_pos (by dsimp only; omega), blk1_hi, u_pt, tokP_pos (B' := sq t b) _ h j d (by dsimp only; omega) (by dsimp only; omega)]
  · rcases hs with hs | hs
    · rw [if_neg hs]
    · rw [blk1_hi, tokP_neg _ _ _ _ hs, zero_mul, ite_self]

end Point

/-- The outputs of the launch's arguments. -/
abbrev OUT (c : Dev nD) : S1024x1024.Idx → EReal :=
  OUTf (m ((c : Thread nD τ).loc main_arg0)) (m ((c : Thread nD τ).loc main_arg3)) (m ((c : Thread nD τ).loc main_arg1))
    (m ((c : Thread nD τ).loc main_arg2)) (m ((c : Thread nD τ).loc main_arg5)) (m ((c : Thread nD τ).loc main_arg7))

/-- The states of the launch's arguments. -/
abbrev STm (c : Dev nD) : S128x8x128x128.Idx → EReal :=
  STf (m ((c : Thread nD τ).loc main_arg0)) (m ((c : Thread nD τ).loc main_arg1)) (m ((c : Thread nD τ).loc main_arg2))
    (m ((c : Thread nD τ).loc main_arg4)) (m ((c : Thread nD τ).loc main_arg6)) (m ((c : Thread nD τ).loc main_arg7))

theorem OB_OUT (c : Dev nD) (t : Fin cfg0.N) (r : Fin 128) (q : Fin 1024) :
    OB (iblk m c 0 t) (iblk m c 1 t) (iblk m c 2 t) (iblk m c 3 t) (iblk m c 4 t) (iblk m c 6 t) (ix2 r q)
      = OUT m c (ix2 ⟨t.val * 128 + r.val, by have := N8 t; omega⟩ q) := by
  have hN := N8 t
  show oAt _ _ _ _ _ _ ⟨q.val / 128, _⟩ r ⟨q.val % 128, _⟩ = if hi : (t.val * 128 + r.val) % 8 < 4 then
    oS _ _ _ _ _ _ ⟨(t.val * 128 + r.val) / 8, _⟩ ⟨q.val / 128, _⟩ ⟨(t.val * 128 + r.val) % 8, hi⟩ ⟨q.val % 128, _⟩ else 0
  by_cases hi : r.val % 8 < 4
  · rw [dif_pos (by omega)]
    have e : r = row ⟨r.val / 8, by omega⟩ ⟨r.val % 8, hi⟩ := Fin.ext (by dsimp only; omega)
    refine (congrArg (fun r => oAt _ _ _ _ _ _ _ r _) e).trans ((o_pt m c t ⟨r.val / 8, by omega⟩ _ ⟨r.val % 8, hi⟩ _).trans ?_)
    have e1 : (t.val * 128 + r.val) / 8 = t.val * 16 + r.val / 8 := by omega
    have e2 : (t.val * 128 + r.val) % 8 = r.val % 8 := by omega
    simp only [e1, e2]
  · rw [dif_neg (by omega)]
    exact o_pad m c t _ r _ hi

/-- The output array after the run. -/
theorem final_o (c : Dev nD) : (dats m 0 c).arrAt 7 (cfgs 0).N = OUT m c := by
  refine (dats m 0 c).arrAt_eq_of_covers 7 _ (by decide +kernel) fun t _ y => ?_
  blk_simp
  rw [after0_7, out7_val]
  obtain ⟨r, q, rfl⟩ : ∃ a b, y = ix2 a b := ⟨_, _, eq_ix2 y⟩
  refine (OB_OUT m c t r q).trans (congrArg (OUT m c) ?_)
  blk_ext [idx t]

/-- The states' array after the run. -/
theorem final_s (c : Dev nD) : (dats m 0 c).arrAt 8 (cfgs 0).N = STm m c := by
  refine (dats m 0 c).arrAt_eq_of_covers 8 _ (by decide +kernel) fun t _ y => ?_
  blk_simp
  rw [after0_8, out8_val]
  obtain ⟨b, h, d, v, rfl⟩ : ∃ a b c d, y = ix4 a b c d := ⟨_, _, _, _, eq_ix4 y⟩
  refine (s_pt m c t b h d v).trans (Eq.trans (b := STm m c (ix4 (sq t b) h d v)) rfl (congrArg (STm m c) ?_))
  blk_ext [idx t]

end Cert.ScanSampleIdeal.Val
-- ==== Proof.ScanSampleRefValue.lean ====
module

public import proofs.«01_k».proof.Proof.ScanSampleSpec
public import proofs.«01_k».proof.Proof.Gen.ScanSampleRefIdeal.Run

@[expose] public section

set_option maxRecDepth 16384

noncomputable section

open Idealize.ShloMosaic Idealize.ShloMosaic.TcCoe Idealize.SL.Sem Idealize.ShloMosaic.StableHlo

namespace Cert.ScanSampleRefIdeal.Val

open Cert.ScanSampleRefIdeal Cert.ScanSampleRefIdeal.Gen Cert.ScanSampleRefIdeal.Value Cert.ScanSampleIdeal.Val

section Spec

variable (T QK : S128x1x8x4x4.Idx → EReal) (W K KT Q : S128x1x8x4x128.Idx → EReal) (CD : S128x1x8.Idx → EReal) (S : S128x8x128x128.Idx → EReal)

/-- The reference's corrected values. -/
def uR : S128x8x4x128.Idx → EReal :=
  subf (F := Ideal) (φ := .f32) (shapeCast _ (Host.dotGeneral (F := Ideal) (φ₁ := .f32) (φ₂ := .f32) dot_S128x1x8x4x4_S128x1x8x4x128_S128x1x8x4x128_4_3_3_4_012_012 none T W) shapeCasts_S128x1x8x4x128_S128x8x4x128)
    (Host.dotGeneral (F := Ideal) (φ₁ := .f32) (φ₂ := .f32) dot_S128x8x4x128_S128x8x128x128_S128x8x4x128_3_2_2_3_01_01 none
      (shapeCast _ (Host.dotGeneral (F := Ideal) (φ₁ := .f32) (φ₂ := .f32) dot_S128x1x8x4x4_S128x1x8x4x128_S128x1x8x4x128_4_3_3_4_012_012 none T K) shapeCasts_S128x1x8x4x128_S128x8x4x128) S)

theorem uR_apply (b : Fin 128) (h : Fin 8) (i : Fin 4) (v : Fin 128) : uR T W K S (ix4 b h i v) = uS T W K S b h i v := by
  pointwise [uR]
  rfl

/-- The reference's outputs, each sequence's four rows followed by four zero rows. -/
theorem oR :
    (shapeCast S1024x1024 (pad S128x8x8x128 ![0, 0, 0, 0] ![0, 4, 0, 0] ![0, 0, 0, 0] (transpose S128x4x8x128 [0, 2, 1, 3]
      (addf (F := Ideal) (φ := .f32) (Host.dotGeneral (F := Ideal) (φ₁ := .f32) (φ₂ := .f32) dot_S128x8x4x128_S128x8x128x128_S128x8x4x128_3_2_2_3_01_01 none (shapeCast _ Q shapeCasts_S128x1x8x4x128_S128x8x4x128) S)
        (Host.dotGeneral (F := Ideal) (φ₁ := .f32) (φ₂ := .f32) dot_S128x8x4x4_S128x8x4x128_S128x8x4x128_3_2_2_3_01_01 none (shapeCast _ QK shapeCasts_S128x1x8x4x4_S128x8x4x4) (uR T W K S)))
      transposes_S128x8x4x128_S128x4x8x128_0_2_1_3) (sitofp (F := Ideal) .f32 (constantI S_ 32 0#32)) pads_S128x4x8x128_S128x8x8x128_000_040_000_000 h_S_)
      shapeCasts_S128x8x8x128_S1024x1024 : S1024x1024.Idx → EReal) = OUTf T QK W K Q S := by
  funext y
  obtain ⟨r, q, rfl⟩ : ∃ a b, y = ix2 a b := ⟨_, _, eq_ix2 y⟩
  have hu := uR_apply T W K S
  generalize uR T W K S = R at hu ⊢
  pointwise
  refine pick _ _ _ (by dsimp only [ix2]; omega) (sitofp_zero (φ := .f32)) fun _ _ => ?_
  refine congrArg₂ (fun p q : EReal => p + q) rfl (Finset.sum_congr rfl fun j _ => congrArg₂ (fun p q : EReal => p * q) rfl (hu _ _ _ _))

/-- The reference's states. -/
theorem sR :
    (addf (F := Ideal) (φ := .f32) (mulf (F := Ideal) (φ := .f32) S (broadcastInDim S128x8x128x128 ![0, 1, 2, 3] bcast_S128x8x1x1_S128x8x128x128_0_1_2_3
        (broadcastInDim S128x8x1x1 ![0, 1] bcast_S128x8_S128x8x1x1_0_1 (shapeCast _ CD shapeCasts_S128x1x8_S128x8))))
      (Host.dotGeneral (F := Ideal) (φ₁ := .f32) (φ₂ := .f32) dot_S128x8x4x128_S128x8x4x128_S128x8x128x128_2_2_3_3_01_01 none (shapeCast _ KT shapeCasts_S128x1x8x4x128_S128x8x4x128) (uR T W K S))
      : S128x8x128x128.Idx → EReal) = STf T W K KT CD S := by
  funext y
  obtain ⟨b, h, d, v, rfl⟩ : ∃ a b c d, y = ix4 a b c d := ⟨_, _, _, _, eq_ix4 y⟩
  have hu := uR_apply T W K S
  generalize uR T W K S = R at hu ⊢
  pointwise
  exact congrArg₂ (fun p q : EReal => p + q) rfl (Finset.sum_congr rfl fun j _ => congrArg₂ (fun p q : EReal => p * q) rfl (hu _ _ _ _))

end Spec

end Cert.ScanSampleRefIdeal.Val
-- ==== Proof.lean ====
/- The claims about the calls of the layer, put together. Each call's frame is its generated one, except `Ffn2`'s:
   there one run made by hand serves the printed kernel and its idealized program, whose texts are the same. Each call's
   value is the theorem `final` (for two results two theorems) of the call's own module, set beside the run of the
   reference. -/
module

public import proofs.«01_k».proof.Defs
public import proofs.«01_k».proof.Proof.Gen.Ffn1.Frame
public import proofs.«01_k».proof.Proof.Ffn1Value
public import proofs.«01_k».proof.Proof.Gen.Ffn1RefIdeal.Run
public import proofs.«01_k».proof.Proof.Gen.GatesPool.Frame
public import proofs.«01_k».proof.Proof.GatesPoolValue
public import proofs.«01_k».proof.Proof.Gen.GatesPoolRefIdeal.Run
public import proofs.«01_k».proof.Proof.Gen.Qkvz.Frame
public import proofs.«01_k».proof.Proof.QkvzValue
public import proofs.«01_k».proof.Proof.Gen.QkvzRefIdeal.Run
public import proofs.«01_k».proof.Proof.Gen.Scan.Frame
public import proofs.«01_k».proof.Proof.Gen.ScanIdeal.Frame
public import proofs.«01_k».proof.Proof.Gen.ScanIdeal.Value
public import proofs.«01_k».proof.Proof.ScanSpec
public import proofs.«01_k».proof.Proof.Gen.ScanRefIdeal.Run
public import proofs.«01_k».proof.Proof.ScanRefValue
public import proofs.«01_k».proof.Proof.Gen.Ffn2.Frame
public import proofs.«01_k».proof.Proof.Ffn2Frame
public import proofs.«01_k».proof.Proof.Gen.Ffn2RefIdeal.Run
public import proofs.«01_k».proof.Proof.Ffn2Value
public import proofs.«01_k».proof.Proof.Gen.ScanSample.Frame
public import proofs.«01_k».proof.Proof.Gen.ScanSampleIdeal.Frame
public import proofs.«01_k».proof.Proof.Gen.ScanSampleIdeal.Value
public import proofs.«01_k».proof.Proof.ScanSampleSpec
public import proofs.«01_k».proof.Proof.Gen.ScanSampleRefIdeal.Run
public import proofs.«01_k».proof.Proof.ScanSampleRefValue
public import Idealize.ShloMosaic.Adequacy
public import Idealize.ShloMosaic.Init
public import Idealize.ShloMosaic.Lib.Quiescent
public import Idealize.ShloMosaic.Lib.Pipeline.ValueKit

@[expose] public section

noncomputable section

namespace Cert.Proof

open Idealize.ShloMosaic Idealize.SL.Sem

/-- The reference of `Ffn1` terminates, leaves its arguments alone and its counters zero. -/
theorem quiescent_Ffn1RefIdeal : quiescent_Ffn1RefIdeal := fun m ρ _ =>
  (θ_run Cert.Ffn1RefIdeal.defs _ _).mono (fun r h => ⟨fun c => (h c).2, sem_eq_zero_of_no_sems (by decide) r.2⟩)
    (Cert.Ffn1RefIdeal.Value.run (F := Ideal) m ρ)

/-- The reference of `Qkvz` terminates, leaves its arguments alone and its counters zero. -/
theorem quiescent_QkvzRefIdeal : quiescent_QkvzRefIdeal := fun m ρ _ =>
  (θ_run Cert.QkvzRefIdeal.defs _ _).mono (fun r h => ⟨fun c => (h c).2, sem_eq_zero_of_no_sems (by decide) r.2⟩)
    (Cert.QkvzRefIdeal.Value.run (F := Ideal) m ρ)

/-- The reference of `GatesPool` terminates, leaves its arguments alone and its counters zero. -/
theorem quiescent_GatesPoolRefIdeal : quiescent_GatesPoolRefIdeal := fun m ρ _ =>
  (θ_run Cert.GatesPoolRefIdeal.defs _ _).mono (fun r h => ⟨fun c => (h c).2, sem_eq_zero_of_no_sems (by decide) r.2⟩)
    (Cert.GatesPoolRefIdeal.Value.run (F := Ideal) m ρ)

/-- `Ffn1`: over the extended reals the call's result array is the reference's, for every input. -/
theorem algebraic_Ffn1Ideal_Ffn1RefIdeal : algebraic_Ffn1Ideal_Ffn1RefIdeal := by
  pair_intro
  · run_from Cert.Ffn1Ideal.Gen.run_main m g
  · run_from Cert.Ffn1RefIdeal.Value.run m' g'; exact (Cert.Ffn1Ideal.Val.final m c).symm

/-- `Qkvz`: over the extended reals the call's result array is the reference's, for every input. -/
theorem algebraic_QkvzIdeal_QkvzRefIdeal : algebraic_QkvzIdeal_QkvzRefIdeal := by
  pair_intro
  · run_from Cert.QkvzIdeal.Gen.run_main m g
  · run_from Cert.QkvzRefIdeal.Value.run m' g'; exact (Cert.QkvzIdeal.Val.final m c).symm

/-- `GatesPool`: over the extended reals the call's result array is the reference's, for every input. -/
theorem algebraic_GatesPoolIdeal_GatesPoolRefIdeal : algebraic_GatesPoolIdeal_GatesPoolRefIdeal := by
  pair_intro
  · run_from Cert.GatesPoolIdeal.Gen.run_main m g
  · run_from Cert.GatesPoolRefIdeal.Value.run m' g'; exact (Cert.GatesPoolIdeal.Val.final m c).symm

/-- The reference of `Scan` terminates, leaves its arguments alone and its counters zero. -/
theorem quiescent_ScanRefIdeal : quiescent_ScanRefIdeal := fun m ρ _ =>
  (θ_run Cert.ScanRefIdeal.defs _ _).mono (fun r h => ⟨fun c => (h c).2.2, sem_eq_zero_of_no_sems (by decide) r.2⟩)
    (Cert.ScanRefIdeal.Value.run (F := Ideal) m ρ)

/-- `Scan`: over the extended reals the call's outputs and final states are the reference's, for every input. -/
theorem algebraic_ScanIdeal_ScanRefIdeal : algebraic_ScanIdeal_ScanRefIdeal := by
  intro m g m' g' _ hagree
  refine ⟨fun c => Cert.ScanIdeal.Val.OUT m c, fun c => Cert.ScanIdeal.Val.FL (Cert.ScanIdeal.Val.STm m c 32), ?_, ?_⟩
  · exact (θ_run Cert.ScanIdeal.defs _ _).mono
      (fun r h c => ⟨(h c).1.trans (Cert.ScanIdeal.Val.final_o m c), (h c).2.1.trans (Cert.ScanIdeal.Val.final_s m c), (h c).2.2⟩)
      (Cert.ScanIdeal.Value.run_blocks m g)
  · refine (θ_run Cert.ScanRefIdeal.defs _ _).mono (fun r h c => ⟨(h c).1.trans ((Cert.ScanRefIdeal.Val.out12 m' c).trans ?_),
      (h c).2.1.trans ((Cert.ScanRefIdeal.Val.out13 m' c).trans ?_), (h c).2.2⟩) (Cert.ScanRefIdeal.Value.run m' g')
    · obtain ⟨e0, e1, e2, e3, e4, e5, e6⟩ := hagree c
      rw [e0, e1, e2, e3, e4, e5, e6]
      rfl
    · obtain ⟨e0, e1, e2, -, e4, -, e6⟩ := hagree c
      rw [e0, e1, e2, e4, e6]

section Ffn2Same

variable {F : FTy → Type} [FloatOps F]

set_option maxRecDepth 16384

/-- The printed `Ffn2` and its idealized program have the same kernel bodies. -/
theorem ffn2_defs₀ : Cert.Ffn2.defs₀ (F := F) = Cert.Ffn2Ideal.defs₀ :=
  congrArg Defs.onTc (funext fun l => by
    obtain rfl : l = (0 : Fin 1) := Subsingleton.elim (α := Fin 1) _ _
    funext x
    rfl)

/-- They have the same body tables with the pipelines. -/
theorem ffn2_defs : Cert.Ffn2.defs (F := F) = Cert.Ffn2Ideal.defs :=
  congrArg (Pipeline.defs (Cert.Ffn2.pcfgs (F := F))) ffn2_defs₀

/-- They have the same entry functions. -/
theorem ffn2_main : Cert.Ffn2.main (F := F) = Cert.Ffn2Ideal.main := rfl

/-- The printed `Ffn2` terminates, leaves its arguments alone and its counters zero: it is the program whose frame
    is proved over any float values, here taken at the machine's. -/
theorem quiescent_Ffn2 : quiescent_Ffn2 := fun m ρ _ => by
  have h := Cert.Ffn2Ideal.Value.frame (F := Bits) m ρ
  rw [← ffn2_defs, ← ffn2_main] at h
  exact h

end Ffn2Same

/-- The reference of `Ffn2` terminates, leaves its arguments alone and its counters zero. -/
theorem quiescent_Ffn2RefIdeal : quiescent_Ffn2RefIdeal := fun m ρ _ =>
  (θ_run Cert.Ffn2RefIdeal.defs _ _).mono (fun r h => ⟨fun c => (h c).2.2, sem_eq_zero_of_no_sems (by decide) r.2⟩)
    (Cert.Ffn2RefIdeal.Value.run (F := Ideal) m ρ)

/-- `Ffn2`: over the extended reals the call's two results are the reference's, for every input. -/
theorem algebraic_Ffn2Ideal_Ffn2RefIdeal : algebraic_Ffn2Ideal_Ffn2RefIdeal := by
  pair_intro
  · run_from Cert.Ffn2Ideal.Value.run_main m g
  · run_from Cert.Ffn2RefIdeal.Value.run m' g'
    · exact (Cert.Ffn2Ideal.Value.finalP m c).symm
    · exact (Cert.Ffn2Ideal.Value.finalS m c).symm

/-- The reference of `ScanSample` terminates, leaves its arguments alone and its counters zero. -/
theorem quiescent_ScanSampleRefIdeal : quiescent_ScanSampleRefIdeal := fun m ρ _ =>
  (θ_run Cert.ScanSampleRefIdeal.defs _ _).mono (fun r h => ⟨fun c => (h c).2.2, sem_eq_zero_of_no_sems (by decide) r.2⟩)
    (Cert.ScanSampleRefIdeal.Value.run (F := Ideal) m ρ)

/-- `ScanSample`: over the extended reals the call's outputs and states are the reference's, for every input. -/
theorem algebraic_ScanSampleIdeal_ScanSampleRefIdeal : algebraic_ScanSampleIdeal_ScanSampleRefIdeal := by
  intro m g m' g' _ hagree
  refine ⟨fun c => Cert.ScanSampleIdeal.Val.OUT m c, fun c => Cert.ScanSampleIdeal.Val.STm m c, ?_, ?_⟩
  · exact (θ_run Cert.ScanSampleIdeal.defs _ _).mono
      (fun r h c => ⟨(h c).1.trans (Cert.ScanSampleIdeal.Val.final_o m c), (h c).2.1.trans (Cert.ScanSampleIdeal.Val.final_s m c), (h c).2.2⟩)
      (Cert.ScanSampleIdeal.Value.run_blocks m g)
  · refine (θ_run Cert.ScanSampleRefIdeal.defs _ _).mono (fun r h c => ⟨(h c).1.trans ((Cert.ScanSampleRefIdeal.Val.oR _ _ _ _ _ _).trans ?_),
      (h c).2.1.trans ((Cert.ScanSampleRefIdeal.Val.sR _ _ _ _ _ _).trans ?_), (h c).2.2⟩) (Cert.ScanSampleRefIdeal.Value.run m' g')
    · obtain ⟨e0, e1, e2, e3, e4, e5, e6, e7⟩ := hagree c
      rw [e0, e1, e2, e3, e5, e7]
    · obtain ⟨e0, e1, e2, e3, e4, e5, e6, e7⟩ := hagree c
      rw [e0, e1, e2, e4, e6, e7]

/-- Every claim of the file. -/
theorem claim : Cert.Claim := ⟨Cert.Ffn1.Gen.facts, Cert.Ffn1Ideal.Gen.facts, Cert.Ffn1RefIdeal.Gen.facts, Cert.Qkvz.Gen.facts, Cert.QkvzIdeal.Gen.facts, Cert.QkvzRefIdeal.Gen.facts, Cert.GatesPool.Gen.facts, Cert.GatesPoolIdeal.Gen.facts, Cert.GatesPoolRefIdeal.Gen.facts, Cert.Scan.Gen.facts, Cert.ScanIdeal.Gen.facts, Cert.ScanRefIdeal.Gen.facts, Cert.Ffn2.Gen.facts, Cert.Ffn2Ideal.Gen.facts, Cert.Ffn2RefIdeal.Gen.facts, Cert.ScanSample.Gen.facts, Cert.ScanSampleIdeal.Gen.facts, Cert.ScanSampleRefIdeal.Gen.facts,
  fun m ρ _ => Cert.Ffn1.Gen.frame m ρ, fun m ρ _ => Cert.Ffn1Ideal.Gen.frame m ρ, quiescent_Ffn1RefIdeal, fun m ρ _ => Cert.Qkvz.Gen.frame m ρ, fun m ρ _ => Cert.QkvzIdeal.Gen.frame m ρ, quiescent_QkvzRefIdeal, fun m ρ _ => Cert.GatesPool.Gen.frame m ρ, fun m ρ _ => Cert.GatesPoolIdeal.Gen.frame m ρ, quiescent_GatesPoolRefIdeal, fun m ρ _ => Cert.Scan.Gen.frame m ρ, fun m ρ _ => Cert.ScanIdeal.Gen.frame m ρ, quiescent_ScanRefIdeal, quiescent_Ffn2, fun m ρ _ => Cert.Ffn2Ideal.Value.frame m ρ, quiescent_Ffn2RefIdeal, fun m ρ _ => Cert.ScanSample.Gen.frame m ρ, fun m ρ _ => Cert.ScanSampleIdeal.Gen.frame m ρ, quiescent_ScanSampleRefIdeal, (trivial : preserves_Ffn1_Ffn1Ideal), algebraic_Ffn1Ideal_Ffn1RefIdeal, (trivial : preserves_Qkvz_QkvzIdeal), algebraic_QkvzIdeal_QkvzRefIdeal, (trivial : preserves_GatesPool_GatesPoolIdeal), algebraic_GatesPoolIdeal_GatesPoolRefIdeal, (trivial : preserves_Scan_ScanIdeal), algebraic_ScanIdeal_ScanRefIdeal, (trivial : preserves_Ffn2_Ffn2Ideal), algebraic_Ffn2Ideal_Ffn2RefIdeal, (trivial : preserves_ScanSample_ScanSampleIdeal), algebraic_ScanSampleIdeal_ScanSampleRefIdeal⟩

end Cert.Proof

end
